-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_on_finite_affine [hKernelIdeal : Cert.KernelIdeal.Facts] [hReferenceIdeal : Cert.ReferenceIdeal.Facts] [hOn_finite_affine : Cert.On_finite_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)) (v5 : (c : Dev Cert.KernelIdeal.nD) → Buf (Elt Ideal) ((c.tc : Thread Cert.KernelIdeal.nD Cert.KernelIdeal.τ).loc Cert.KernelIdeal.main_v20_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![12288, 7168]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v20_0) i = v0 c i)
          ∧ (∀ i : (⟨2, ![4, 3072]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v20_1) i = v1 c i)
          ∧ (∀ i : (⟨2, ![12288, 896]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v20_2) i = v2 c i)
          ∧ (∀ i : (⟨2, ![4, 3072]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v20_3) i = v3 c i)
          ∧ (∀ i : (⟨2, ![4, 3072]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 i = 1#1 → r.2.mem ((c.tc : Thread Cert.KernelIdeal.nD Cert.KernelIdeal.τ).loc Cert.KernelIdeal.main_v20_4) i = v4 c i)
          ∧ (∀ i : (⟨2, ![12288, 7168]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 i = 1#1 → r.2.mem ((c.tc : Thread Cert.KernelIdeal.nD Cert.KernelIdeal.τ).loc Cert.KernelIdeal.main_v20_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![12288, 7168]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v71) i = v0 c i)
          ∧ (∀ i : (⟨2, ![4, 3072]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v52) i = v1 c i)
          ∧ (∀ i : (⟨2, ![12288, 896]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v69) i = v2 c i)
          ∧ (∀ i : (⟨2, ![4, 3072]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v15) i = v3 c i)
          ∧ (∀ i : (⟨2, ![4, 3072]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 i = 1#1 → r.2.mem ((c.tc : Thread Cert.ReferenceIdeal.nD Cert.ReferenceIdeal.τ).loc Cert.ReferenceIdeal.main_v25) i = v4 c i)
          ∧ (∀ i : (⟨2, ![12288, 7168]⟩ : Shape).Idx, (Cert.On_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 i = 1#1 → r.2.mem ((c.tc : Thread Cert.ReferenceIdeal.nD Cert.ReferenceIdeal.τ).loc Cert.ReferenceIdeal.main_v70) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hOn_finite_affine : Cert.On_finite_affine.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_finite_affine (hKernelIdeal := hKernelIdeal) (hReferenceIdeal := hReferenceIdeal) (hOn_finite_affine := hOn_finite_affine)
-- ==== On_finite_affine.lean ====
abbrev S4x3072x7168 : Shape := ⟨3, ![4, 3072, 7168]⟩
abbrev S7168 : Shape := ⟨1, ![7168]⟩
abbrev S_ : Shape := ⟨0, ![]⟩
abbrev S12288x7168 : Shape := ⟨2, ![12288, 7168]⟩
abbrev S4x3072 : Shape := ⟨2, ![4, 3072]⟩
abbrev S12288x896 : Shape := ⟨2, ![12288, 896]⟩

class Facts : Prop where
  bcast_S_S7168 : S_.BroadcastsInDim S7168 (![] : Fin 0 → Fin S7168.rank)
  reducesTo_S7168_S_d0 : S7168.ReducesTo [0] S_
  h_S_ : 0 < S_.numel
  bcast_S_S12288x7168 : S_.BroadcastsInDim S12288x7168 (![] : Fin 0 → Fin S12288x7168.rank)
  bcast_S_S4x3072 : S_.BroadcastsInDim S4x3072 (![] : Fin 0 → Fin S4x3072.rank)
  bcast_S_S12288x896 : S_.BroadcastsInDim S12288x896 (![] : Fin 0 → Fin S12288x896.rank)

variable [Facts]

def fn {F : FTy → Type} [FloatOps F] (main_arg0 : FVec F S4x3072x7168 .bf16) (main_arg1 : FVec F S4x3072x7168 .bf16) (main_arg2 : FVec F S7168 .f32) (main_arg3 : IVec S4x3072x7168 32) (main_arg4 : FVec F S7168 .f32) (main_arg5 : FVec F S7168 .f32) : IVec S12288x7168 1 × IVec S4x3072 1 × IVec S12288x896 1 × IVec S4x3072 1 × IVec S4x3072 1 × IVec S12288x7168 1 :=
  let main_v0 : FVec F S7168 .f32 := Host.absf main_arg4
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  let main_c : IVec S_ 1 := constantI S_ 1 1#1
  let main_v3 : IVec S_ 1 := (fun x v => Host.reduce IntOp.andi x v reducesTo_S7168_S_d0 h_S_) main_v2 main_c
  let main_v4 : FVec F S7168 .f32 := Host.absf main_arg5
  let main_cst_0 : FVec F S_ .f32 := constant S_ .f32 0x7F7FFFFF#32
  let main_v5 : FVec F S7168 .f32 := broadcastInDim S7168 ![] bcast_S_S7168 main_cst_0
  let main_v6 : IVec S7168 1 := cmpf .ole main_v4 main_v5
  let main_c_1 : IVec S_ 1 := constantI S_ 1 1#1
  let main_v7 : IVec S_ 1 := (fun x v => Host.reduce IntOp.andi x v reducesTo_S7168_S_d0 h_S_) main_v6 main_c_1
  let main_v8 : IVec S_ 1 := andi main_v3 main_v7
  let main_v9 : IVec S12288x7168 1 := broadcastInDim S12288x7168 ![] bcast_S_S12288x7168 main_v8
  let main_v10 : IVec S4x3072 1 := broadcastInDim S4x3072 ![] bcast_S_S4x3072 main_v8
  let main_c_2 : IVec S_ 1 := constantI S_ 1 1#1
  let main_v11 : IVec S12288x896 1 := broadcastInDim S12288x896 ![] bcast_S_S12288x896 main_c_2
  let main_c_3 : IVec S_ 1 := constantI S_ 1 1#1
  let main_v12 : IVec S4x3072 1 := broadcastInDim S4x3072 ![] bcast_S_S4x3072 main_c_3
  let main_c_4 : IVec S_ 1 := constantI S_ 1 1#1
  let main_v13 : IVec S4x3072 1 := broadcastInDim S4x3072 ![] bcast_S_S4x3072 main_c_4
  let main_c_5 : IVec S_ 1 := constantI S_ 1 1#1
  let main_v14 : IVec S12288x7168 1 := broadcastInDim S12288x7168 ![] bcast_S_S12288x7168 main_c_5
  (main_v9, main_v10, main_v11, main_v12, main_v13, main_v14)
-- ==== Kernel.lean ====
abbrev S4x3072x7168 : Shape := ⟨3, ![4, 3072, 7168]⟩
abbrev S7168 : Shape := ⟨1, ![7168]⟩
abbrev S1024 : Shape := ⟨1, ![1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S12288x7168 : Shape := ⟨2, ![12288, 7168]⟩
abbrev S1x7168 : Shape := ⟨2, ![1, 7168]⟩
abbrev S4x3072 : Shape := ⟨2, ![4, 3072]⟩
abbrev S12288x896 : Shape := ⟨2, ![12288, 896]⟩
abbrev S128x7168 : Shape := ⟨2, ![128, 7168]⟩
abbrev S128x896 : Shape := ⟨2, ![128, 896]⟩
abbrev S128x1024 : Shape := ⟨2, ![128, 1024]⟩
abbrev S128x128 : Shape := ⟨2, ![128, 128]⟩
abbrev S16x256 : Shape := ⟨2, ![16, 256]⟩
abbrev S1x256 : Shape := ⟨2, ![1, 256]⟩
abbrev S16x128 : Shape := ⟨2, ![16, 128]⟩
abbrev S16 : Shape := ⟨1, ![16]⟩
abbrev S16x1 : Shape := ⟨2, ![16, 1]⟩
abbrev S32x128 : Shape := ⟨2, ![32, 128]⟩
abbrev S32x256 : Shape := ⟨2, ![32, 256]⟩
abbrev S4x128 : Shape := ⟨2, ![4, 128]⟩

abbrev nBuf : Space → Nat
  | .hbm => 75
  | .vmem => 25
  | .smem => 0
  | _ => 0

abbrev bufTy : (tb : Table) → Fin (tcTables nBuf tb) → BufTy
  | .hbm, ⟨0, _⟩ => ⟨S4x3072x7168, .bf16⟩
  | .hbm, ⟨1, _⟩ => ⟨S4x3072x7168, .bf16⟩
  | .hbm, ⟨2, _⟩ => ⟨S7168, .f32⟩
  | .hbm, ⟨3, _⟩ => ⟨S4x3072x7168, .i32⟩
  | .hbm, ⟨4, _⟩ => ⟨S7168, .f32⟩
  | .hbm, ⟨5, _⟩ => ⟨S7168, .f32⟩
  | .hbm, ⟨6, _⟩ => ⟨S1024, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S128, .i32⟩
  | .hbm, ⟨27, _⟩ => ⟨S1x128, .i32⟩
  | .hbm, ⟨28, _⟩ => ⟨S1024x128, .i32⟩
  | .hbm, ⟨29, _⟩ => ⟨S1024x128, .i32⟩
  | .hbm, ⟨30, _⟩ => ⟨S1024x128, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .i32⟩
  | .hbm, ⟨46, _⟩ => ⟨S_, .i1⟩
  | .hbm, ⟨47, _⟩ => ⟨S1024, .i1⟩
  | .hbm, ⟨48, _⟩ => ⟨S1024, .i1⟩
  | .hbm, ⟨49, _⟩ => ⟨S1024, .i1⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024x1, .i32⟩
  | .hbm, ⟨57, _⟩ => ⟨S_, .i32⟩
  | .hbm, ⟨58, _⟩ => ⟨S_, .i32⟩
  | .hbm, ⟨59, _⟩ => ⟨S1024x128, .i32⟩
  | .hbm, ⟨60, _⟩ => ⟨S1024x128, .i32⟩
  | .hbm, ⟨61, _⟩ => ⟨S1024x128, .i32⟩
  | .hbm, ⟨62, _⟩ => ⟨S1024x128, .bf16⟩
  | .hbm, ⟨63, _⟩ => ⟨S12288x7168, .bf16⟩
  | .hbm, ⟨64, _⟩ => ⟨S12288x7168, .bf16⟩
  | .hbm, ⟨65, _⟩ => ⟨S1x7168, .f32⟩
  | .hbm, ⟨66, _⟩ => ⟨S12288x7168, .i32⟩
  | .hbm, ⟨67, _⟩ => ⟨S1x7168, .f32⟩
  | .hbm, ⟨68, _⟩ => ⟨S1x7168, .f32⟩
  | .hbm, ⟨69, _⟩ => ⟨S12288x7168, .fp8e4m3⟩
  | .hbm, ⟨70, _⟩ => ⟨S4x3072, .f32⟩
  | .hbm, ⟨71, _⟩ => ⟨S12288x896, .i8⟩
  | .hbm, ⟨72, _⟩ => ⟨S4x3072, .f32⟩
  | .hbm, ⟨73, _⟩ => ⟨S4x3072, .f32⟩
  | .hbm, ⟨74, _⟩ => ⟨S12288x7168, .bf16⟩
  | .local _ .vmem, ⟨0, _⟩ => ⟨S128x7168, .bf16⟩
  | .local _ .vmem, ⟨1, _⟩ => ⟨S128x7168, .bf16⟩
  | .local _ .vmem, ⟨2, _⟩ => ⟨S128x7168, .bf16⟩
  | .local _ .vmem, ⟨3, _⟩ => ⟨S128x7168, .bf16⟩
  | .local _ .vmem, ⟨4, _⟩ => ⟨S1x7168, .f32⟩
  | .local _ .vmem, ⟨5, _⟩ => ⟨S128x7168, .i32⟩
  | .local _ .vmem, ⟨6, _⟩ => ⟨S128x7168, .i32⟩
  | .local _ .vmem, ⟨7, _⟩ => ⟨S1x7168, .f32⟩
  | .local _ .vmem, ⟨8, _⟩ => ⟨S1x7168, .f32⟩
  | .local _ .vmem, ⟨9, _⟩ => ⟨S1024x128, .bf16⟩
  | .local _ .vmem, ⟨10, _⟩ => ⟨S128x7168, .fp8e4m3⟩
  | .local _ .vmem, ⟨11, _⟩ => ⟨S128x7168, .fp8e4m3⟩
  | .local _ .vmem, ⟨12, _⟩ => ⟨S4x3072, .f32⟩
  | .local _ .vmem, ⟨13, _⟩ => ⟨S128x896, .i8⟩
  | .local _ .vmem, ⟨14, _⟩ => ⟨S128x896, .i8⟩
  | .local _ .vmem, ⟨15, _⟩ => ⟨S4x3072, .f32⟩
  | .local _ .vmem, ⟨16, _⟩ => ⟨S4x3072, .f32⟩
  | .local _ .vmem, ⟨17, _⟩ => ⟨S128x7168, .bf16⟩
  | .local _ .vmem, ⟨18, _⟩ => ⟨S128x7168, .bf16⟩
  | .local _ .vmem, ⟨19, _⟩ => ⟨S128x1024, .bf16⟩
  | .local _ .vmem, ⟨20, _⟩ => ⟨S128x7168, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | _, _ => ⟨S4x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v8 : Ref sig .tc := ⟨.hbm, 52, rfl⟩
abbrev main_c_1 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_c_2 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20_0 : Ref sig .tc := ⟨.hbm, 69, rfl⟩
abbrev main_v20_1 : Ref sig .tc := ⟨.hbm, 70, rfl⟩
abbrev main_v20_2 : Ref sig .tc := ⟨.hbm, 71, rfl⟩
abbrev main_v20_3 : Ref sig .tc := ⟨.hbm, 72, rfl⟩
abbrev main_v20_4 : Ref sig .tc := ⟨.hbm, 73, rfl⟩
abbrev main_v20_5 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![96], ![false]⟩

@[reducible] def k0_t1_loop : Scf.Loop 32 :=
  let c0_i32 : BitVec 32 := 0#32
  let c7_i32 : BitVec 32 := 7#32
  let v2 : BitVec 32 := Scalar.addi c0_i32 c7_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c1024_i32 : BitVec 32 := 1024#32
  let v194 : BitVec 32 := Scalar.muli arg20 c1024_i32
  v194
def k0_off1 (k0_t1 : Fin k0_t1_loop.trips) (c0_i32_80 : BitVec 32) : Fin 2 → Nat :=
  let c0_81 : Index := 0#32
  let c0_i32 : BitVec 32 := 0#32
  let c1_i32 : BitVec 32 := 1#32
  let arg20 : BitVec 32 := Scf.iv c0_i32 c1_i32 k0_t1
  let c1024_i32 : BitVec 32 := 1024#32
  let v194 : BitVec 32 := Scalar.muli arg20 c1024_i32
  let v195 : BitVec 32 := v194
  let v196 : BitVec 32 := Scalar.addi v195 c0_i32_80
  let v197 : Index := Scalar.indexCast v196
  ![0, v197.toNat]
def k0_off2 (k0_t1 : Fin k0_t1_loop.trips) (c0_i32_80 : BitVec 32) : Fin 2 → Nat :=
  let c0_83 : Index := 0#32
  let c0_i32 : BitVec 32 := 0#32
  let c1_i32 : BitVec 32 := 1#32
  let arg20 : BitVec 32 := Scf.iv c0_i32 c1_i32 k0_t1
  let c1024_i32 : BitVec 32 := 1024#32
  let v194 : BitVec 32 := Scalar.muli arg20 c1024_i32
  let v195 : BitVec 32 := v194
  let v196 : BitVec 32 := Scalar.addi v195 c0_i32_80
  let v206 : Index := Scalar.indexCast v196
  ![0, v206.toNat]
def k0_off3 (k0_t1 : Fin k0_t1_loop.trips) (c0_i32_125 : BitVec 32) : Fin 2 → Nat :=
  let c16 : Index := 16#32
  let c0_i32 : BitVec 32 := 0#32
  let c1_i32 : BitVec 32 := 1#32
  let arg20 : BitVec 32 := Scf.iv c0_i32 c1_i32 k0_t1
  let c1024_i32 : BitVec 32 := 1024#32
  let v194 : BitVec 32 := Scalar.muli arg20 c1024_i32
  let v195 : BitVec 32 := v194
  let v332 : BitVec 32 := Scalar.addi v195 c0_i32_125
  let v333 : Index := Scalar.indexCast v332
  ![16, v333.toNat]
def k0_off4 (k0_t1 : Fin k0_t1_loop.trips) (c0_i32_176 : BitVec 32) : Fin 2 → Nat :=
  let c32 : Index := 32#32
  let c0_i32 : BitVec 32 := 0#32
  let c1_i32 : BitVec 32 := 1#32
  let arg20 : BitVec 32 := Scf.iv c0_i32 c1_i32 k0_t1
  let c1024_i32 : BitVec 32 := 1024#32
  let v194 : BitVec 32 := Scalar.muli arg20 c1024_i32
  let v195 : BitVec 32 := v194
  let v468 : BitVec 32 := Scalar.addi v195 c0_i32_176
  let v469 : Index := Scalar.indexCast v468
  ![32, v469.toNat]
def k0_off5 (k0_t1 : Fin k0_t1_loop.trips) (c0_i32_227 : BitVec 32) : Fin 2 → Nat :=
  let c48 : Index := 48#32
  let c0_i32 : BitVec 32 := 0#32
  let c1_i32 : BitVec 32 := 1#32
  let arg20 : BitVec 32 := Scf.iv c0_i32 c1_i32 k0_t1
  let c1024_i32 : BitVec 32 := 1024#32
  let v194 : BitVec 32 := Scalar.muli arg20 c1024_i32
  let v195 : BitVec 32 := v194
  let v604 : BitVec 32 := Scalar.addi v195 c0_i32_227
  let v605 : Index := Scalar.indexCast v604
  ![48, v605.toNat]
def k0_off6 (k0_t1 : Fin k0_t1_loop.trips) (c0_i32_278 : BitVec 32) : Fin 2 → Nat :=
  let c64 : Index := 64#32
  let c0_i32 : BitVec 32 := 0#32
  let c1_i32 : BitVec 32 := 1#32
  let arg20 : BitVec 32 := Scf.iv c0_i32 c1_i32 k0_t1
  let c1024_i32 : BitVec 32 := 1024#32
  let v194 : BitVec 32 := Scalar.muli arg20 c1024_i32
  let v195 : BitVec 32 := v194
  let v740 : BitVec 32 := Scalar.addi v195 c0_i32_278
  let v741 : Index := Scalar.indexCast v740
  ![64, v741.toNat]
def k0_off7 (k0_t1 : Fin k0_t1_loop.trips) (c0_i32_329 : BitVec 32) : Fin 2 → Nat :=
  let c80 : Index := 80#32
  let c0_i32 : BitVec 32 := 0#32
  let c1_i32 : BitVec 32 := 1#32
  let arg20 : BitVec 32 := Scf.iv c0_i32 c1_i32 k0_t1
  let c1024_i32 : BitVec 32 := 1024#32
  let v194 : BitVec 32 := Scalar.muli arg20 c1024_i32
  let v195 : BitVec 32 := v194
  let v876 : BitVec 32 := Scalar.addi v195 c0_i32_329
  let v877 : Index := Scalar.indexCast v876
  ![80, v877.toNat]
def k0_off8 (k0_t1 : Fin k0_t1_loop.trips) (c0_i32_380 : BitVec 32) : Fin 2 → Nat :=
  let c96 : Index := 96#32
  let c0_i32 : BitVec 32 := 0#32
  let c1_i32 : BitVec 32 := 1#32
  let arg20 : BitVec 32 := Scf.iv c0_i32 c1_i32 k0_t1
  let c1024_i32 : BitVec 32 := 1024#32
  let v194 : BitVec 32 := Scalar.muli arg20 c1024_i32
  let v195 : BitVec 32 := v194
  let v1012 : BitVec 32 := Scalar.addi v195 c0_i32_380
  let v1013 : Index := Scalar.indexCast v1012
  ![96, v1013.toNat]
def k0_off9 (k0_t1 : Fin k0_t1_loop.trips) (c0_i32_431 : BitVec 32) : Fin 2 → Nat :=
  let c112 : Index := 112#32
  let c0_i32 : BitVec 32 := 0#32
  let c1_i32 : BitVec 32 := 1#32
  let arg20 : BitVec 32 := Scf.iv c0_i32 c1_i32 k0_t1
  let c1024_i32 : BitVec 32 := 1024#32
  let v194 : BitVec 32 := Scalar.muli arg20 c1024_i32
  let v195 : BitVec 32 := v194
  let v1148 : BitVec 32 := Scalar.addi v195 c0_i32_431
  let v1149 : Index := Scalar.indexCast v1148
  ![112, v1149.toNat]
def k0_mult2 (k0_t1 : Fin k0_t1_loop.trips) : BitVec 32 :=
  let c0_i32 : BitVec 32 := 0#32
  let c1_i32 : BitVec 32 := 1#32
  let arg20 : BitVec 32 := Scf.iv c0_i32 c1_i32 k0_t1
  let c128_i32_487 : BitVec 32 := 128#32
  let v1290 : BitVec 32 := Scalar.muli arg20 c128_i32_487
  v1290
def k0_off10 (k0_t1 : Fin k0_t1_loop.trips) : Fin 2 → Nat :=
  let c0_488 : Index := 0#32
  let c0_i32 : BitVec 32 := 0#32
  let c1_i32 : BitVec 32 := 1#32
  let arg20 : BitVec 32 := Scf.iv c0_i32 c1_i32 k0_t1
  let c128_i32_487 : BitVec 32 := 128#32
  let v1290 : BitVec 32 := Scalar.muli arg20 c128_i32_487
  let v1291 : BitVec 32 := v1290
  let v1292 : Index := Scalar.indexCast v1291
  ![0, v1292.toNat]
def k0_off11 (k0_t1 : Fin k0_t1_loop.trips) : Fin 2 → Nat :=
  let c0_489 : Index := 0#32
  let c0_i32 : BitVec 32 := 0#32
  let c1_i32 : BitVec 32 := 1#32
  let arg20 : BitVec 32 := Scf.iv c0_i32 c1_i32 k0_t1
  let c1024_i32 : BitVec 32 := 1024#32
  let v194 : BitVec 32 := Scalar.muli arg20 c1024_i32
  let v195 : BitVec 32 := v194
  let v1294 : Index := Scalar.indexCast v195
  ![0, v1294.toNat]
@[reducible] def k0_t2_loop : Scf.Loop 32 :=
  let c0_i32_4 : BitVec 32 := 0#32
  let c8_i32 : BitVec 32 := 8#32
  let v9 : BitVec 32 := Scalar.addi c0_i32_4 c8_i32
  let c1_i32_5 : BitVec 32 := 1#32
  ⟨c0_i32_4, v9, c1_i32_5⟩
def k0_mult3 (k0_t2 : Fin k0_t2_loop.trips) : BitVec 32 :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  v194
def k0_off12 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v196 : Index := Scalar.indexCast v195
  let c0_81 : Index := 0#32
  ![v196.toNat, 0]
def k0_off13 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v201 : Index := Scalar.indexCast v195
  let c0_84 : Index := 0#32
  ![v201.toNat, 0]
def k0_off14 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v212 : Index := Scalar.indexCast v195
  let c256 : Index := 256#32
  ![v212.toNat, 256]
def k0_off15 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v223 : Index := Scalar.indexCast v195
  let c512 : Index := 512#32
  ![v223.toNat, 512]
def k0_off16 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v234 : Index := Scalar.indexCast v195
  let c768 : Index := 768#32
  ![v234.toNat, 768]
def k0_off17 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v245 : Index := Scalar.indexCast v195
  let c1024 : Index := 1024#32
  ![v245.toNat, 1024]
def k0_off18 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v256 : Index := Scalar.indexCast v195
  let c1280 : Index := 1280#32
  ![v256.toNat, 1280]
def k0_off19 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v267 : Index := Scalar.indexCast v195
  let c1536 : Index := 1536#32
  ![v267.toNat, 1536]
def k0_off20 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v278 : Index := Scalar.indexCast v195
  let c1792 : Index := 1792#32
  ![v278.toNat, 1792]
def k0_off21 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v289 : Index := Scalar.indexCast v195
  let c2048 : Index := 2048#32
  ![v289.toNat, 2048]
def k0_off22 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v300 : Index := Scalar.indexCast v195
  let c2304 : Index := 2304#32
  ![v300.toNat, 2304]
def k0_off23 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v311 : Index := Scalar.indexCast v195
  let c2560 : Index := 2560#32
  ![v311.toNat, 2560]
def k0_off24 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v322 : Index := Scalar.indexCast v195
  let c2816 : Index := 2816#32
  ![v322.toNat, 2816]
def k0_off25 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v333 : Index := Scalar.indexCast v195
  let c3072 : Index := 3072#32
  ![v333.toNat, 3072]
def k0_off26 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v344 : Index := Scalar.indexCast v195
  let c3328 : Index := 3328#32
  ![v344.toNat, 3328]
def k0_off27 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v355 : Index := Scalar.indexCast v195
  let c3584 : Index := 3584#32
  ![v355.toNat, 3584]
def k0_off28 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v366 : Index := Scalar.indexCast v195
  let c3840 : Index := 3840#32
  ![v366.toNat, 3840]
def k0_off29 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v377 : Index := Scalar.indexCast v195
  let c4096 : Index := 4096#32
  ![v377.toNat, 4096]
def k0_off30 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v388 : Index := Scalar.indexCast v195
  let c4352 : Index := 4352#32
  ![v388.toNat, 4352]
def k0_off31 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v399 : Index := Scalar.indexCast v195
  let c4608 : Index := 4608#32
  ![v399.toNat, 4608]
def k0_off32 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v410 : Index := Scalar.indexCast v195
  let c4864 : Index := 4864#32
  ![v410.toNat, 4864]
def k0_off33 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v421 : Index := Scalar.indexCast v195
  let c5120 : Index := 5120#32
  ![v421.toNat, 5120]
def k0_off34 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v432 : Index := Scalar.indexCast v195
  let c5376 : Index := 5376#32
  ![v432.toNat, 5376]
def k0_off35 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v443 : Index := Scalar.indexCast v195
  let c5632 : Index := 5632#32
  ![v443.toNat, 5632]
def k0_off36 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v454 : Index := Scalar.indexCast v195
  let c5888 : Index := 5888#32
  ![v454.toNat, 5888]
def k0_off37 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v465 : Index := Scalar.indexCast v195
  let c6144 : Index := 6144#32
  ![v465.toNat, 6144]
def k0_off38 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v476 : Index := Scalar.indexCast v195
  let c6400 : Index := 6400#32
  ![v476.toNat, 6400]
def k0_off39 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v487 : Index := Scalar.indexCast v195
  let c6656 : Index := 6656#32
  ![v487.toNat, 6656]
def k0_off40 (k0_t2 : Fin k0_t2_loop.trips) : Fin 2 → Nat :=
  let c0_i32_4 : BitVec 32 := 0#32
  let c1_i32_5 : BitVec 32 := 1#32
  let arg20 : BitVec 32 := Scf.iv c0_i32_4 c1_i32_5 k0_t2
  let c16_i32_80 : BitVec 32 := 16#32
  let v194 : BitVec 32 := Scalar.muli arg20 c16_i32_80
  let v195 : BitVec 32 := v194
  let v498 : Index := Scalar.indexCast v195
  let c6912 : Index := 6912#32
  ![v498.toNat, 6912]
@[reducible] def k0_t3_loop : Scf.Loop 32 :=
  let c0_i32_7 : BitVec 32 := 0#32
  let c8_i32_8 : BitVec 32 := 8#32
  let v10 : BitVec 32 := Scalar.addi c0_i32_7 c8_i32_8
  let c1_i32_9 : BitVec 32 := 1#32
  ⟨c0_i32_7, v10, c1_i32_9⟩
def k0_mult4 (k0_t3 : Fin k0_t3_loop.trips) : BitVec 32 :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  v194
def k0_off41 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v196 : Index := Scalar.indexCast v195
  let c0_81 : Index := 0#32
  ![v196.toNat, 0]
def k0_off42 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v201 : Index := Scalar.indexCast v195
  let c0_84 : Index := 0#32
  ![v201.toNat, 0]
def k0_off43 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v218 : Index := Scalar.indexCast v195
  let c256 : Index := 256#32
  ![v218.toNat, 256]
def k0_off44 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v235 : Index := Scalar.indexCast v195
  let c512 : Index := 512#32
  ![v235.toNat, 512]
def k0_off45 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v252 : Index := Scalar.indexCast v195
  let c768 : Index := 768#32
  ![v252.toNat, 768]
def k0_off46 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v269 : Index := Scalar.indexCast v195
  let c1024 : Index := 1024#32
  ![v269.toNat, 1024]
def k0_off47 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v286 : Index := Scalar.indexCast v195
  let c1280 : Index := 1280#32
  ![v286.toNat, 1280]
def k0_off48 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v303 : Index := Scalar.indexCast v195
  let c1536 : Index := 1536#32
  ![v303.toNat, 1536]
def k0_off49 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v320 : Index := Scalar.indexCast v195
  let c1792 : Index := 1792#32
  ![v320.toNat, 1792]
def k0_off50 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v337 : Index := Scalar.indexCast v195
  let c2048 : Index := 2048#32
  ![v337.toNat, 2048]
def k0_off51 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v354 : Index := Scalar.indexCast v195
  let c2304 : Index := 2304#32
  ![v354.toNat, 2304]
def k0_off52 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v371 : Index := Scalar.indexCast v195
  let c2560 : Index := 2560#32
  ![v371.toNat, 2560]
def k0_off53 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v388 : Index := Scalar.indexCast v195
  let c2816 : Index := 2816#32
  ![v388.toNat, 2816]
def k0_off54 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v405 : Index := Scalar.indexCast v195
  let c3072 : Index := 3072#32
  ![v405.toNat, 3072]
def k0_off55 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v422 : Index := Scalar.indexCast v195
  let c3328 : Index := 3328#32
  ![v422.toNat, 3328]
def k0_off56 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v439 : Index := Scalar.indexCast v195
  let c3584 : Index := 3584#32
  ![v439.toNat, 3584]
def k0_off57 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v456 : Index := Scalar.indexCast v195
  let c3840 : Index := 3840#32
  ![v456.toNat, 3840]
def k0_off58 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v473 : Index := Scalar.indexCast v195
  let c4096 : Index := 4096#32
  ![v473.toNat, 4096]
def k0_off59 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v490 : Index := Scalar.indexCast v195
  let c4352 : Index := 4352#32
  ![v490.toNat, 4352]
def k0_off60 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v507 : Index := Scalar.indexCast v195
  let c4608 : Index := 4608#32
  ![v507.toNat, 4608]
def k0_off61 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v524 : Index := Scalar.indexCast v195
  let c4864 : Index := 4864#32
  ![v524.toNat, 4864]
def k0_off62 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v541 : Index := Scalar.indexCast v195
  let c5120 : Index := 5120#32
  ![v541.toNat, 5120]
def k0_off63 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v558 : Index := Scalar.indexCast v195
  let c5376 : Index := 5376#32
  ![v558.toNat, 5376]
def k0_off64 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v575 : Index := Scalar.indexCast v195
  let c5632 : Index := 5632#32
  ![v575.toNat, 5632]
def k0_off65 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v592 : Index := Scalar.indexCast v195
  let c5888 : Index := 5888#32
  ![v592.toNat, 5888]
def k0_off66 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v609 : Index := Scalar.indexCast v195
  let c6144 : Index := 6144#32
  ![v609.toNat, 6144]
def k0_off67 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v626 : Index := Scalar.indexCast v195
  let c6400 : Index := 6400#32
  ![v626.toNat, 6400]
def k0_off68 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v643 : Index := Scalar.indexCast v195
  let c6656 : Index := 6656#32
  ![v643.toNat, 6656]
def k0_off69 (k0_t3 : Fin k0_t3_loop.trips) : Fin 2 → Nat :=
  let c0_i32_7 : BitVec 32 := 0#32
  let c1_i32_9 : BitVec 32 := 1#32
  let arg20 : BitVec 32 := Scf.iv c0_i32_7 c1_i32_9 k0_t3
  let c16_i32_80 : BitVec 32 := 16#32
  let v194 : BitVec 32 := Scalar.muli arg20 c16_i32_80
  let v195 : BitVec 32 := v194
  let v660 : Index := Scalar.indexCast v195
  let c6912 : Index := 6912#32
  ![v660.toNat, 6912]
@[reducible] def k0_t4_loop : Scf.Loop 32 :=
  let c0_i32_43 : BitVec 32 := 0#32
  let c4_i32_44 : BitVec 32 := 4#32
  let v110 : BitVec 32 := Scalar.addi c0_i32_43 c4_i32_44
  let c1_i32_45 : BitVec 32 := 1#32
  ⟨c0_i32_43, v110, c1_i32_45⟩
def k0_mult5 (k0_t4 : Fin k0_t4_loop.trips) : BitVec 32 :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  v194
def k0_off70 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v196 : Index := Scalar.indexCast v195
  let c0_81 : Index := 0#32
  ![v196.toNat, 0]
def k0_off71 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v199 : Index := Scalar.indexCast v195
  let c0_82 : Index := 0#32
  ![v199.toNat, 0]
def k0_off72 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v209 : Index := Scalar.indexCast v195
  let c256 : Index := 256#32
  ![v209.toNat, 256]
def k0_off73 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v219 : Index := Scalar.indexCast v195
  let c512 : Index := 512#32
  ![v219.toNat, 512]
def k0_off74 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v229 : Index := Scalar.indexCast v195
  let c768 : Index := 768#32
  ![v229.toNat, 768]
def k0_off75 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v239 : Index := Scalar.indexCast v195
  let c1024 : Index := 1024#32
  ![v239.toNat, 1024]
def k0_off76 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v249 : Index := Scalar.indexCast v195
  let c1280 : Index := 1280#32
  ![v249.toNat, 1280]
def k0_off77 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v259 : Index := Scalar.indexCast v195
  let c1536 : Index := 1536#32
  ![v259.toNat, 1536]
def k0_off78 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v269 : Index := Scalar.indexCast v195
  let c1792 : Index := 1792#32
  ![v269.toNat, 1792]
def k0_off79 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v279 : Index := Scalar.indexCast v195
  let c2048 : Index := 2048#32
  ![v279.toNat, 2048]
def k0_off80 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v289 : Index := Scalar.indexCast v195
  let c2304 : Index := 2304#32
  ![v289.toNat, 2304]
def k0_off81 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v299 : Index := Scalar.indexCast v195
  let c2560 : Index := 2560#32
  ![v299.toNat, 2560]
def k0_off82 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v309 : Index := Scalar.indexCast v195
  let c2816 : Index := 2816#32
  ![v309.toNat, 2816]
def k0_off83 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v319 : Index := Scalar.indexCast v195
  let c3072 : Index := 3072#32
  ![v319.toNat, 3072]
def k0_off84 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v329 : Index := Scalar.indexCast v195
  let c3328 : Index := 3328#32
  ![v329.toNat, 3328]
def k0_off85 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v339 : Index := Scalar.indexCast v195
  let c3584 : Index := 3584#32
  ![v339.toNat, 3584]
def k0_off86 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v349 : Index := Scalar.indexCast v195
  let c3840 : Index := 3840#32
  ![v349.toNat, 3840]
def k0_off87 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v359 : Index := Scalar.indexCast v195
  let c4096 : Index := 4096#32
  ![v359.toNat, 4096]
def k0_off88 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v369 : Index := Scalar.indexCast v195
  let c4352 : Index := 4352#32
  ![v369.toNat, 4352]
def k0_off89 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v379 : Index := Scalar.indexCast v195
  let c4608 : Index := 4608#32
  ![v379.toNat, 4608]
def k0_off90 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v389 : Index := Scalar.indexCast v195
  let c4864 : Index := 4864#32
  ![v389.toNat, 4864]
def k0_off91 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v399 : Index := Scalar.indexCast v195
  let c5120 : Index := 5120#32
  ![v399.toNat, 5120]
def k0_off92 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v409 : Index := Scalar.indexCast v195
  let c5376 : Index := 5376#32
  ![v409.toNat, 5376]
def k0_off93 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v419 : Index := Scalar.indexCast v195
  let c5632 : Index := 5632#32
  ![v419.toNat, 5632]
def k0_off94 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v429 : Index := Scalar.indexCast v195
  let c5888 : Index := 5888#32
  ![v429.toNat, 5888]
def k0_off95 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v439 : Index := Scalar.indexCast v195
  let c6144 : Index := 6144#32
  ![v439.toNat, 6144]
def k0_off96 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v449 : Index := Scalar.indexCast v195
  let c6400 : Index := 6400#32
  ![v449.toNat, 6400]
def k0_off97 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v459 : Index := Scalar.indexCast v195
  let c6656 : Index := 6656#32
  ![v459.toNat, 6656]
def k0_off98 (k0_t4 : Fin k0_t4_loop.trips) : Fin 2 → Nat :=
  let c0_i32_43 : BitVec 32 := 0#32
  let c1_i32_45 : BitVec 32 := 1#32
  let arg20 : BitVec 32 := Scf.iv c0_i32_43 c1_i32_45 k0_t4
  let c32_i32_80 : BitVec 32 := 32#32
  let v194 : BitVec 32 := Scalar.muli arg20 c32_i32_80
  let v195 : BitVec 32 := v194
  let v469 : Index := Scalar.indexCast v195
  let c6912 : Index := 6912#32
  ![v469.toNat, 6912]
def k0_mult6 (i : grid0.Coords) : BitVec 32 :=
  let arg0 : BitVec 32 := BitVec.ofNat 32 (i 0).val
  let c24_i32_53 : BitVec 32 := 24#32
  let c0_i32_54 : BitVec 32 := 0#32
  let v128 : BitVec 1 := Scalar.cmpi .eq c24_i32_53 c0_i32_54
  let c1_i32_55 : BitVec 32 := 1#32
  let v129 : BitVec 32 := Scalar.select v128 c1_i32_55 c24_i32_53
  let v130 : BitVec 32 := Scalar.remsi arg0 v129
  let c0_i32_57 : BitVec 32 := 0#32
  let v132 : BitVec 1 := Scalar.cmpi .slt v130 c0_i32_57
  let c0_i32_58 : BitVec 32 := 0#32
  let v133 : BitVec 1 := Scalar.cmpi .slt v129 c0_i32_58
  let v134 : BitVec 1 := Scalar.xori v132 v133
  let c0_i32_56 : BitVec 32 := 0#32
  let v131 : BitVec 1 := Scalar.cmpi .ne v130 c0_i32_56
  let v135 : BitVec 1 := Scalar.andi v134 v131
  let v136 : BitVec 32 := Scalar.addi v130 v129
  let v137 : BitVec 32 := Scalar.select v135 v136 v130
  let c128_i32_59 : BitVec 32 := 128#32
  let v138 : BitVec 32 := Scalar.muli v137 c128_i32_59
  v138
def k0_off99 (i : grid0.Coords) : Fin 2 → Nat :=
  let c0_66 : Index := 0#32
  let arg0 : BitVec 32 := BitVec.ofNat 32 (i 0).val
  let c24_i32_53 : BitVec 32 := 24#32
  let c0_i32_54 : BitVec 32 := 0#32
  let v128 : BitVec 1 := Scalar.cmpi .eq c24_i32_53 c0_i32_54
  let c1_i32_55 : BitVec 32 := 1#32
  let v129 : BitVec 32 := Scalar.select v128 c1_i32_55 c24_i32_53
  let v130 : BitVec 32 := Scalar.remsi arg0 v129
  let c0_i32_57 : BitVec 32 := 0#32
  let v132 : BitVec 1 := Scalar.cmpi .slt v130 c0_i32_57
  let c0_i32_58 : BitVec 32 := 0#32
  let v133 : BitVec 1 := Scalar.cmpi .slt v129 c0_i32_58
  let v134 : BitVec 1 := Scalar.xori v132 v133
  let c0_i32_56 : BitVec 32 := 0#32
  let v131 : BitVec 1 := Scalar.cmpi .ne v130 c0_i32_56
  let v135 : BitVec 1 := Scalar.andi v134 v131
  let v136 : BitVec 32 := Scalar.addi v130 v129
  let v137 : BitVec 32 := Scalar.select v135 v136 v130
  let c128_i32_59 : BitVec 32 := 128#32
  let v138 : BitVec 32 := Scalar.muli v137 c128_i32_59
  let v139 : BitVec 32 := v138
  let v151 : Index := Scalar.indexCast v139
  ![0, v151.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x7168 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x896 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x7168 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "inv_d" => some ((1 / 7168 : ℝ) : EReal)
  | _ => none
-- ==== ReferenceIdeal.lean ====
abbrev S4x3072x7168 : Shape := ⟨3, ![4, 3072, 7168]⟩
abbrev S7168 : Shape := ⟨1, ![7168]⟩
abbrev S_ : Shape := ⟨0, ![]⟩
abbrev S1x1x7168 : Shape := ⟨3, ![1, 1, 7168]⟩
abbrev S4x3072 : Shape := ⟨2, ![4, 3072]⟩
abbrev S4x3072x1 : Shape := ⟨3, ![4, 3072, 1]⟩
abbrev S4x3072x896x8 : Shape := ⟨4, ![4, 3072, 896, 8]⟩
abbrev S8 : Shape := ⟨1, ![8]⟩
abbrev S1x1x1x8 : Shape := ⟨4, ![1, 1, 1, 8]⟩
abbrev S4x3072x896 : Shape := ⟨3, ![4, 3072, 896]⟩
abbrev S12288x7168 : Shape := ⟨2, ![12288, 7168]⟩
abbrev S12288x896 : Shape := ⟨2, ![12288, 896]⟩

abbrev nBuf : Space → Nat
  | .hbm => 105
  | .vmem => 2
  | .smem => 0
  | _ => 0

abbrev bufTy : (tb : Table) → Fin (tcTables nBuf tb) → BufTy
  | .hbm, ⟨0, _⟩ => ⟨S4x3072x7168, .bf16⟩
  | .hbm, ⟨1, _⟩ => ⟨S4x3072x7168, .bf16⟩
  | .hbm, ⟨2, _⟩ => ⟨S7168, .f32⟩
  | .hbm, ⟨3, _⟩ => ⟨S4x3072x7168, .i32⟩
  | .hbm, ⟨4, _⟩ => ⟨S7168, .f32⟩
  | .hbm, ⟨5, _⟩ => ⟨S7168, .f32⟩
  | .hbm, ⟨6, _⟩ => ⟨S_, .i32⟩
  | .hbm, ⟨7, _⟩ => ⟨S4x3072x7168, .i32⟩
  | .hbm, ⟨8, _⟩ => ⟨S4x3072x7168, .i1⟩
  | .hbm, ⟨9, _⟩ => ⟨S4x3072x7168, .f32⟩
  | .hbm, ⟨10, _⟩ => ⟨S1x1x7168, .f32⟩
  | .hbm, ⟨11, _⟩ => ⟨S4x3072x7168, .f32⟩
  | .hbm, ⟨12, _⟩ => ⟨S4x3072x7168, .f32⟩
  | .hbm, ⟨13, _⟩ => ⟨S_, .f32⟩
  | .hbm, ⟨14, _⟩ => ⟨S4x3072x7168, .f32⟩
  | .hbm, ⟨15, _⟩ => ⟨S4x3072x7168, .f32⟩
  | .hbm, ⟨16, _⟩ => ⟨S_, .f32⟩
  | .hbm, ⟨17, _⟩ => ⟨S_, .f32⟩
  | .hbm, ⟨18, _⟩ => ⟨S4x3072x7168, .f32⟩
  | .hbm, ⟨19, _⟩ => ⟨S4x3072x7168, .f32⟩
  | .hbm, ⟨20, _⟩ => ⟨S4x3072x7168, .f32⟩
  | .hbm, ⟨21, _⟩ => ⟨S4x3072x7168, .f32⟩
  | .hbm, ⟨22, _⟩ => ⟨S4x3072x7168, .bf16⟩
  | .hbm, ⟨23, _⟩ => ⟨S4x3072x7168, .f32⟩
  | .hbm, ⟨24, _⟩ => ⟨S_, .f32⟩
  | .hbm, ⟨25, _⟩ => ⟨S4x3072, .f32⟩
  | .hbm, ⟨26, _⟩ => ⟨S_, .f32⟩
  | .hbm, ⟨27, _⟩ => ⟨S4x3072, .f32⟩
  | .hbm, ⟨28, _⟩ => ⟨S4x3072, .f32⟩
  | .hbm, ⟨29, _⟩ => ⟨S4x3072x1, .f32⟩
  | .hbm, ⟨30, _⟩ => ⟨S4x3072x7168, .f32⟩
  | .hbm, ⟨31, _⟩ => ⟨S4x3072x7168, .f32⟩
  | .hbm, ⟨32, _⟩ => ⟨S4x3072x7168, .f32⟩
  | .hbm, ⟨33, _⟩ => ⟨S_, .f32⟩
  | .hbm, ⟨34, _⟩ => ⟨S4x3072, .f32⟩
  | .hbm, ⟨35, _⟩ => ⟨S_, .f32⟩
  | .hbm, ⟨36, _⟩ => ⟨S4x3072, .f32⟩
  | .hbm, ⟨37, _⟩ => ⟨S4x3072, .f32⟩
  | .hbm, ⟨38, _⟩ => ⟨S_, .f32⟩
  | .hbm, ⟨39, _⟩ => ⟨S4x3072, .f32⟩
  | .hbm, ⟨40, _⟩ => ⟨S4x3072, .f32⟩
  | .hbm, ⟨41, _⟩ => ⟨S4x3072, .f32⟩
  | .hbm, ⟨42, _⟩ => ⟨S4x3072x1, .f32⟩
  | .hbm, ⟨43, _⟩ => ⟨S4x3072x7168, .f32⟩
  | .hbm, ⟨44, _⟩ => ⟨S4x3072x7168, .f32⟩
  | .hbm, ⟨45, _⟩ => ⟨S1x1x7168, .f32⟩
  | .hbm, ⟨46, _⟩ => ⟨S4x3072x7168, .f32⟩
  | .hbm, ⟨47, _⟩ => ⟨S4x3072x7168, .f32⟩
  | .hbm, ⟨48, _⟩ => ⟨S1x1x7168, .f32⟩
  | .hbm, ⟨49, _⟩ => ⟨S4x3072x7168, .f32⟩
  | .hbm, ⟨50, _⟩ => ⟨S4x3072x7168, .f32⟩
  | .hbm, ⟨51, _⟩ => ⟨S4x3072x7168, .f32⟩
  | .hbm, ⟨52, _⟩ => ⟨S_, .f32⟩
  | .hbm, ⟨53, _⟩ => ⟨S4x3072, .f32⟩
  | .hbm, ⟨54, _⟩ => ⟨S_, .f32⟩
  | .hbm, ⟨55, _⟩ => ⟨S4x3072, .f32⟩
  | .hbm, ⟨56, _⟩ => ⟨S4x3072, .f32⟩
  | .hbm, ⟨57, _⟩ => ⟨S_, .f32⟩
  | .hbm, ⟨58, _⟩ => ⟨S4x3072, .f32⟩
  | .hbm, ⟨59, _⟩ => ⟨S4x3072, .f32⟩
  | .hbm, ⟨60, _⟩ => ⟨S4x3072, .f32⟩
  | .hbm, ⟨61, _⟩ => ⟨S4x3072, .f32⟩
  | .hbm, ⟨62, _⟩ => ⟨S4x3072, .f32⟩
  | .hbm, ⟨63, _⟩ => ⟨S_, .f32⟩
  | .hbm, ⟨64, _⟩ => ⟨S4x3072, .f32⟩
  | .hbm, ⟨65, _⟩ => ⟨S4x3072, .f32⟩
  | .hbm, ⟨66, _⟩ => ⟨S_, .f32⟩
  | .hbm, ⟨67, _⟩ => ⟨S4x3072, .f32⟩
  | .hbm, ⟨68, _⟩ => ⟨S4x3072, .f32⟩
  | .hbm, ⟨69, _⟩ => ⟨S_, .f32⟩
  | .hbm, ⟨70, _⟩ => ⟨S4x3072, .f32⟩
  | .hbm, ⟨71, _⟩ => ⟨S4x3072, .i1⟩
  | .hbm, ⟨72, _⟩ => ⟨S_, .f32⟩
  | .hbm, ⟨73, _⟩ => ⟨S_, .f32⟩
  | .hbm, ⟨74, _⟩ => ⟨S4x3072, .f32⟩
  | .hbm, ⟨75, _⟩ => ⟨S4x3072, .f32⟩
  | .hbm, ⟨76, _⟩ => ⟨S4x3072, .f32⟩
  | .hbm, ⟨77, _⟩ => ⟨S4x3072, .f32⟩
  | .hbm, ⟨78, _⟩ => ⟨S4x3072, .f32⟩
  | .hbm, ⟨79, _⟩ => ⟨S4x3072, .f32⟩
  | .hbm, ⟨80, _⟩ => ⟨S4x3072, .f32⟩
  | .hbm, ⟨81, _⟩ => ⟨S4x3072x1, .f32⟩
  | .hbm, ⟨82, _⟩ => ⟨S4x3072x7168, .f32⟩
  | .hbm, ⟨83, _⟩ => ⟨S4x3072x7168, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S4x3072x7168, .f32⟩
  | .hbm, ⟨88, _⟩ => ⟨S4x3072x7168, .f32⟩
  | .hbm, ⟨89, _⟩ => ⟨S_, .f32⟩
  | .hbm, ⟨90, _⟩ => ⟨S4x3072x7168, .f32⟩
  | .hbm, ⟨91, _⟩ => ⟨S4x3072x7168, .f32⟩
  | .hbm, ⟨92, _⟩ => ⟨S4x3072x896x8, .i1⟩
  | .hbm, ⟨93, _⟩ => ⟨S4x3072x896x8, .i32⟩
  | .hbm, ⟨94, _⟩ => ⟨S8, .i32⟩
  | .hbm, ⟨95, _⟩ => ⟨S1x1x1x8, .i32⟩
  | .hbm, ⟨96, _⟩ => ⟨S4x3072x896x8, .i32⟩
  | .hbm, ⟨97, _⟩ => ⟨S4x3072x896x8, .i32⟩
  | .hbm, ⟨98, _⟩ => ⟨S_, .i32⟩
  | .hbm, ⟨99, _⟩ => ⟨S4x3072x896, .i32⟩
  | .hbm, ⟨100, _⟩ => ⟨S4x3072x896, .i8⟩
  | .hbm, ⟨101, _⟩ => ⟨S12288x7168, .f32⟩
  | .hbm, ⟨102, _⟩ => ⟨S12288x896, .i8⟩
  | .hbm, ⟨103, _⟩ => ⟨S12288x7168, .bf16⟩
  | .hbm, ⟨104, _⟩ => ⟨S12288x7168, .fp8e4m3⟩
  | .local _ .vmem, ⟨0, _⟩ => ⟨S12288x7168, .f32⟩
  | .local _ .vmem, ⟨1, _⟩ => ⟨S12288x7168, .fp8e4m3⟩
  | _, _ => ⟨S4x3072x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_call1_v0 : Ref sig .tc := ⟨.hbm, 73, rfl⟩
abbrev main_call1_v1 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_cst_14 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S12288x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Body.lean ====
/-
  The frame of `Kernel`: the kernel's body is run once by the generated loop invariants, keeping its
  seven input windows and leaving its six output windows and six scratch buffers at some contents; the
  pipeline over the 96 blocks of 128 rows then runs with the outputs forgotten, which gives that every
  execution ends with the arguments unchanged and every semaphore counter at zero.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

set_option sl_exec.matchHeartbeats 100000 in
set_option maxHeartbeats 4000000 in
/-- The body keeps its inputs and writes only its outputs and scratch. -/
theorem sound_kernel (c : Dev nD) (E : Set ℕ) (i : grid0.Coords) (arg1 : Memref sig .tc .vmem S128x7168 .bf16) (harg1 : arg1.IsWhole) (arg2 : Memref sig .tc .vmem S128x7168 .bf16) (harg2 : arg2.IsWhole) (arg3 : Memref sig .tc .vmem S1x7168 .f32) (harg3 : arg3.IsWhole) (arg4 : Memref sig .tc .vmem S128x7168 .i32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S1024x128 .bf16) (harg7 : arg7.IsWhole) (arg8 : Memref sig .tc .vmem S128x7168 .fp8e4m3) (harg8 : arg8.IsWhole) (arg9 : Memref sig .tc .vmem S4x3072 .f32) (harg9 : arg9.IsWhole) (arg10 : Memref sig .tc .vmem S128x896 .i8) (harg10 : arg10.IsWhole) (arg11 : Memref sig .tc .vmem S4x3072 .f32) (harg11 : arg11.IsWhole) (arg12 : Memref sig .tc .vmem S4x3072 .f32) (harg12 : arg12.IsWhole) (arg13 : Memref sig .tc .vmem S128x7168 .bf16) (harg13 : arg13.IsWhole) (arg14 : Memref sig .tc .vmem S128x1024 .bf16) (harg14 : arg14.IsWhole) (arg15 : Memref sig .tc .vmem S128x7168 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole)
    (x1 : Vec F S128x7168 .bf16) (x2 : Vec F S128x7168 .bf16) (x3 : Vec F S1x7168 .f32) (x4 : Vec F S128x7168 .i32) (x5 : Vec F S1x7168 .f32) (x6 : Vec F S1x7168 .f32) (x7 : Vec F S1024x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_bda_ln_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_bda_ln_fp8_eq_skeleton]; unfold cc0_bda_ln_fp8_skel
  simp only [k0_part55_eq_skeleton]; unfold k0_part55_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf1 hf2 hf3 hf4 hf5 hf6 hf7
  sl_exec
  rw [Prog.bind_assoc]
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

/-! ## The proof data -/

variable (m : (ℓ : Loc nD τ sig) → Buf (Elt F) ℓ) (ρ : Dev nD → PrngReg)

/-- The output windows, forgotten: the frame says nothing of what the kernel leaves in them. -/
def forgets0 : Fin 13 → Bool := fun w => decide (7 ≤ w.val)

/-- The arrays as the region finds them; each input window keeps its block; the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The class invariant conjunct by conjunct: the six scratch buffers owned at some contents, and the generator register. -/
theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d))

/-- The body at any point: the inputs' windows hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5, after0_6]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11, H12⟩
  iapply (sound_kernel c Set.univ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one, which takes unfolding
-- plain definitions in a metavariable's type
set_option backward.isDefEq.respectTransparency.types false in
set_option maxHeartbeats 800000 in
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel.Hand

end
-- ==== Proof.KernelIdeal.Body.lean ====
/-
  The frame of `KernelIdeal`: the kernel's body is run once by the generated loop invariants, keeping its
  seven input windows and leaving its six output windows and six scratch buffers at some contents; the
  pipeline over the 96 blocks of 128 rows then runs with the outputs forgotten, which gives that every
  execution ends with the arguments unchanged and every semaphore counter at zero.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] [∀ e, Nonempty (Elt F e)]

local notation "𝕄" => MT nD τ sig Unit (Elt F) ℕ (UR sig nD τ) ℕ

set_option sl_exec.matchHeartbeats 100000 in
set_option maxHeartbeats 4000000 in
/-- The body keeps its inputs and writes only its outputs and scratch. -/
theorem sound_kernel (c : Dev nD) (E : Set ℕ) (i : grid0.Coords) (arg1 : Memref sig .tc .vmem S128x7168 .bf16) (harg1 : arg1.IsWhole) (arg2 : Memref sig .tc .vmem S128x7168 .bf16) (harg2 : arg2.IsWhole) (arg3 : Memref sig .tc .vmem S1x7168 .f32) (harg3 : arg3.IsWhole) (arg4 : Memref sig .tc .vmem S128x7168 .i32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S1024x128 .bf16) (harg7 : arg7.IsWhole) (arg8 : Memref sig .tc .vmem S128x7168 .fp8e4m3) (harg8 : arg8.IsWhole) (arg9 : Memref sig .tc .vmem S4x3072 .f32) (harg9 : arg9.IsWhole) (arg10 : Memref sig .tc .vmem S128x896 .i8) (harg10 : arg10.IsWhole) (arg11 : Memref sig .tc .vmem S4x3072 .f32) (harg11 : arg11.IsWhole) (arg12 : Memref sig .tc .vmem S4x3072 .f32) (harg12 : arg12.IsWhole) (arg13 : Memref sig .tc .vmem S128x7168 .bf16) (harg13 : arg13.IsWhole) (arg14 : Memref sig .tc .vmem S128x1024 .bf16) (harg14 : arg14.IsWhole) (arg15 : Memref sig .tc .vmem S128x7168 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole)
    (x1 : Vec F S128x7168 .bf16) (x2 : Vec F S128x7168 .bf16) (x3 : Vec F S1x7168 .f32) (x4 : Vec F S128x7168 .i32) (x5 : Vec F S1x7168 .f32) (x6 : Vec F S1x7168 .f32) (x7 : Vec F S1024x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_bda_ln_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_bda_ln_fp8_eq_skeleton]; unfold cc0_bda_ln_fp8_skel
  simp only [k0_part55_eq_skeleton]; unfold k0_part55_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf1 hf2 hf3 hf4 hf5 hf6 hf7
  sl_exec
  rw [Prog.bind_assoc]
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

/-! ## The proof data -/

variable (m : (ℓ : Loc nD τ sig) → Buf (Elt F) ℓ) (ρ : Dev nD → PrngReg)

/-- The output windows, forgotten: the frame says nothing of what the kernel leaves in them. -/
def forgets0 : Fin 13 → Bool := fun w => decide (7 ≤ w.val)

/-- The arrays as the region finds them; each input window keeps its block; the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The class invariant conjunct by conjunct: the six scratch buffers owned at some contents, and the generator register. -/
theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d))

/-- The body at any point: the inputs' windows hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5, after0_6]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11, H12⟩
  iapply (sound_kernel c Set.univ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one, which takes unfolding
-- plain definitions in a metavariable's type
set_option backward.isDefEq.respectTransparency.types false in
set_option maxHeartbeats 800000 in
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.KernelIdeal.Hand

end
-- ==== Proof.Search.lean ====
/-
  The power of two a row is scaled by: what the kernel's search by comparisons finds for a number below 2 ^ 126, and
  that the floor of the logarithm gives the same exponent.
-/
module

public import Idealize.ShloMosaic.PureOps.Ideal
public import Idealize.ShloMosaic.PureOps.Ideal.Laws
public import Mathlib.Analysis.SpecialFunctions.Log.Basic

@[expose] public section

noncomputable section

namespace Cert.KernelIdeal.Hand

open Idealize.ShloMosaic

/-- One step of the search: the step is kept when the power of two it leads to is not above `t`. -/
def stepB (t : EReal) (n d : BitVec 32) : BitVec 32 :=
  if t < Ideal.ofBits .f32 ((n + d) <<< 23) then n else n + d

/-- The biased exponent found for `t`. -/
def biased (t : EReal) : BitVec 32 :=
  stepB t (stepB t (stepB t (stepB t (stepB t (stepB t (stepB t (stepB t 0#32 128#32) 64#32) 32#32) 16#32) 8#32)
    4#32) 2#32) 1#32

/-- The exponent of the scale of a row whose greatest magnitude is `a`. -/
def expW (a : EReal) : BitVec 32 :=
  if a = 0 then 0#32 else biased (a * Ideal.ofBits .f32 0x3B124925#32) - 126#32

/-- The scale, -/
def scaleAt (a : EReal) : EReal := Ideal.ofBits .f32 ((expW a + 127#32) <<< 23)

/-- and its inverse. -/
def invAt (a : EReal) : EReal := Ideal.ofBits .f32 ((127#32 - expW a) <<< 23)

/-! ## The patterns of the powers of two -/

/-- The fields of the pattern with biased exponent `k`. -/
theorem fields : ∀ k : Fin 256, ((BitVec.ofNat 32 k.val <<< 23).extractLsb' 31 1 = 0#1)
    ∧ ((BitVec.ofNat 32 k.val <<< 23).extractLsb' 23 8).toNat = k.val
    ∧ ((BitVec.ofNat 32 k.val <<< 23).extractLsb' 0 23).toNat = 0 := by decide +kernel

/-- Biased exponents from 1 to 254 are powers of two, -/
theorem pow_bits (k : ℕ) (h1 : 1 ≤ k) (h2 : k ≤ 254) :
    Ideal.ofBits .f32 (BitVec.ofNat 32 k <<< 23) = (((2 : ℝ) ^ ((k : ℤ) - 127) : ℝ) : EReal) := by
  obtain ⟨f1, f2, f3⟩ := fields ⟨k, by omega⟩
  dsimp only at f1 f2 f3
  unfold Ideal.ofBits Ideal.ieee
  dsimp only
  rw [show (8 + 23 : ℕ) = 31 from rfl]
  rw [f1, f2, f3, if_neg (by omega), if_neg (by omega)]
  have e : ((k : ℤ) - (2 ^ (8 - 1) - 1) - (23 : ℕ)) = ((k : ℤ) - 127) + (-23) := by norm_num; ring
  refine congrArg Real.toEReal ?_
  rw [e, zpow_add₀ (by norm_num)]
  have : (0#1 == 1#1 : Bool) = false := by decide
  rw [this]
  norm_num
  ring

/-- and 255 is infinity. -/
theorem pow_top : Ideal.ofBits .f32 (BitVec.ofNat 32 255 <<< 23) = ⊤ := by
  simp [Ideal.ofBits, Ideal.ieee]

/-! ## The search -/

/-- What holds of the search's value `n` when `2 * d` is the next step's reach. -/
def Inv (t : ℝ) (n w : ℕ) : Prop := (n = 0 ∨ (2 : ℝ) ^ ((n : ℤ) - 127) ≤ t) ∧ t < (2 : ℝ) ^ (((n + w : ℕ) : ℤ) - 127)

theorem step_inv (t : ℝ) (ht : t < (2 : ℝ) ^ (126 : ℤ)) (n d : ℕ) (hd : 1 ≤ d) (hn : n + 2 * d ≤ 256) (h : Inv t n (2 * d)) :
    ∃ n' : ℕ, stepB (t : EReal) (BitVec.ofNat 32 n) (BitVec.ofNat 32 d) = BitVec.ofNat 32 n' ∧ n' + d ≤ 256 ∧ Inv t n' d := by
  have ea : BitVec.ofNat 32 n + BitVec.ofNat 32 d = BitVec.ofNat 32 (n + d) := by
    rw [BitVec.ofNat_add]
  have hc : ((t : EReal) < Ideal.ofBits .f32 (BitVec.ofNat 32 (n + d) <<< 23)) ↔ t < (2 : ℝ) ^ (((n + d : ℕ) : ℤ) - 127) := by
    rcases Nat.lt_or_ge (n + d) 255 with h5 | h5
    · rw [pow_bits (n + d) (by omega) (by omega), EReal.coe_lt_coe_iff]
    · have e : n + d = 255 := by omega
      rw [e, pow_top]
      refine ⟨fun _ => ht.trans ?_, fun _ => EReal.coe_lt_top t⟩
      exact zpow_lt_zpow_right₀ (by norm_num) (by norm_num)
  unfold stepB
  rw [ea]
  by_cases hlt : t < (2 : ℝ) ^ (((n + d : ℕ) : ℤ) - 127)
  · rw [if_pos (hc.mpr hlt)]
    exact ⟨n, rfl, by omega, h.1, hlt⟩
  · rw [if_neg (fun h' => hlt (hc.mp h'))]
    refine ⟨n + d, rfl, by omega, Or.inr (not_lt.mp hlt), ?_⟩
    have := h.2
    rwa [show n + 2 * d = n + d + d by ring] at this

/-- The search finds the biased exponent of `t`: zero below the least normal power. -/
theorem biased_spec (t : ℝ) (ht : t < (2 : ℝ) ^ (126 : ℤ)) :
    ∃ n : ℕ, biased (t : EReal) = BitVec.ofNat 32 n ∧ n ≤ 252 ∧ Inv t n 1 := by
  have h0 : Inv t 0 (2 * 128) := ⟨Or.inl rfl, ht.trans (zpow_lt_zpow_right₀ (by norm_num) (by norm_num))⟩
  unfold biased
  obtain ⟨n1, e1, l1, i1⟩ := step_inv t ht 0 128 (by norm_num) (by norm_num) h0
  rw [show (0#32 : BitVec 32) = BitVec.ofNat 32 0 from rfl, e1]
  obtain ⟨n2, e2, l2, i2⟩ := step_inv t ht n1 64 (by norm_num) (by omega) i1
  rw [e2]
  obtain ⟨n3, e3, l3, i3⟩ := step_inv t ht n2 32 (by norm_num) (by omega) i2
  rw [e3]
  obtain ⟨n4, e4, l4, i4⟩ := step_inv t ht n3 16 (by norm_num) (by omega) i3
  rw [e4]
  obtain ⟨n5, e5, l5, i5⟩ := step_inv t ht n4 8 (by norm_num) (by omega) i4
  rw [e5]
  obtain ⟨n6, e6, l6, i6⟩ := step_inv t ht n5 4 (by norm_num) (by omega) i5
  rw [e6]
  obtain ⟨n7, e7, l7, i7⟩ := step_inv t ht n6 2 (by norm_num) (by omega) i6
  rw [e7]
  obtain ⟨n8, e8, l8, i8⟩ := step_inv t ht n7 1 (by norm_num) (by omega) i7
  rw [e8]
  refine ⟨n8, rfl, ?_, i8⟩
  rcases i8.1 with h | h
  · omega
  · have := (zpow_lt_zpow_iff_right₀ (by norm_num : (1 : ℝ) < 2)).mp (lt_of_le_of_lt h ht)
    omega

/-! ## The exponent by the logarithm -/

/-- The exponent of the scale by the floor of the base-two logarithm, as extended reals. -/
def expR (a : EReal) : EReal :=
  if a = 0 then 0
  else max (Ideal.liftRound (fun r => ⌊r⌋) (Ideal.div (Ideal.log (a * Ideal.ofBits .f32 0x3B124925#32)) (Ideal.log (Ideal.ofBits .f32 0x40000000#32)))
    + Ideal.ofBits .f32 0x3F800000#32) (Ideal.ofBits .f32 0xC2FC0000#32)

theorem bits_two : Ideal.ofBits .f32 0x40000000#32 = ((2 : ℝ) : EReal) := by
  simp [Ideal.ofBits, Ideal.ieee, -EReal.coe_mul]; norm_num

theorem bits_m126 : Ideal.ofBits .f32 0xC2FC0000#32 = ((-126 : ℝ) : EReal) := by
  simp [Ideal.ofBits, Ideal.ieee, -EReal.coe_mul]; norm_num

theorem bits_one : Ideal.ofBits .f32 0x3F800000#32 = ((1 : ℝ) : EReal) := by
  simp [Ideal.ofBits, Ideal.ieee, -EReal.coe_mul]; norm_num

/-- The reciprocal of 448 as the programs have it. -/
def rec448 : ℝ := 9586981 * (2 : ℝ) ^ (-32 : ℤ)

theorem bits_rec : Ideal.ofBits .f32 0x3B124925#32 = ((rec448 : ℝ) : EReal) := by
  simp [Ideal.ofBits, Ideal.ieee, -EReal.coe_mul, rec448]

theorem log_two : Ideal.log (Ideal.ofBits .f32 0x40000000#32) = ((Real.log 2 : ℝ) : EReal) := by
  rw [bits_two]
  show (if (2 : ℝ) ≤ 0 then (⊥ : EReal) else ((Real.log 2 : ℝ) : EReal)) = _
  rw [if_neg (by norm_num)]

/-- The exponents agree: the kernel's word is the logarithm's exponent, from -126 to 126. -/
theorem exp_agree (a : ℝ) (h0 : 0 ≤ a) (h1 : a * rec448 < (2 : ℝ) ^ (126 : ℤ)) :
    ∃ n : ℕ, n ≤ 252 ∧ expW (a : EReal) = BitVec.ofNat 32 n - 126#32 ∧ expR (a : EReal) = (((n : ℝ) - 126 : ℝ) : EReal) := by
  have hl2 : 0 < Real.log 2 := Real.log_pos (by norm_num)
  by_cases ha : a = 0
  · refine ⟨126, by norm_num, ?_, ?_⟩
    · unfold expW; rw [if_pos (by rw [ha]; rfl)]; decide
    · unfold expR; rw [if_pos (by rw [ha]; rfl)]; norm_num
  have hapos : 0 < a := lt_of_le_of_ne h0 (Ne.symm ha)
  have hne : (a : EReal) ≠ 0 := fun h => ha (by exact_mod_cast h)
  have hrec : 0 < rec448 := by unfold rec448; positivity
  obtain ⟨n, en, hn, inv⟩ := biased_spec (a * rec448) h1
  refine ⟨n, hn, ?_, ?_⟩
  · unfold expW; rw [if_neg hne, bits_rec, ← EReal.coe_mul, en]
  unfold expR
  rw [if_neg hne, log_two, bits_rec, ← EReal.coe_mul, bits_one, bits_m126]
  have htpos : 0 < a * rec448 := mul_pos hapos hrec
  generalize a * rec448 = t at *
  have elog : Ideal.log (t : EReal) = ((Real.log t : ℝ) : EReal) := by
    show (if t ≤ 0 then (⊥ : EReal) else ((Real.log t : ℝ) : EReal)) = _
    rw [if_neg (not_le.mpr htpos)]
  have ediv : Ideal.div ((Real.log t : ℝ) : EReal) ((Real.log 2 : ℝ) : EReal) = ((Real.log t / Real.log 2 : ℝ) : EReal) := by
    unfold Ideal.div
    rw [if_neg (by exact_mod_cast hl2.ne'), ← EReal.coe_inv, ← EReal.coe_mul]; rfl
  rw [elog, ediv, Ideal.liftRound_coe, ← EReal.coe_add]
  have hmax : ∀ x y : ℝ, max (x : EReal) (y : EReal) = ((max x y : ℝ) : EReal) := fun x y => (EReal.coe_strictMono.monotone.map_max).symm
  rw [hmax]
  congr 1
  have hup : Real.log t / Real.log 2 < (n : ℝ) - 126 := by
    rw [div_lt_iff₀ hl2]
    have := Real.log_lt_log htpos inv.2
    rw [Real.log_zpow] at this
    push_cast at this
    nlinarith [this]
  rcases inv.1 with hz | hle
  · subst hz
    have : ⌊Real.log t / Real.log 2⌋ ≤ -127 := by
      have : ⌊Real.log t / Real.log 2⌋ < -126 := Int.floor_lt.mpr (by push_cast; push_cast at hup; linarith)
      omega
    have h' : ((⌊Real.log t / Real.log 2⌋ : ℤ) : ℝ) ≤ -127 := by exact_mod_cast this
    rw [max_eq_right (by linarith)]
    norm_num
  · have hlo : (n : ℝ) - 127 ≤ Real.log t / Real.log 2 := by
      rw [le_div_iff₀ hl2]
      have := Real.log_le_log (by positivity) hle
      rw [Real.log_zpow] at this
      push_cast at this
      linarith
    have hf : ⌊Real.log t / Real.log 2⌋ = (n : ℤ) - 127 := by
      rw [Int.floor_eq_iff]
      push_cast
      constructor
      · linarith
      · linarith
    rw [hf]
    push_cast
    have hn0 : (0 : ℝ) ≤ n := Nat.cast_nonneg n
    rw [max_eq_left (by linarith)]
    ring

/-- The scale and its inverse by the exponential. -/
def scaleR (a : EReal) : EReal := Ideal.exp (expR a * Ideal.log (Ideal.ofBits .f32 0x40000000#32))
def invR (a : EReal) : EReal := Ideal.exp (-(expR a) * Ideal.log (Ideal.ofBits .f32 0x40000000#32))

theorem exp_log (x : ℤ) : Real.exp ((x : ℝ) * Real.log 2) = (2 : ℝ) ^ x := by
  rw [mul_comm, Real.exp_mul, Real.exp_log (by norm_num), Real.rpow_intCast]

/-- The kernel's scale and inverse are the exponentials of the logarithm's exponent. -/
theorem scale_agree (a : ℝ) (h0 : 0 ≤ a) (h1 : a * rec448 < (2 : ℝ) ^ (126 : ℤ)) :
    scaleAt (a : EReal) = scaleR (a : EReal) ∧ invAt (a : EReal) = invR (a : EReal) := by
  obtain ⟨n, hn, hw, hr⟩ := exp_agree a h0 h1
  have w1 : ∀ n : Fin 253, (BitVec.ofNat 32 n.val - 126#32) + 127#32 = BitVec.ofNat 32 (n.val + 1) := by decide +kernel
  have w2 : ∀ n : Fin 253, 127#32 - (BitVec.ofNat 32 n.val - 126#32) = BitVec.ofNat 32 (253 - n.val) := by decide +kernel
  constructor
  · unfold scaleAt scaleR
    rw [hw, w1 ⟨n, by omega⟩, hr, log_two, pow_bits _ (by omega) (by omega), ← EReal.coe_mul]
    show _ = ((Real.exp _ : ℝ) : EReal)
    congr 1
    rw [show ((n : ℝ) - 126) = (((n : ℤ) - 126 : ℤ) : ℝ) by push_cast; ring, exp_log]
    congr 1
    push_cast; ring
  · unfold invAt invR
    rw [hw, w2 ⟨n, by omega⟩, hr, log_two, pow_bits _ (by omega) (by omega), ← EReal.coe_neg, ← EReal.coe_mul]
    show _ = ((Real.exp _ : ℝ) : EReal)
    congr 1
    rw [show (-((n : ℝ) - 126)) = ((126 - (n : ℤ) : ℤ) : ℝ) by push_cast; ring, exp_log]
    congr 1
    have : ((253 - n : ℕ) : ℤ) = 253 - (n : ℤ) := by omega
    rw [this]; ring

end Cert.KernelIdeal.Hand

end
-- ==== Proof.KernelIdeal.Tiles.lean ====
/-
  Storing a window by rectangles of one size: what a read finds where the stored values agree with one
  function of the window's index, over a list of stores and over the stores of a loop's trips.
-/
module

public import proofs.«01_k».proof.Proof.KernelIdeal.Body
public import Idealize.ShloMosaic.Lib.Pointwise
public import Idealize.ShloMosaic.Lib.Pipeline.Value
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (Piece)

/-- A property of each entry of a list, by its head and its tail. -/
theorem forall_cons {α : Type*} {P : α → Prop} {a : α} {l : List α} (h : P a) (t : ∀ p ∈ l, P p) :
    ∀ p ∈ a :: l, P p :=
  List.forall_mem_cons.mpr ⟨h, t⟩

theorem forall_nil {α : Type*} (P : α → Prop) : ∀ p ∈ ([] : List α), P p := fun _ h => absurd h List.not_mem_nil

/-- A load through a unit rectangle reads the contents at the rectangle's place. -/
theorem readAt_unit_apply {s : Shape} {e : EltTy} {sp : Space} (v : Memref sig .tc sp s e)
    (X : BufTy.Contents (Elt Ideal) v.view.ty) (off size : Fin s.rank → Nat)
    (inb : ∀ a, off a + size a ≤ s.size a) (x : (Rect.unit off size inb).shape.Idx) :
    View.readAt (Elt Ideal) v.view (Rect.unit off size inb).toLoadRect X x
      = v.view.read (Elt Ideal) X ((Rect.unit off size inb).emb x) := rfl

/-- The place of a unit rectangle's element: the offset plus the element's own index. -/
theorem unit_emb_val {s : Shape} (off size : Fin s.rank → Nat)
    (inb : ∀ a, off a + size a ≤ s.size a) (x : (Rect.unit off size inb).shape.Idx) (a : Fin s.rank) :
    ((Rect.unit off size inb).emb x a).val = off a + (x a).val := by
  show off a + 1 * (x a).val = _
  rw [Nat.one_mul]

section
variable {s : Shape} {e : EltTy}

/-- A store of a rectangle of size `sz`, storing at each of its elements what `G` says there. -/
structure IsTile (sz : Fin s.rank → ℕ) (G : s.Idx → Elt Ideal e) (p : Piece (Elt Ideal) s e) : Prop where
  size : p.1.size = sz
  stride : ∀ a, p.1.stride a = 1
  val : ∀ x : p.1.shape.Idx, p.2 x = G (p.1.emb x)

/-- A store through a unit rectangle is a tile when its payload agrees with `G`. -/
theorem IsTile.unit {off sz : Fin s.rank → ℕ} {inb : ∀ a, off a + sz a ≤ s.size a} {G : s.Idx → Elt Ideal e}
    {w : (Rect.unit off sz inb).shape.Idx → Elt Ideal e} (h : ∀ x, w x = G ((Rect.unit off sz inb).emb x)) :
    IsTile sz G ⟨Rect.unit off sz inb, w⟩ :=
  ⟨rfl, fun _ => rfl, h⟩

theorem IsTile.mem {sz : Fin s.rank → ℕ} {G : s.Idx → Elt Ideal e} {p : Piece (Elt Ideal) s e} (h : IsTile sz G p)
    (y : s.Idx) : y ∈ p.1.set ↔ ∀ a, p.1.off a ≤ (y a).val ∧ (y a).val < p.1.off a + sz a := by
  obtain ⟨⟨⟨off, size, stride, inb⟩, hp⟩, w⟩ := p
  obtain ⟨h1, h2, -⟩ := h
  obtain rfl : size = sz := h1
  obtain rfl : stride = fun _ => 1 := funext h2
  have hin : ∀ y : s.Idx, (∀ a, off a ≤ (y a).val ∧ (y a).val < off a + size a) →
      ∀ a, off a + size a ≤ s.size a := by
    intro y hy a
    rcases inb a with h | h
    · have := hy a; omega
    · have := hy a; have := (y a).isLt; simp at h; omega
  constructor
  · intro hy
    obtain ⟨x, rfl⟩ := LoadRect.exists_idx_of_mem _ hy
    intro a
    have h : (LoadRect.idx _ x a).val = off a + 1 * (x a).val := rfl
    have := (x a).isLt
    change (x a).val < size a at this
    show off a ≤ _ ∧ _ < off a + size a
    rw [h]
    omega
  · intro hy
    have := Rect.mem_set_unit (s := s) (off := off) (size := size) (inb := hin y hy) (i := y)
    exact this.mpr hy

variable {sp : Space} (v : Memref sig .tc sp s e)

/-- Under stores that are all tiles of `G`, an element one of them covers reads `G`. -/
theorem read_tiles {sz : Fin s.rank → ℕ} {G : s.Idx → Elt Ideal e} (f : BufTy.Contents (Elt Ideal) v.view.ty)
    (L : List (Piece (Elt Ideal) s e)) (hL : ∀ p ∈ L, IsTile sz G p) (y : s.Idx)
    (h : ∃ o ∈ L.map (fun p => p.1.off), ∀ a, o a ≤ (y a).val ∧ (y a).val < o a + sz a) :
    v.view.read (Elt Ideal) (v.view.writes (Elt Ideal) f L) y = G y := by
  obtain ⟨o, ho, hy⟩ := h
  obtain ⟨p, hp, rfl⟩ := List.mem_map.mp ho
  exact View.read_writes_apply_of_pieces _ _ G L (fun p hp => (hL p hp).val) y ⟨p, hp, ((hL p hp).mem y).mpr hy⟩

variable {N : ℕ} (T : ℕ → List (Piece (Elt Ideal) s e)) (P : Fin N → List (Piece (Elt Ideal) s e))

/-- The stores of the first `n` trips are those of each of these trips. -/
theorem mem_trips (h0 : T 0 = []) (hs : ∀ k : Fin N, T (k.val + 1) = P k ++ T k.val) :
    ∀ n ≤ N, ∀ p, p ∈ T n ↔ ∃ k : Fin N, k.val < n ∧ p ∈ P k := by
  intro n
  induction n with
  | zero => intro _ p; rw [h0]; simp
  | succ n ih =>
    intro hn p
    rw [hs ⟨n, hn⟩, List.mem_append, ih (by omega)]
    constructor
    · rintro (h | ⟨k, hk, h⟩)
      · exact ⟨⟨n, hn⟩, Nat.lt_succ_self _, h⟩
      · exact ⟨k, by omega, h⟩
    · rintro ⟨k, hk, h⟩
      rcases Nat.lt_succ_iff_lt_or_eq.mp hk with hk | hk
      · exact Or.inr ⟨k, hk, h⟩
      · left; have : k = ⟨n, hn⟩ := Fin.ext hk
        rwa [this] at h

/-- After a loop whose trips all store tiles of `G`, an element some trip covers reads `G`. -/
theorem read_trips {sz : Fin s.rank → ℕ} {G : s.Idx → Elt Ideal e} (f : BufTy.Contents (Elt Ideal) v.view.ty)
    (h0 : T 0 = []) (hs : ∀ k : Fin N, T (k.val + 1) = P k ++ T k.val)
    (hP : ∀ k, ∀ p ∈ P k, IsTile sz G p) (y : s.Idx)
    (h : ∃ k, ∃ o ∈ (P k).map (fun p => p.1.off), ∀ a, o a ≤ (y a).val ∧ (y a).val < o a + sz a) :
    v.view.read (Elt Ideal) (v.view.writes (Elt Ideal) f (T N)) y = G y := by
  have hm := mem_trips T P h0 hs N le_rfl
  obtain ⟨k, o, ho, hy⟩ := h
  obtain ⟨p, hp, rfl⟩ := List.mem_map.mp ho
  refine read_tiles v f (T N) (fun p hp => ?_) y ⟨_, List.mem_map.mpr ⟨p, (hm p).mpr ⟨k, k.isLt, hp⟩, rfl⟩, hy⟩
  obtain ⟨k, -, h⟩ := (hm p).mp hp
  exact hP k p h

end

/-- A sum over the first `n * m` numbers, by blocks of `m`. -/
theorem sum_range_blocks {M : Type*} [AddCommMonoid M] (f : ℕ → M) (m : ℕ) :
    ∀ n, ∑ q ∈ Finset.range n, ∑ l ∈ Finset.range m, f (m * q + l) = ∑ x ∈ Finset.range (m * n), f x
  | 0 => by simp
  | n + 1 => by rw [Finset.sum_range_succ, sum_range_blocks f m n, Nat.mul_succ, Finset.sum_range_add]

/-- A row of a block as a function of the column's number, zero past the row's end. -/
def rowN (G : S128x7168.Idx → EReal) (r : Fin 128) (n : ℕ) : EReal :=
  if h : n < 7168 then G (ix2 r ⟨n, h⟩) else 0

theorem rowN_val (G : S128x7168.Idx → EReal) (y : S128x7168.Idx) (r : Fin 128) (n : ℕ) (h0 : (y 0).val = r.val) (h1 : (y 1).val = n) :
    rowN G r n = G y := by
  subst h1
  unfold rowN
  have h : (y 1).val < 7168 := (y 1).isLt
  rw [dif_pos h]
  congr 1
  exact Shape.idx_ext₂ (by rw [h0]; rfl) rfl

theorem sum_rowN (G : S128x7168.Idx → EReal) (r : Fin 128) :
    ∑ n ∈ Finset.range 7168, rowN G r n = ∑ c : Fin 7168, G (ix2 r c) := by
  rw [Finset.sum_range]
  exact Finset.sum_congr rfl fun c _ => dif_pos c.isLt

end Cert.KernelIdeal.Hand
-- ==== Proof.KernelIdeal.Center.lean ====
/-
  The centring loop: each trip stores 16 rows of h minus their mean, and the reciprocal of the rows' standard
  deviation.
-/
module

public import proofs.«01_k».proof.Proof.KernelIdeal.Tiles

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (Piece)

/-- The row of the block that a trip's row `r` of 16 is. -/
def rowOf (k : Fin 8) (r : Fin 16) : Fin 128 := ⟨16 * k.val + r.val, by omega⟩

/-- Two copies side by side of rows each holding one value: that value in each lane. -/
theorem concat_rows (m : Vec Ideal S16x128 .f32) (R : Fin 16 → EReal) (hm : ∀ j, m j = R (j 0)) (j : S16x256.Idx) :
    concatenate S16x256 1 [⟨S16x128, m⟩, ⟨S16x128, m⟩] concatenates_S16x128_S16x128_S16x256_d1 j = R (j 0) := by
  pointwise [hm]
  simp

section
variable {F : FTy → Type} [FloatOps F] [Named F]

/-- A tile of h minus its rows' means. -/
def cent (m : FVec F S16x256 .f32) (x : Vec F S16x256 .bf16) : FVec F S16x256 .f32 :=
  subf (extf .f32 (shapeCast S16x256 x shapeCasts_S16x256_S16x256) bitsLt_bf16_f32) m

/-- The running sums of squares, one tile further. -/
def sqAcc (m a : FVec F S16x256 .f32) (x : Vec F S16x256 .bf16) : FVec F S16x256 .f32 :=
  addf a (mulf (cent m x) (cent m x))

/-- From the sums of squares per lane to the reciprocal standard deviation of each row. -/
def rstdTile (acc : FVec F S16x256 .f32) : FVec F S16x128 .f32 :=
  broadcastTo S16x128 (shapeCast S16x1 (rsqrt (addf (mulf (shapeCast S16x1
    (multiReduction .add [1] S16 acc 0x00000000#32 reduces_S16x256_S16 (.inl rfl) rfl) shapeCasts_S16_S16x1)
      (broadcast S16x1 (Named.named κ "inv_d" 0x39124925#32)))
      (broadcast S16x1 (Scalar.ofBits .f32 0x3727C5AC#32)))) shapeCasts_S16x1_S16x1) broadcasts_S16x1_S16x128
end

/-- The reciprocal of the row length, as the kernel has it. -/
def invD : EReal := Named.named (F := Ideal) (φ := .f32) κ "inv_d" 0x39124925#32

/-- The constant added to the variance. -/
def epsV : EReal := Ideal.ofBits .f32 0x3727C5AC#32

theorem cent_val (m : FVec Ideal S16x256 .f32) (x : Vec Ideal S16x256 .bf16) (j : S16x256.Idx) :
    cent m x j = x j - m j := by
  pointwise [cent, shapeCast_self]

theorem sqAcc_val (m a : FVec Ideal S16x256 .f32) (x : Vec Ideal S16x256 .bf16) (j : S16x256.Idx) :
    sqAcc m a x j = a j + (x j - m j) * (x j - m j) := by
  pointwise [sqAcc, cent_val]

theorem rstdTile_val (acc : FVec Ideal S16x256 .f32) (j : S16x128.Idx) :
    rstdTile acc j = FloatOps.rsqrt (F := Ideal) (φ := .f32) ((∑ l : Fin 256, acc (ix2 (j 0) l)) * invD + epsV) := by
  pointwise [rstdTile, invD, epsV]

/-- The centred block. -/
def cBlk (H : S128x7168.Idx → EReal) (M : Fin 128 → EReal) (y : S128x7168.Idx) : EReal := H y - M (y 0)

/-- The reciprocal standard deviation of a row, from its centred entries. -/
def rstdRow (C : S128x7168.Idx → EReal) (r : Fin 128) : EReal :=
  FloatOps.rsqrt (F := Ideal) (φ := .f32) ((∑ c : Fin 7168, C (ix2 r c) * C (ix2 r c)) * invD + epsV)

section
variable (H : S128x7168.Idx → EReal) (M : Fin 128 → EReal)
  (arg13 : Memref sig .tc .vmem S128x7168 .bf16) (arg16 : Memref sig .tc .vmem S128x128 .f32)
    (X13 : BufTy.Contents (Elt Ideal) arg13.view.ty) (X16 : BufTy.Contents (Elt Ideal) arg16.view.ty)
    (hX13 : ∀ y, arg13.view.read (Elt Ideal) X13 y = H y) (hX16 : ∀ z, arg16.view.read (Elt Ideal) X16 z = M (z 0))
include hX13 hX16

theorem mean_rows (k : Fin k0_t2_loop.trips) (j : S16x256.Idx) :
    trip_k0_t2.sl.v198 (F := Ideal) arg16 X16 k j = M (rowOf k (j 0)) := by
  refine concat_rows _ (fun r => M (rowOf k r)) (fun z => ?_) j
  rw [readAt_unit_apply, hX16]
  congr 1
  have ho : ∀ k : Fin k0_t2_loop.trips, k0_off12 k 0 = 16 * k.val := by decide +kernel
  exact Fin.ext ((unit_emb_val (s := S128x128) _ _ _ _ _).trans (by rw [ho]; rfl))

omit hX16 in
/-- A tile of h, read by its place in the row. -/
theorem h_read (k : Fin k0_t2_loop.trips) (q : ℕ) (off : Fin 2 → ℕ) (inb : ∀ a, off a + S16x256.size a ≤ S128x7168.size a)
    (ho : off 0 = 16 * k.val ∧ off 1 = 256 * q) (j : S16x256.Idx) :
    View.readAt (Elt Ideal) arg13.view (Rect.unit (s := S128x7168) off S16x256.size inb).toLoadRect X13 j
      = rowN H (rowOf k (j 0)) (256 * q + (j 1).val) := by
  rw [readAt_unit_apply, hX13]
  refine (rowN_val H _ _ _ ?_ ?_).symm
  · rw [unit_emb_val, ho.1]; rfl
  · rw [unit_emb_val, ho.2]

theorem cent_piece (k : Fin k0_t2_loop.trips) (off : Fin 2 → ℕ) (inb : ∀ a, off a + S16x256.size a ≤ S128x7168.size a)
    (ho : off 0 = 16 * k.val) :
    IsTile (s := S128x7168) (e := .f32) S16x256.size (cBlk H M)
      ⟨Rect.unit (s := S128x7168) off S16x256.size inb, shapeCast S16x256 (cent (trip_k0_t2.sl.v198 (F := Ideal) arg16 X16 k)
        (View.readAt (Elt Ideal) arg13.view (Rect.unit (s := S128x7168) off S16x256.size inb).toLoadRect X13)) shapeCasts_S16x256_S16x256⟩ := by
  refine IsTile.unit fun x => ?_
  rw [shapeCast_self, cent_val, readAt_unit_apply, hX13, mean_rows H M arg13 arg16 X13 X16 hX13 hX16]
  unfold cBlk
  congr 2
  exact Fin.ext (((unit_emb_val (s := S128x7168) _ _ _ _ _).trans (by rw [ho]; rfl)).symm)

/-- The stores of one trip into the centred window. -/
def L15 (k : Fin k0_t2_loop.trips) : List (Piece (Elt Ideal) S128x7168 .f32) :=
  [⟨Rect.unit (s := S128x7168) (k0_off40 k) S16x256.size (k0_off40_inb k), k0_pay194 (trip_k0_t2.sl.v198 (F := Ideal) arg16 X16 k) (View.readAt (Elt Ideal) arg13.view (Rect.unit (s := S128x7168) (k0_off40 k) S16x256.size (k0_off40_inb k)).toLoadRect X13)⟩,
      ⟨Rect.unit (s := S128x7168) (k0_off39 k) S16x256.size (k0_off39_inb k), k0_pay192 (trip_k0_t2.sl.v198 (F := Ideal) arg16 X16 k) (View.readAt (Elt Ideal) arg13.view (Rect.unit (s := S128x7168) (k0_off39 k) S16x256.size (k0_off39_inb k)).toLoadRect X13)⟩,
      ⟨Rect.unit (s := S128x7168) (k0_off38 k) S16x256.size (k0_off38_inb k), k0_pay190 (trip_k0_t2.sl.v198 (F := Ideal) arg16 X16 k) (View.readAt (Elt Ideal) arg13.view (Rect.unit (s := S128x7168) (k0_off38 k) S16x256.size (k0_off38_inb k)).toLoadRect X13)⟩,
      ⟨Rect.unit (s := S128x7168) (k0_off37 k) S16x256.size (k0_off37_inb k), trip_k0_t2.sl.v473 (F := Ideal) arg13 arg16 X13 X16 k⟩,
      ⟨Rect.unit (s := S128x7168) (k0_off36 k) S16x256.size (k0_off36_inb k), trip_k0_t2.sl.v462 (F := Ideal) arg13 arg16 X13 X16 k⟩,
      ⟨Rect.unit (s := S128x7168) (k0_off35 k) S16x256.size (k0_off35_inb k), trip_k0_t2.sl.v451 (F := Ideal) arg13 arg16 X13 X16 k⟩,
      ⟨Rect.unit (s := S128x7168) (k0_off34 k) S16x256.size (k0_off34_inb k), trip_k0_t2.sl.v440 (F := Ideal) arg13 arg16 X13 X16 k⟩,
      ⟨Rect.unit (s := S128x7168) (k0_off33 k) S16x256.size (k0_off33_inb k), trip_k0_t2.sl.v429 (F := Ideal) arg13 arg16 X13 X16 k⟩,
      ⟨Rect.unit (s := S128x7168) (k0_off32 k) S16x256.size (k0_off32_inb k), trip_k0_t2.sl.v418 (F := Ideal) arg13 arg16 X13 X16 k⟩,
      ⟨Rect.unit (s := S128x7168) (k0_off31 k) S16x256.size (k0_off31_inb k), trip_k0_t2.sl.v407 (F := Ideal) arg13 arg16 X13 X16 k⟩,
      ⟨Rect.unit (s := S128x7168) (k0_off30 k) S16x256.size (k0_off30_inb k), trip_k0_t2.sl.v396 (F := Ideal) arg13 arg16 X13 X16 k⟩,
      ⟨Rect.unit (s := S128x7168) (k0_off29 k) S16x256.size (k0_off29_inb k), trip_k0_t2.sl.v385 (F := Ideal) arg13 arg16 X13 X16 k⟩,
      ⟨Rect.unit (s := S128x7168) (k0_off28 k) S16x256.size (k0_off28_inb k), trip_k0_t2.sl.v374 (F := Ideal) arg13 arg16 X13 X16 k⟩,
      ⟨Rect.unit (s := S128x7168) (k0_off27 k) S16x256.size (k0_off27_inb k), trip_k0_t2.sl.v363 (F := Ideal) arg13 arg16 X13 X16 k⟩,
      ⟨Rect.unit (s := S128x7168) (k0_off26 k) S16x256.size (k0_off26_inb k), trip_k0_t2.sl.v352 (F := Ideal) arg13 arg16 X13 X16 k⟩,
      ⟨Rect.unit (s := S128x7168) (k0_off25 k) S16x256.size (k0_off25_inb k), trip_k0_t2.sl.v341 (F := Ideal) arg13 arg16 X13 X16 k⟩,
      ⟨Rect.unit (s := S128x7168) (k0_off24 k) S16x256.size (k0_off24_inb k), trip_k0_t2.sl.v330 (F := Ideal) arg13 arg16 X13 X16 k⟩,
      ⟨Rect.unit (s := S128x7168) (k0_off23 k) S16x256.size (k0_off23_inb k), trip_k0_t2.sl.v319 (F := Ideal) arg13 arg16 X13 X16 k⟩,
      ⟨Rect.unit (s := S128x7168) (k0_off22 k) S16x256.size (k0_off22_inb k), trip_k0_t2.sl.v308 (F := Ideal) arg13 arg16 X13 X16 k⟩,
      ⟨Rect.unit (s := S128x7168) (k0_off21 k) S16x256.size (k0_off21_inb k), trip_k0_t2.sl.v297 (F := Ideal) arg13 arg16 X13 X16 k⟩,
      ⟨Rect.unit (s := S128x7168) (k0_off20 k) S16x256.size (k0_off20_inb k), trip_k0_t2.sl.v286 (F := Ideal) arg13 arg16 X13 X16 k⟩,
      ⟨Rect.unit (s := S128x7168) (k0_off19 k) S16x256.size (k0_off19_inb k), trip_k0_t2.sl.v275 (F := Ideal) arg13 arg16 X13 X16 k⟩,
      ⟨Rect.unit (s := S128x7168) (k0_off18 k) S16x256.size (k0_off18_inb k), trip_k0_t2.sl.v264 (F := Ideal) arg13 arg16 X13 X16 k⟩,
      ⟨Rect.unit (s := S128x7168) (k0_off17 k) S16x256.size (k0_off17_inb k), trip_k0_t2.sl.v253 (F := Ideal) arg13 arg16 X13 X16 k⟩,
      ⟨Rect.unit (s := S128x7168) (k0_off16 k) S16x256.size (k0_off16_inb k), trip_k0_t2.sl.v242 (F := Ideal) arg13 arg16 X13 X16 k⟩,
      ⟨Rect.unit (s := S128x7168) (k0_off15 k) S16x256.size (k0_off15_inb k), trip_k0_t2.sl.v231 (F := Ideal) arg13 arg16 X13 X16 k⟩,
      ⟨Rect.unit (s := S128x7168) (k0_off14 k) S16x256.size (k0_off14_inb k), trip_k0_t2.sl.v220 (F := Ideal) arg13 arg16 X13 X16 k⟩,
      ⟨Rect.unit (s := S128x7168) (k0_off13 k) S16x256.size (k0_off13_inb k), trip_k0_t2.sl.v209 (F := Ideal) arg13 arg16 X13 X16 k⟩]

theorem L15_tiles (k : Fin k0_t2_loop.trips) : ∀ p ∈ L15 arg13 arg16 X13 X16 k, IsTile (s := S128x7168) S16x256.size (cBlk H M) p := by
  unfold L15
  iterate 28 refine forall_cons (cent_piece H M arg13 arg16 X13 X16 hX13 hX16 k _ _ (by clear hX13 hX16; revert k; decide +kernel)) ?_
  exact forall_nil _

omit hX13 hX16 in
theorem L15_cover (k : Fin k0_t2_loop.trips) (y : S128x7168.Idx) (h : 16 * k.val ≤ (y 0).val) (h' : (y 0).val < 16 * k.val + 16) :
    ∃ o ∈ (L15 arg13 arg16 X13 X16 k).map (fun p => p.1.off), ∀ a, o a ≤ (y a).val ∧ (y a).val < o a + S16x256.size a := by
  have e : (L15 arg13 arg16 X13 X16 k).map (fun p => p.1.off) = [k0_off40 k, k0_off39 k, k0_off38 k, k0_off37 k, k0_off36 k, k0_off35 k, k0_off34 k, k0_off33 k, k0_off32 k, k0_off31 k, k0_off30 k, k0_off29 k, k0_off28 k, k0_off27 k, k0_off26 k, k0_off25 k, k0_off24 k, k0_off23 k, k0_off22 k, k0_off21 k, k0_off20 k, k0_off19 k, k0_off18 k, k0_off17 k, k0_off16 k, k0_off15 k, k0_off14 k, k0_off13 k] := rfl
  rw [e]
  have hc : ∀ k : Fin k0_t2_loop.trips, ∀ q : Fin 28, ∃ o ∈ ([k0_off40 k, k0_off39 k, k0_off38 k, k0_off37 k, k0_off36 k, k0_off35 k, k0_off34 k, k0_off33 k, k0_off32 k, k0_off31 k, k0_off30 k, k0_off29 k, k0_off28 k, k0_off27 k, k0_off26 k, k0_off25 k, k0_off24 k, k0_off23 k, k0_off22 k, k0_off21 k, k0_off20 k, k0_off19 k, k0_off18 k, k0_off17 k, k0_off16 k, k0_off15 k, k0_off14 k, k0_off13 k] : List (Fin 2 → ℕ)),
      o 0 = 16 * k.val ∧ o 1 = 256 * q.val := by decide +kernel
  have h1 : (y 1).val < 7168 := (y 1).isLt
  obtain ⟨o, ho, e0, e1⟩ := hc k ⟨(y 1).val / 256, by omega⟩
  refine ⟨o, ho, Fin.forall_fin_two.mpr ⟨?_, ?_⟩⟩
  · show o 0 ≤ (y 0).val ∧ (y 0).val < o 0 + 16
    omega
  · show o 1 ≤ (y 1).val ∧ (y 1).val < o 1 + 256
    simp only at e1; omega

omit hX13 hX16 in
/-- The running sums of squares over a list of tiles. -/
theorem sq_foldl (k : Fin k0_t2_loop.trips) (m : FVec Ideal S16x256 .f32) (hm : ∀ j, m j = M (rowOf k (j 0))) :
    ∀ (l : List (Vec Ideal S16x256 .bf16)) (qs : List ℕ),
      List.Forall₂ (fun x q => ∀ j : S16x256.Idx, x j = rowN H (rowOf k (j 0)) (256 * q + (j 1).val)) l qs →
      ∀ (z : FVec Ideal S16x256 .f32) (j : S16x256.Idx), l.foldl (sqAcc m) z j
        = z j + (qs.map fun q => (rowN H (rowOf k (j 0)) (256 * q + (j 1).val) - M (rowOf k (j 0)))
            * (rowN H (rowOf k (j 0)) (256 * q + (j 1).val) - M (rowOf k (j 0)))).sum := by
  intro l qs h
  induction h with
  | nil => intro z j; simp
  | cons h _ ih =>
    intro z j
    rw [List.foldl_cons, ih, sqAcc_val, h j, hm, List.map_cons, List.sum_cons, add_assoc]

omit hX13 hX16 in
theorem trip2_r (k : Fin k0_t2_loop.trips) :
    trip_k0_t2.sl.r (F := Ideal) arg13 arg16 X13 X16 k
      = rstdTile (addf (List.foldl (sqAcc (trip_k0_t2.sl.v198 (F := Ideal) arg16 X16 k)) (broadcast S16x256 (Scalar.ofBits .f32 0x00000000#32))
          [View.readAt (Elt Ideal) arg13.view (Rect.unit (s := S128x7168) (k0_off13 k) S16x256.size (k0_off13_inb k)).toLoadRect X13, View.readAt (Elt Ideal) arg13.view (Rect.unit (s := S128x7168) (k0_off15 k) S16x256.size (k0_off15_inb k)).toLoadRect X13, View.readAt (Elt Ideal) arg13.view (Rect.unit (s := S128x7168) (k0_off17 k) S16x256.size (k0_off17_inb k)).toLoadRect X13, View.readAt (Elt Ideal) arg13.view (Rect.unit (s := S128x7168) (k0_off19 k) S16x256.size (k0_off19_inb k)).toLoadRect X13, View.readAt (Elt Ideal) arg13.view (Rect.unit (s := S128x7168) (k0_off21 k) S16x256.size (k0_off21_inb k)).toLoadRect X13, View.readAt (Elt Ideal) arg13.view (Rect.unit (s := S128x7168) (k0_off23 k) S16x256.size (k0_off23_inb k)).toLoadRect X13, View.readAt (Elt Ideal) arg13.view (Rect.unit (s := S128x7168) (k0_off25 k) S16x256.size (k0_off25_inb k)).toLoadRect X13, View.readAt (Elt Ideal) arg13.view (Rect.unit (s := S128x7168) (k0_off27 k) S16x256.size (k0_off27_inb k)).toLoadRect X13, View.readAt (Elt Ideal) arg13.view (Rect.unit (s := S128x7168) (k0_off29 k) S16x256.size (k0_off29_inb k)).toLoadRect X13, View.readAt (Elt Ideal) arg13.view (Rect.unit (s := S128x7168) (k0_off31 k) S16x256.size (k0_off31_inb k)).toLoadRect X13, View.readAt (Elt Ideal) arg13.view (Rect.unit (s := S128x7168) (k0_off33 k) S16x256.size (k0_off33_inb k)).toLoadRect X13, View.readAt (Elt Ideal) arg13.view (Rect.unit (s := S128x7168) (k0_off35 k) S16x256.size (k0_off35_inb k)).toLoadRect X13, View.readAt (Elt Ideal) arg13.view (Rect.unit (s := S128x7168) (k0_off37 k) S16x256.size (k0_off37_inb k)).toLoadRect X13, View.readAt (Elt Ideal) arg13.view (Rect.unit (s := S128x7168) (k0_off39 k) S16x256.size (k0_off39_inb k)).toLoadRect X13])
        (List.foldl (sqAcc (trip_k0_t2.sl.v198 (F := Ideal) arg16 X16 k)) (broadcast S16x256 (Scalar.ofBits .f32 0x00000000#32))
          [View.readAt (Elt Ideal) arg13.view (Rect.unit (s := S128x7168) (k0_off14 k) S16x256.size (k0_off14_inb k)).toLoadRect X13, View.readAt (Elt Ideal) arg13.view (Rect.unit (s := S128x7168) (k0_off16 k) S16x256.size (k0_off16_inb k)).toLoadRect X13, View.readAt (Elt Ideal) arg13.view (Rect.unit (s := S128x7168) (k0_off18 k) S16x256.size (k0_off18_inb k)).toLoadRect X13, View.readAt (Elt Ideal) arg13.view (Rect.unit (s := S128x7168) (k0_off20 k) S16x256.size (k0_off20_inb k)).toLoadRect X13, View.readAt (Elt Ideal) arg13.view (Rect.unit (s := S128x7168) (k0_off22 k) S16x256.size (k0_off22_inb k)).toLoadRect X13, View.readAt (Elt Ideal) arg13.view (Rect.unit (s := S128x7168) (k0_off24 k) S16x256.size (k0_off24_inb k)).toLoadRect X13, View.readAt (Elt Ideal) arg13.view (Rect.unit (s := S128x7168) (k0_off26 k) S16x256.size (k0_off26_inb k)).toLoadRect X13, View.readAt (Elt Ideal) arg13.view (Rect.unit (s := S128x7168) (k0_off28 k) S16x256.size (k0_off28_inb k)).toLoadRect X13, View.readAt (Elt Ideal) arg13.view (Rect.unit (s := S128x7168) (k0_off30 k) S16x256.size (k0_off30_inb k)).toLoadRect X13, View.readAt (Elt Ideal) arg13.view (Rect.unit (s := S128x7168) (k0_off32 k) S16x256.size (k0_off32_inb k)).toLoadRect X13, View.readAt (Elt Ideal) arg13.view (Rect.unit (s := S128x7168) (k0_off34 k) S16x256.size (k0_off34_inb k)).toLoadRect X13, View.readAt (Elt Ideal) arg13.view (Rect.unit (s := S128x7168) (k0_off36 k) S16x256.size (k0_off36_inb k)).toLoadRect X13, View.readAt (Elt Ideal) arg13.view (Rect.unit (s := S128x7168) (k0_off38 k) S16x256.size (k0_off38_inb k)).toLoadRect X13, View.readAt (Elt Ideal) arg13.view (Rect.unit (s := S128x7168) (k0_off40 k) S16x256.size (k0_off40_inb k)).toLoadRect X13])) := rfl

theorem rstd_rows (k : Fin k0_t2_loop.trips) (j : S16x128.Idx) :
    trip_k0_t2.sl.r (F := Ideal) arg13 arg16 X13 X16 k j = rstdRow (cBlk H M) (rowOf k (j 0)) := by
  have hm := mean_rows H M arg13 arg16 X13 X16 hX13 hX16 k
  rw [trip2_r, rstdTile_val]
  unfold rstdRow
  congr 3
  have hE := sq_foldl H M k _ hm [View.readAt (Elt Ideal) arg13.view (Rect.unit (s := S128x7168) (k0_off13 k) S16x256.size (k0_off13_inb k)).toLoadRect X13, View.readAt (Elt Ideal) arg13.view (Rect.unit (s := S128x7168) (k0_off15 k) S16x256.size (k0_off15_inb k)).toLoadRect X13, View.readAt (Elt Ideal) arg13.view (Rect.unit (s := S128x7168) (k0_off17 k) S16x256.size (k0_off17_inb k)).toLoadRect X13, View.readAt (Elt Ideal) arg13.view (Rect.unit (s := S128x7168) (k0_off19 k) S16x256.size (k0_off19_inb k)).toLoadRect X13, View.readAt (Elt Ideal) arg13.view (Rect.unit (s := S128x7168) (k0_off21 k) S16x256.size (k0_off21_inb k)).toLoadRect X13, View.readAt (Elt Ideal) arg13.view (Rect.unit (s := S128x7168) (k0_off23 k) S16x256.size (k0_off23_inb k)).toLoadRect X13, View.readAt (Elt Ideal) arg13.view (Rect.unit (s := S128x7168) (k0_off25 k) S16x256.size (k0_off25_inb k)).toLoadRect X13, View.readAt (Elt Ideal) arg13.view (Rect.unit (s := S128x7168) (k0_off27 k) S16x256.size (k0_off27_inb k)).toLoadRect X13, View.readAt (Elt Ideal) arg13.view (Rect.unit (s := S128x7168) (k0_off29 k) S16x256.size (k0_off29_inb k)).toLoadRect X13, View.readAt (Elt Ideal) arg13.view (Rect.unit (s := S128x7168) (k0_off31 k) S16x256.size (k0_off31_inb k)).toLoadRect X13, View.readAt (Elt Ideal) arg13.view (Rect.unit (s := S128x7168) (k0_off33 k) S16x256.size (k0_off33_inb k)).toLoadRect X13, View.readAt (Elt Ideal) arg13.view (Rect.unit (s := S128x7168) (k0_off35 k) S16x256.size (k0_off35_inb k)).toLoadRect X13, View.readAt (Elt Ideal) arg13.view (Rect.unit (s := S128x7168) (k0_off37 k) S16x256.size (k0_off37_inb k)).toLoadRect X13, View.readAt (Elt Ideal) arg13.view (Rect.unit (s := S128x7168) (k0_off39 k) S16x256.size (k0_off39_inb k)).toLoadRect X13] [0, 2, 4, 6, 8, 10, 12, 14, 16, 18, 20, 22, 24, 26] (by
    iterate 14 refine List.Forall₂.cons (h_read H arg13 X13 hX13 k _ _ _ (by clear hm hX13 hX16; revert k; decide +kernel)) ?_
    exact List.Forall₂.nil) (broadcast S16x256 (Scalar.ofBits .f32 0x00000000#32))
  have hO := sq_foldl H M k _ hm [View.readAt (Elt Ideal) arg13.view (Rect.unit (s := S128x7168) (k0_off14 k) S16x256.size (k0_off14_inb k)).toLoadRect X13, View.readAt (Elt Ideal) arg13.view (Rect.unit (s := S128x7168) (k0_off16 k) S16x256.size (k0_off16_inb k)).toLoadRect X13, View.readAt (Elt Ideal) arg13.view (Rect.unit (s := S128x7168) (k0_off18 k) S16x256.size (k0_off18_inb k)).toLoadRect X13, View.readAt (Elt Ideal) arg13.view (Rect.unit (s := S128x7168) (k0_off20 k) S16x256.size (k0_off20_inb k)).toLoadRect X13, View.readAt (Elt Ideal) arg13.view (Rect.unit (s := S128x7168) (k0_off22 k) S16x256.size (k0_off22_inb k)).toLoadRect X13, View.readAt (Elt Ideal) arg13.view (Rect.unit (s := S128x7168) (k0_off24 k) S16x256.size (k0_off24_inb k)).toLoadRect X13, View.readAt (Elt Ideal) arg13.view (Rect.unit (s := S128x7168) (k0_off26 k) S16x256.size (k0_off26_inb k)).toLoadRect X13, View.readAt (Elt Ideal) arg13.view (Rect.unit (s := S128x7168) (k0_off28 k) S16x256.size (k0_off28_inb k)).toLoadRect X13, View.readAt (Elt Ideal) arg13.view (Rect.unit (s := S128x7168) (k0_off30 k) S16x256.size (k0_off30_inb k)).toLoadRect X13, View.readAt (Elt Ideal) arg13.view (Rect.unit (s := S128x7168) (k0_off32 k) S16x256.size (k0_off32_inb k)).toLoadRect X13, View.readAt (Elt Ideal) arg13.view (Rect.unit (s := S128x7168) (k0_off34 k) S16x256.size (k0_off34_inb k)).toLoadRect X13, View.readAt (Elt Ideal) arg13.view (Rect.unit (s := S128x7168) (k0_off36 k) S16x256.size (k0_off36_inb k)).toLoadRect X13, View.readAt (Elt Ideal) arg13.view (Rect.unit (s := S128x7168) (k0_off38 k) S16x256.size (k0_off38_inb k)).toLoadRect X13, View.readAt (Elt Ideal) arg13.view (Rect.unit (s := S128x7168) (k0_off40 k) S16x256.size (k0_off40_inb k)).toLoadRect X13] [1, 3, 5, 7, 9, 11, 13, 15, 17, 19, 21, 23, 25, 27] (by
    iterate 14 refine List.Forall₂.cons (h_read H arg13 X13 hX13 k _ _ _ (by clear hm hE hX13 hX16; revert k; decide +kernel)) ?_
    exact List.Forall₂.nil) (broadcast S16x256 (Scalar.ofBits .f32 0x00000000#32))
  have hz : ∀ j, (broadcast S16x256 (Scalar.ofBits (F := Ideal) .f32 0x00000000#32) : FVec Ideal S16x256 .f32) j = 0 := fun _ => Ideal.ofBits_zero_f32
  have h1 : ∀ l : Fin 256, (addf (F := Ideal) (List.foldl (sqAcc (trip_k0_t2.sl.v198 (F := Ideal) arg16 X16 k)) (broadcast S16x256 (Scalar.ofBits .f32 0x00000000#32)) [View.readAt (Elt Ideal) arg13.view (Rect.unit (s := S128x7168) (k0_off13 k) S16x256.size (k0_off13_inb k)).toLoadRect X13, View.readAt (Elt Ideal) arg13.view (Rect.unit (s := S128x7168) (k0_off15 k) S16x256.size (k0_off15_inb k)).toLoadRect X13, View.readAt (Elt Ideal) arg13.view (Rect.unit (s := S128x7168) (k0_off17 k) S16x256.size (k0_off17_inb k)).toLoadRect X13, View.readAt (Elt Ideal) arg13.view (Rect.unit (s := S128x7168) (k0_off19 k) S16x256.size (k0_off19_inb k)).toLoadRect X13, View.readAt (Elt Ideal) arg13.view (Rect.unit (s := S128x7168) (k0_off21 k) S16x256.size (k0_off21_inb k)).toLoadRect X13, View.readAt (Elt Ideal) arg13.view (Rect.unit (s := S128x7168) (k0_off23 k) S16x256.size (k0_off23_inb k)).toLoadRect X13, View.readAt (Elt Ideal) arg13.view (Rect.unit (s := S128x7168) (k0_off25 k) S16x256.size (k0_off25_inb k)).toLoadRect X13, View.readAt (Elt Ideal) arg13.view (Rect.unit (s := S128x7168) (k0_off27 k) S16x256.size (k0_off27_inb k)).toLoadRect X13, View.readAt (Elt Ideal) arg13.view (Rect.unit (s := S128x7168) (k0_off29 k) S16x256.size (k0_off29_inb k)).toLoadRect X13, View.readAt (Elt Ideal) arg13.view (Rect.unit (s := S128x7168) (k0_off31 k) S16x256.size (k0_off31_inb k)).toLoadRect X13, View.readAt (Elt Ideal) arg13.view (Rect.unit (s := S128x7168) (k0_off33 k) S16x256.size (k0_off33_inb k)).toLoadRect X13, View.readAt (Elt Ideal) arg13.view (Rect.unit (s := S128x7168) (k0_off35 k) S16x256.size (k0_off35_inb k)).toLoadRect X13, View.readAt (Elt Ideal) arg13.view (Rect.unit (s := S128x7168) (k0_off37 k) S16x256.size (k0_off37_inb k)).toLoadRect X13, View.readAt (Elt Ideal) arg13.view (Rect.unit (s := S128x7168) (k0_off39 k) S16x256.size (k0_off39_inb k)).toLoadRect X13])
        (List.foldl (sqAcc (trip_k0_t2.sl.v198 (F := Ideal) arg16 X16 k)) (broadcast S16x256 (Scalar.ofBits .f32 0x00000000#32)) [View.readAt (Elt Ideal) arg13.view (Rect.unit (s := S128x7168) (k0_off14 k) S16x256.size (k0_off14_inb k)).toLoadRect X13, View.readAt (Elt Ideal) arg13.view (Rect.unit (s := S128x7168) (k0_off16 k) S16x256.size (k0_off16_inb k)).toLoadRect X13, View.readAt (Elt Ideal) arg13.view (Rect.unit (s := S128x7168) (k0_off18 k) S16x256.size (k0_off18_inb k)).toLoadRect X13, View.readAt (Elt Ideal) arg13.view (Rect.unit (s := S128x7168) (k0_off20 k) S16x256.size (k0_off20_inb k)).toLoadRect X13, View.readAt (Elt Ideal) arg13.view (Rect.unit (s := S128x7168) (k0_off22 k) S16x256.size (k0_off22_inb k)).toLoadRect X13, View.readAt (Elt Ideal) arg13.view (Rect.unit (s := S128x7168) (k0_off24 k) S16x256.size (k0_off24_inb k)).toLoadRect X13, View.readAt (Elt Ideal) arg13.view (Rect.unit (s := S128x7168) (k0_off26 k) S16x256.size (k0_off26_inb k)).toLoadRect X13, View.readAt (Elt Ideal) arg13.view (Rect.unit (s := S128x7168) (k0_off28 k) S16x256.size (k0_off28_inb k)).toLoadRect X13, View.readAt (Elt Ideal) arg13.view (Rect.unit (s := S128x7168) (k0_off30 k) S16x256.size (k0_off30_inb k)).toLoadRect X13, View.readAt (Elt Ideal) arg13.view (Rect.unit (s := S128x7168) (k0_off32 k) S16x256.size (k0_off32_inb k)).toLoadRect X13, View.readAt (Elt Ideal) arg13.view (Rect.unit (s := S128x7168) (k0_off34 k) S16x256.size (k0_off34_inb k)).toLoadRect X13, View.readAt (Elt Ideal) arg13.view (Rect.unit (s := S128x7168) (k0_off36 k) S16x256.size (k0_off36_inb k)).toLoadRect X13, View.readAt (Elt Ideal) arg13.view (Rect.unit (s := S128x7168) (k0_off38 k) S16x256.size (k0_off38_inb k)).toLoadRect X13, View.readAt (Elt Ideal) arg13.view (Rect.unit (s := S128x7168) (k0_off40 k) S16x256.size (k0_off40_inb k)).toLoadRect X13])) (ix2 (j 0) l)
      = ∑ q ∈ Finset.range 28, (rowN H (rowOf k (j 0)) (256 * q + l.val) - M (rowOf k (j 0)))
            * (rowN H (rowOf k (j 0)) (256 * q + l.val) - M (rowOf k (j 0))) := by
    intro l
    refine (congrArg₂ (· + ·) (hE (ix2 (j 0) l)) (hO (ix2 (j 0) l))).trans ?_
    rw [hz, zero_add, zero_add]
    simp only [List.map_cons, List.map_nil, List.sum_cons, List.sum_nil, Finset.sum_range_succ, Finset.sum_range_zero, zero_add, add_zero]
    show _ = _
    simp only [ix2]
    abel_nf
  refine (Finset.sum_congr rfl fun l _ => h1 l).trans ?_
  rw [← Finset.sum_range (fun l => ∑ q ∈ Finset.range 28, (rowN H (rowOf k (j 0)) (256 * q + l) - M (rowOf k (j 0)))
            * (rowN H (rowOf k (j 0)) (256 * q + l) - M (rowOf k (j 0)))), Finset.sum_comm,
    sum_range_blocks (fun n => (rowN H (rowOf k (j 0)) n - M (rowOf k (j 0))) * (rowN H (rowOf k (j 0)) n - M (rowOf k (j 0)))) 256 28,
    Finset.sum_range]
  refine Finset.sum_congr rfl fun c _ => ?_
  have : rowN H (rowOf k (j 0)) c.val = H (ix2 (rowOf k (j 0)) c) := dif_pos c.isLt
  rw [this]
  rfl
end

section
variable (H : S128x7168.Idx → EReal) (M : Fin 128 → EReal)
  (𝒱 : Variants) (c : Dev nD) (bd : Option 𝒱.V) (i : grid0.Coords)
    (arg1 : Memref sig .tc .vmem S128x7168 .bf16) (harg1 : arg1.IsWhole)
    (arg2 : Memref sig .tc .vmem S128x7168 .bf16) (harg2 : arg2.IsWhole)
    (arg3 : Memref sig .tc .vmem S1x7168 .f32) (harg3 : arg3.IsWhole)
    (arg4 : Memref sig .tc .vmem S128x7168 .i32) (harg4 : arg4.IsWhole)
    (arg5 : Memref sig .tc .vmem S1x7168 .f32) (harg5 : arg5.IsWhole)
    (arg6 : Memref sig .tc .vmem S1x7168 .f32) (harg6 : arg6.IsWhole)
    (arg7 : Memref sig .tc .vmem S1024x128 .bf16) (harg7 : arg7.IsWhole)
    (arg8 : Memref sig .tc .vmem S128x7168 .fp8e4m3) (harg8 : arg8.IsWhole)
    (arg9 : Memref sig .tc .vmem S4x3072 .f32) (harg9 : arg9.IsWhole)
    (arg10 : Memref sig .tc .vmem S128x896 .i8) (harg10 : arg10.IsWhole)
    (arg11 : Memref sig .tc .vmem S4x3072 .f32) (harg11 : arg11.IsWhole)
    (arg12 : Memref sig .tc .vmem S4x3072 .f32) (harg12 : arg12.IsWhole)
    (arg13 : Memref sig .tc .vmem S128x7168 .bf16) (harg13 : arg13.IsWhole)
    (arg14 : Memref sig .tc .vmem S128x1024 .bf16) (harg14 : arg14.IsWhole)
    (arg15 : Memref sig .tc .vmem S128x7168 .f32) (harg15 : arg15.IsWhole)
    (arg16 : Memref sig .tc .vmem S128x128 .f32) (harg16 : arg16.IsWhole)
    (arg17 : Memref sig .tc .vmem S128x128 .f32) (harg17 : arg17.IsWhole)
    (arg18 : Memref sig .tc .vmem S128x128 .f32) (harg18 : arg18.IsWhole)
    (arg19 : Memref sig .tc .vmem S128x128 .f32) (harg19 : arg19.IsWhole)
  (X13 : BufTy.Contents (Elt Ideal) arg13.view.ty) (X16 : BufTy.Contents (Elt Ideal) arg16.view.ty)
    (hX13 : ∀ y, arg13.view.read (Elt Ideal) X13 y = H y) (hX16 : ∀ z, arg16.view.read (Elt Ideal) X16 z = M (z 0))

/-- The stores before trip `n` into the centred window and the window of reciprocal standard deviations. -/
abbrev pb2 (n : ℕ) := pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X13 X16 n

theorem pb2_succ (k : Fin k0_t2_loop.trips) :
    pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X13 X16 (k.val + 1)
      = (L15 arg13 arg16 X13 X16 k ++ (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X13 X16 k.val).1,
        [⟨Rect.unit (s := S128x128) (k0_off12 k) S16x128.size (k0_off12_inb k), k0_pay323 (trip_k0_t2.sl.r (F := Ideal) arg13 arg16 X13 X16 k)⟩]
          ++ (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X13 X16 k.val).2) := by
  refine (pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X13 X16 k).trans ?_
  simp only [tripL_k0_t2]
  unfold trip_k0_t2
  rfl

include hX13 hX16

/-- After the loop the centred window holds h minus the rows' means. -/
theorem t2_cent (f : BufTy.Contents (Elt Ideal) arg15.view.ty) (y : S128x7168.Idx) :
    arg15.view.read (Elt Ideal) (arg15.view.writes (Elt Ideal) f (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X13 X16 k0_t2_loop.trips).1) y = cBlk H M y := by
  have h : (y 0).val < 128 := (y 0).isLt
  have hk : (y 0).val / 16 < k0_t2_loop.trips := by
    have : k0_t2_loop.trips = 8 := by decide
    omega
  refine read_trips arg15 (fun n => (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X13 X16 n).1)
    (fun k => L15 arg13 arg16 X13 X16 k) f rfl
    (fun k => congrArg (fun s => s.1) (pb2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X13 X16 k)) (L15_tiles H M arg13 arg16 X13 X16 hX13 hX16) y
    ⟨⟨(y 0).val / 16, hk⟩, L15_cover arg13 arg16 X13 X16 _ y ?_ ?_⟩
  · show 16 * ((y 0).val / 16) ≤ _
    omega
  · show _ < 16 * ((y 0).val / 16) + 16
    omega

/-- After the loop each lane of a row holds the row's reciprocal standard deviation. -/
theorem t2_rstd (f : BufTy.Contents (Elt Ideal) arg17.view.ty) (z : S128x128.Idx) :
    arg17.view.read (Elt Ideal) (arg17.view.writes (Elt Ideal) f (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X13 X16 k0_t2_loop.trips).2) z
      = rstdRow (cBlk H M) (z 0) := by
  have h : (z 0).val < 128 := (z 0).isLt
  have h1 : (z 1).val < 128 := (z 1).isLt
  have hk : (z 0).val / 16 < k0_t2_loop.trips := by
    have : k0_t2_loop.trips = 8 := by decide
    omega
  have ho : ∀ k : Fin k0_t2_loop.trips, k0_off12 k 0 = 16 * k.val ∧ k0_off12 k 1 = 0 := by decide +kernel
  refine read_trips (G := fun z : S128x128.Idx => rstdRow (cBlk H M) (z 0)) arg17 (fun n => (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X13 X16 n).2)
    (fun k => [⟨Rect.unit (s := S128x128) (k0_off12 k) S16x128.size (k0_off12_inb k), k0_pay323 (trip_k0_t2.sl.r (F := Ideal) arg13 arg16 X13 X16 k)⟩]) f rfl
    (fun k => congrArg (fun s => s.2) (pb2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X13 X16 k))
    (fun k => forall_cons (IsTile.unit fun x => ?_) (forall_nil _)) z
    ⟨⟨(z 0).val / 16, hk⟩, _, List.mem_singleton.mpr rfl, Fin.forall_fin_two.mpr ⟨?_, ?_⟩⟩
  · unfold k0_pay323
    rw [shapeCast_self, rstd_rows H M arg13 arg16 X13 X16 hX13 hX16]
    congr 1
    exact Fin.ext (((unit_emb_val (s := S128x128) _ _ _ _ _).trans (by rw [(ho k).1]; rfl)).symm)
  · show k0_off12 ⟨(z 0).val / 16, hk⟩ 0 ≤ (z 0).val ∧ (z 0).val < k0_off12 ⟨(z 0).val / 16, hk⟩ 0 + 16
    rw [(ho _).1]; simp only; omega
  · show k0_off12 ⟨(z 0).val / 16, hk⟩ 1 ≤ (z 1).val ∧ (z 1).val < k0_off12 ⟨(z 0).val / 16, hk⟩ 1 + 128
    rw [(ho _).2]; omega

end

end Cert.KernelIdeal.Hand
-- ==== Proof.KernelIdeal.Norm.lean ====
/-
  The normalising loop: each trip turns 16 centred rows into normalised ones and stores the rows' largest
  absolute values.
-/
module

public import proofs.«01_k».proof.Proof.KernelIdeal.Center

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (Piece)

section
variable {F : FTy → Type} [FloatOps F] [Named F]

/-- A tile of the normalised rows. -/
def yTile (m : FVec F S16x256 .f32) (x : Vec F S16x256 .f32) (g b : Vec F S1x256 .f32) : FVec F S16x256 .f32 :=
  addf (mulf (mulf x m) (broadcastTo S16x256 (shapeCast S1x256 g shapeCasts_S1x256_S1x256) broadcasts_S1x256_S16x256))
    (broadcastTo S16x256 (shapeCast S1x256 b shapeCasts_S1x256_S1x256) broadcasts_S1x256_S16x256)

/-- The running largest absolute values, one tile further. -/
def mxAcc (a y : FVec F S16x256 .f32) : FVec F S16x256 .f32 := maximumf a (absf y)

/-- From the largest absolute values per lane to those of the rows. -/
def amaxTile (acc : FVec F S16x256 .f32) : FVec F S16x128 .f32 :=
  shapeCast S16x128 (broadcastTo S16x128 (shapeCast S16x1 (shapeCast S16x1
    (multiReduction .maximumf [1] S16 acc 0xFF800000#32 reduces_S16x256_S16 (.inl rfl) rfl) shapeCasts_S16_S16x1)
    shapeCasts_S16x1_S16x1) broadcasts_S16x1_S16x128) shapeCasts_S16x128_S16x128
end

/-- The absolute value. -/
def absE (x : EReal) : EReal := FloatOps.absf (F := Ideal) (φ := .f32) x

theorem absE_eq (x : EReal) : absE x = max x (-x) := rfl

theorem absE_nonneg (x : EReal) : 0 ≤ absE x := by
  rw [absE_eq]
  rcases le_total 0 x with h | h
  · exact h.trans (le_max_left _ _)
  · exact (EReal.neg_nonneg.mpr h).trans (le_max_right _ _)

theorem yTile_val (m : FVec Ideal S16x256 .f32) (x : Vec Ideal S16x256 .f32) (g b : Vec Ideal S1x256 .f32) (j : S16x256.Idx) :
    yTile m x g b j = x j * m j * g (ix2 0 (j 1)) + b (ix2 0 (j 1)) := by
  pointwise [yTile, shapeCast_self]

theorem mxAcc_val (a y : FVec Ideal S16x256 .f32) (j : S16x256.Idx) : mxAcc a y j = max (a j) (absE (y j)) := by
  pointwise [mxAcc, absE]

/-- The pattern of minus infinity. -/
theorem ofBits_ninf : Ideal.ofBits .f32 0xFF800000#32 = ⊥ := by simp [Ideal.ofBits, Ideal.ieee]

theorem amaxTile_val (acc : FVec Ideal S16x256 .f32) (j : S16x128.Idx) :
    amaxTile acc j = Finset.univ.fold max ⊥ (fun l : Fin 256 => acc (ix2 (j 0) l)) := by
  pointwise [amaxTile, shapeCast_self]
  rw [ofBits_ninf]

/-- The block of normalised rows. -/
def yBlk (C : S128x7168.Idx → EReal) (R : Fin 128 → EReal) (g b : Fin 7168 → EReal) (y : S128x7168.Idx) : EReal :=
  C y * R (y 0) * g (y 1) + b (y 1)

/-- The largest absolute value of a row. -/
def amaxRow (Y : S128x7168.Idx → EReal) (r : Fin 128) : EReal := Finset.univ.sup fun c : Fin 7168 => absE (Y (ix2 r c))

section
variable (C : S128x7168.Idx → EReal) (R : Fin 128 → EReal) (g b : Fin 7168 → EReal)
  (arg5 : Memref sig .tc .vmem S1x7168 .f32) (arg6 : Memref sig .tc .vmem S1x7168 .f32) (arg15 : Memref sig .tc .vmem S128x7168 .f32) (arg17 : Memref sig .tc .vmem S128x128 .f32)
    (X5 : BufTy.Contents (Elt Ideal) arg5.view.ty) (X6 : BufTy.Contents (Elt Ideal) arg6.view.ty) (X17 : BufTy.Contents (Elt Ideal) arg17.view.ty) (f15 : BufTy.Contents (Elt Ideal) arg15.view.ty)
    (hX5 : ∀ l : Fin 7168, arg5.view.read (Elt Ideal) X5 (ix2 0 l) = g l) (hX6 : ∀ l : Fin 7168, arg6.view.read (Elt Ideal) X6 (ix2 0 l) = b l)
    (hX17 : ∀ z, arg17.view.read (Elt Ideal) X17 z = R (z 0))
include hX17

theorem rstd_lanes (k : Fin k0_t3_loop.trips) (j : S16x256.Idx) :
    trip_k0_t3.sl.v198 (F := Ideal) arg17 X17 k j = R (rowOf k (j 0)) := by
  refine concat_rows _ (fun r => R (rowOf k r)) (fun z => ?_) j
  rw [readAt_unit_apply, hX17]
  congr 1
  have ho : ∀ k : Fin k0_t3_loop.trips, k0_off41 k 0 = 16 * k.val := by decide +kernel
  exact Fin.ext ((unit_emb_val (s := S128x128) _ _ _ _ _).trans (by rw [ho]; rfl))

variable (k : Fin k0_t3_loop.trips)
    (hf : ∀ y : S128x7168.Idx, 16 * k.val ≤ (y 0).val → arg15.view.read (Elt Ideal) f15 y = C y)
include hX5 hX6 hf

theorem y_val (off : Fin 2 → ℕ) (inb : ∀ a, off a + S16x256.size a ≤ S128x7168.size a) (og : Fin 2 → ℕ)
    (inbg : ∀ a, og a + S1x256.size a ≤ S1x7168.size a) (ho : off 0 = 16 * k.val ∧ og 0 = 0 ∧ off 1 = og 1) (j : S16x256.Idx) :
    yTile (trip_k0_t3.sl.v198 (F := Ideal) arg17 X17 k)
      (View.readAt (Elt Ideal) arg15.view (Rect.unit (s := S128x7168) off S16x256.size inb).toLoadRect f15)
      (View.readAt (Elt Ideal) arg5.view (Rect.unit (s := S1x7168) og S1x256.size inbg).toLoadRect X5)
      (View.readAt (Elt Ideal) arg6.view (Rect.unit (s := S1x7168) og S1x256.size inbg).toLoadRect X6) j
      = yBlk C R g b ((Rect.unit (s := S128x7168) off S16x256.size inb).emb j) := by
  have e0 : (Rect.unit (s := S128x7168) off S16x256.size inb).emb j 0 = rowOf k (j 0) :=
    Fin.ext ((unit_emb_val (s := S128x7168) _ _ _ _ _).trans (by rw [ho.1]; rfl))
  have eg : (Rect.unit (s := S1x7168) og S1x256.size inbg).emb (ix2 0 (j 1))
      = ix2 0 ((Rect.unit (s := S128x7168) off S16x256.size inb).emb j 1) := by
    apply Shape.idx_ext₂
    · exact (unit_emb_val (s := S1x7168) _ _ _ _ _).trans (by rw [ho.2.1]; rfl)
    · refine (unit_emb_val (s := S1x7168) _ _ _ _ _).trans (Eq.trans ?_ (unit_emb_val (s := S128x7168) off S16x256.size inb j 1).symm)
      rw [ho.2.2]; rfl
  have h1 := hf ((Rect.unit (s := S128x7168) off S16x256.size inb).emb j) (by rw [e0]; exact Nat.le_add_right _ _)
  have h2 := (congrArg (arg5.view.read (Elt Ideal) X5) eg).trans (hX5 _)
  have h3 := (congrArg (arg6.view.read (Elt Ideal) X6) eg).trans (hX6 _)
  have h4 := (rstd_lanes R arg17 X17 hX17 k j).trans (congrArg R e0.symm)
  exact (yTile_val _ _ _ _ _).trans (congrArg₂ (· + ·) (congrArg₂ (· * ·) (congrArg₂ (· * ·) h1 h4) h2) h3)

theorem y_piece (off : Fin 2 → ℕ) (inb : ∀ a, off a + S16x256.size a ≤ S128x7168.size a) (og : Fin 2 → ℕ)
    (inbg : ∀ a, og a + S1x256.size a ≤ S1x7168.size a) (ho : off 0 = 16 * k.val ∧ og 0 = 0 ∧ off 1 = og 1) :
    IsTile (s := S128x7168) (e := .f32) S16x256.size (yBlk C R g b)
      ⟨Rect.unit (s := S128x7168) off S16x256.size inb, shapeCast S16x256 (yTile (trip_k0_t3.sl.v198 (F := Ideal) arg17 X17 k)
      (View.readAt (Elt Ideal) arg15.view (Rect.unit (s := S128x7168) off S16x256.size inb).toLoadRect f15)
      (View.readAt (Elt Ideal) arg5.view (Rect.unit (s := S1x7168) og S1x256.size inbg).toLoadRect X5)
      (View.readAt (Elt Ideal) arg6.view (Rect.unit (s := S1x7168) og S1x256.size inbg).toLoadRect X6)) shapeCasts_S16x256_S16x256⟩ :=
  IsTile.unit fun x => by
    rw [shapeCast_self]
    exact y_val C R g b arg5 arg6 arg15 arg17 X5 X6 X17 f15 hX5 hX6 hX17 k hf off inb og inbg ho x

omit hX5 hX6 hX17 hf in
/-- The stores of one trip into the window of normalised rows, from the contents it finds there. -/
def L3 : List (Piece (Elt Ideal) S128x7168 .f32) :=
  [⟨Rect.unit (s := S128x7168) (k0_off69 k) S16x256.size (k0_off69_inb k), k0_pay325 (trip_k0_t3.sl.v198 (F := Ideal) arg17 X17 k) (trip_k0_t3.sl.v661 (F := Ideal) arg15 k f15) (View.readAt (Elt Ideal) arg5.view (Rect.unit (s := S1x7168) ![0, 6912] S1x256.size inb_S1x7168_S1x256_0_6912).toLoadRect X5) (View.readAt (Elt Ideal) arg6.view (Rect.unit (s := S1x7168) ![0, 6912] S1x256.size inb_S1x7168_S1x256_0_6912).toLoadRect X6)⟩,
      ⟨Rect.unit (s := S128x7168) (k0_off68 k) S16x256.size (k0_off68_inb k), trip_k0_t3.sl.v657 (F := Ideal) arg5 arg6 arg15 arg17 X5 X6 X17 k f15⟩,
      ⟨Rect.unit (s := S128x7168) (k0_off67 k) S16x256.size (k0_off67_inb k), trip_k0_t3.sl.v640 (F := Ideal) arg5 arg6 arg15 arg17 X5 X6 X17 k f15⟩,
      ⟨Rect.unit (s := S128x7168) (k0_off66 k) S16x256.size (k0_off66_inb k), trip_k0_t3.sl.v623 (F := Ideal) arg5 arg6 arg15 arg17 X5 X6 X17 k f15⟩,
      ⟨Rect.unit (s := S128x7168) (k0_off65 k) S16x256.size (k0_off65_inb k), trip_k0_t3.sl.v606 (F := Ideal) arg5 arg6 arg15 arg17 X5 X6 X17 k f15⟩,
      ⟨Rect.unit (s := S128x7168) (k0_off64 k) S16x256.size (k0_off64_inb k), trip_k0_t3.sl.v589 (F := Ideal) arg5 arg6 arg15 arg17 X5 X6 X17 k f15⟩,
      ⟨Rect.unit (s := S128x7168) (k0_off63 k) S16x256.size (k0_off63_inb k), trip_k0_t3.sl.v572 (F := Ideal) arg5 arg6 arg15 arg17 X5 X6 X17 k f15⟩,
      ⟨Rect.unit (s := S128x7168) (k0_off62 k) S16x256.size (k0_off62_inb k), trip_k0_t3.sl.v555 (F := Ideal) arg5 arg6 arg15 arg17 X5 X6 X17 k f15⟩,
      ⟨Rect.unit (s := S128x7168) (k0_off61 k) S16x256.size (k0_off61_inb k), trip_k0_t3.sl.v538 (F := Ideal) arg5 arg6 arg15 arg17 X5 X6 X17 k f15⟩,
      ⟨Rect.unit (s := S128x7168) (k0_off60 k) S16x256.size (k0_off60_inb k), trip_k0_t3.sl.v521 (F := Ideal) arg5 arg6 arg15 arg17 X5 X6 X17 k f15⟩,
      ⟨Rect.unit (s := S128x7168) (k0_off59 k) S16x256.size (k0_off59_inb k), trip_k0_t3.sl.v504 (F := Ideal) arg5 arg6 arg15 arg17 X5 X6 X17 k f15⟩,
      ⟨Rect.unit (s := S128x7168) (k0_off58 k) S16x256.size (k0_off58_inb k), trip_k0_t3.sl.v487 (F := Ideal) arg5 arg6 arg15 arg17 X5 X6 X17 k f15⟩,
      ⟨Rect.unit (s := S128x7168) (k0_off57 k) S16x256.size (k0_off57_inb k), trip_k0_t3.sl.v470 (F := Ideal) arg5 arg6 arg15 arg17 X5 X6 X17 k f15⟩,
      ⟨Rect.unit (s := S128x7168) (k0_off56 k) S16x256.size (k0_off56_inb k), trip_k0_t3.sl.v453 (F := Ideal) arg5 arg6 arg15 arg17 X5 X6 X17 k f15⟩,
      ⟨Rect.unit (s := S128x7168) (k0_off55 k) S16x256.size (k0_off55_inb k), trip_k0_t3.sl.v436 (F := Ideal) arg5 arg6 arg15 arg17 X5 X6 X17 k f15⟩,
      ⟨Rect.unit (s := S128x7168) (k0_off54 k) S16x256.size (k0_off54_inb k), trip_k0_t3.sl.v419 (F := Ideal) arg5 arg6 arg15 arg17 X5 X6 X17 k f15⟩,
      ⟨Rect.unit (s := S128x7168) (k0_off53 k) S16x256.size (k0_off53_inb k), trip_k0_t3.sl.v402 (F := Ideal) arg5 arg6 arg15 arg17 X5 X6 X17 k f15⟩,
      ⟨Rect.unit (s := S128x7168) (k0_off52 k) S16x256.size (k0_off52_inb k), trip_k0_t3.sl.v385 (F := Ideal) arg5 arg6 arg15 arg17 X5 X6 X17 k f15⟩,
      ⟨Rect.unit (s := S128x7168) (k0_off51 k) S16x256.size (k0_off51_inb k), trip_k0_t3.sl.v368 (F := Ideal) arg5 arg6 arg15 arg17 X5 X6 X17 k f15⟩,
      ⟨Rect.unit (s := S128x7168) (k0_off50 k) S16x256.size (k0_off50_inb k), trip_k0_t3.sl.v351 (F := Ideal) arg5 arg6 arg15 arg17 X5 X6 X17 k f15⟩,
      ⟨Rect.unit (s := S128x7168) (k0_off49 k) S16x256.size (k0_off49_inb k), trip_k0_t3.sl.v334 (F := Ideal) arg5 arg6 arg15 arg17 X5 X6 X17 k f15⟩,
      ⟨Rect.unit (s := S128x7168) (k0_off48 k) S16x256.size (k0_off48_inb k), trip_k0_t3.sl.v317 (F := Ideal) arg5 arg6 arg15 arg17 X5 X6 X17 k f15⟩,
      ⟨Rect.unit (s := S128x7168) (k0_off47 k) S16x256.size (k0_off47_inb k), trip_k0_t3.sl.v300 (F := Ideal) arg5 arg6 arg15 arg17 X5 X6 X17 k f15⟩,
      ⟨Rect.unit (s := S128x7168) (k0_off46 k) S16x256.size (k0_off46_inb k), trip_k0_t3.sl.v283 (F := Ideal) arg5 arg6 arg15 arg17 X5 X6 X17 k f15⟩,
      ⟨Rect.unit (s := S128x7168) (k0_off45 k) S16x256.size (k0_off45_inb k), trip_k0_t3.sl.v266 (F := Ideal) arg5 arg6 arg15 arg17 X5 X6 X17 k f15⟩,
      ⟨Rect.unit (s := S128x7168) (k0_off44 k) S16x256.size (k0_off44_inb k), trip_k0_t3.sl.v249 (F := Ideal) arg5 arg6 arg15 arg17 X5 X6 X17 k f15⟩,
      ⟨Rect.unit (s := S128x7168) (k0_off43 k) S16x256.size (k0_off43_inb k), trip_k0_t3.sl.v232 (F := Ideal) arg5 arg6 arg15 arg17 X5 X6 X17 k f15⟩,
      ⟨Rect.unit (s := S128x7168) (k0_off42 k) S16x256.size (k0_off42_inb k), trip_k0_t3.sl.v215 (F := Ideal) arg5 arg6 arg15 arg17 X5 X6 X17 k f15⟩]

theorem L3_tiles : ∀ p ∈ L3 arg5 arg6 arg15 arg17 X5 X6 X17 f15 k, IsTile (s := S128x7168) S16x256.size (yBlk C R g b) p := by
  unfold L3
  iterate 28 refine forall_cons (y_piece C R g b arg5 arg6 arg15 arg17 X5 X6 X17 f15 hX5 hX6 hX17 k hf _ _ _ _ (by clear hX5 hX6 hX17 hf; revert k; decide +kernel)) ?_
  exact forall_nil _

omit hX5 hX6 hX17 hf in
theorem L3_offs : (L3 arg5 arg6 arg15 arg17 X5 X6 X17 f15 k).map (fun p => p.1.off) = [k0_off69 k, k0_off68 k, k0_off67 k, k0_off66 k, k0_off65 k, k0_off64 k, k0_off63 k, k0_off62 k, k0_off61 k, k0_off60 k, k0_off59 k, k0_off58 k, k0_off57 k, k0_off56 k, k0_off55 k, k0_off54 k, k0_off53 k, k0_off52 k, k0_off51 k, k0_off50 k, k0_off49 k, k0_off48 k, k0_off47 k, k0_off46 k, k0_off45 k, k0_off44 k, k0_off43 k, k0_off42 k] := rfl

omit hX5 hX6 hX17 hf in
theorem L3_rows : ∀ p ∈ L3 arg5 arg6 arg15 arg17 X5 X6 X17 f15 k, p.1.off 0 = 16 * k.val := by
  have hc : ∀ k : Fin k0_t3_loop.trips, ∀ o ∈ ([k0_off69 k, k0_off68 k, k0_off67 k, k0_off66 k, k0_off65 k, k0_off64 k, k0_off63 k, k0_off62 k, k0_off61 k, k0_off60 k, k0_off59 k, k0_off58 k, k0_off57 k, k0_off56 k, k0_off55 k, k0_off54 k, k0_off53 k, k0_off52 k, k0_off51 k, k0_off50 k, k0_off49 k, k0_off48 k, k0_off47 k, k0_off46 k, k0_off45 k, k0_off44 k, k0_off43 k, k0_off42 k] : List (Fin 2 → ℕ)), o 0 = 16 * k.val := by decide +kernel
  intro p hp
  exact hc k _ (L3_offs arg5 arg6 arg15 arg17 X5 X6 X17 f15 k ▸ List.mem_map.mpr ⟨p, hp, rfl⟩)

omit hX5 hX6 hX17 hf in
theorem L3_cover (y : S128x7168.Idx) (h : 16 * k.val ≤ (y 0).val) (h' : (y 0).val < 16 * k.val + 16) :
    ∃ o ∈ (L3 arg5 arg6 arg15 arg17 X5 X6 X17 f15 k).map (fun p => p.1.off), ∀ a, o a ≤ (y a).val ∧ (y a).val < o a + S16x256.size a := by
  rw [L3_offs]
  have hc : ∀ k : Fin k0_t3_loop.trips, ∀ q : Fin 28, ∃ o ∈ ([k0_off69 k, k0_off68 k, k0_off67 k, k0_off66 k, k0_off65 k, k0_off64 k, k0_off63 k, k0_off62 k, k0_off61 k, k0_off60 k, k0_off59 k, k0_off58 k, k0_off57 k, k0_off56 k, k0_off55 k, k0_off54 k, k0_off53 k, k0_off52 k, k0_off51 k, k0_off50 k, k0_off49 k, k0_off48 k, k0_off47 k, k0_off46 k, k0_off45 k, k0_off44 k, k0_off43 k, k0_off42 k] : List (Fin 2 → ℕ)),
      o 0 = 16 * k.val ∧ o 1 = 256 * q.val := by decide +kernel
  have h1 : (y 1).val < 7168 := (y 1).isLt
  obtain ⟨o, ho, e0, e1⟩ := hc k ⟨(y 1).val / 256, by omega⟩
  refine ⟨o, ho, Fin.forall_fin_two.mpr ⟨?_, ?_⟩⟩
  · show o 0 ≤ (y 0).val ∧ (y 0).val < o 0 + 16
    omega
  · show o 1 ≤ (y 1).val ∧ (y 1).val < o 1 + 256
    simp only at e1; omega

omit hX5 hX6 hX17 hf in
/-- The running largest absolute values over a list of tiles. -/
theorem mx_foldl (Y : S128x7168.Idx → EReal) :
    ∀ (l : List (FVec Ideal S16x256 .f32)) (qs : List ℕ),
      List.Forall₂ (fun x q => ∀ j : S16x256.Idx, x j = rowN Y (rowOf k (j 0)) (256 * q + (j 1).val)) l qs →
      ∀ (z : FVec Ideal S16x256 .f32) (j : S16x256.Idx) (t : EReal), l.foldl mxAcc z j ≤ t
        ↔ z j ≤ t ∧ ∀ q ∈ qs, absE (rowN Y (rowOf k (j 0)) (256 * q + (j 1).val)) ≤ t := by
  intro l qs h
  induction h with
  | nil => intro z j t; simp
  | cons h _ ih =>
    intro z j t
    rw [List.foldl_cons, ih, mxAcc_val, h j, List.forall_mem_cons, max_le_iff, and_assoc]

omit hX5 hX6 hX17 hf in
theorem trip3_amax :
    k0_pay326 (trip_k0_t3.sl.v198 (F := Ideal) arg17 X17 k) (trip_k0_t3.sl.v642 (F := Ideal) arg5 arg6 arg15 arg17 X5 X6 X17 k f15) (trip_k0_t3.sl.v659 (F := Ideal) arg5 arg6 arg15 arg17 X5 X6 X17 k f15) (trip_k0_t3.sl.v661 (F := Ideal) arg15 k f15) (View.readAt (Elt Ideal) arg5.view (Rect.unit (s := S1x7168) ![0, 6912] S1x256.size inb_S1x7168_S1x256_0_6912).toLoadRect X5) (View.readAt (Elt Ideal) arg6.view (Rect.unit (s := S1x7168) ![0, 6912] S1x256.size inb_S1x7168_S1x256_0_6912).toLoadRect X6)
      = amaxTile (maximumf (List.foldl mxAcc (broadcast S16x256 (Scalar.ofBits .f32 0x00000000#32))
          [yTile (trip_k0_t3.sl.v198 (F := Ideal) arg17 X17 k) (View.readAt (Elt Ideal) arg15.view (Rect.unit (s := S128x7168) (k0_off42 k) S16x256.size (k0_off42_inb k)).toLoadRect f15) (View.readAt (Elt Ideal) arg5.view (Rect.unit (s := S1x7168) ![0, 0] S1x256.size inb_S1x7168_S1x256_0_0).toLoadRect X5) (View.readAt (Elt Ideal) arg6.view (Rect.unit (s := S1x7168) ![0, 0] S1x256.size inb_S1x7168_S1x256_0_0).toLoadRect X6),
      yTile (trip_k0_t3.sl.v198 (F := Ideal) arg17 X17 k) (View.readAt (Elt Ideal) arg15.view (Rect.unit (s := S128x7168) (k0_off44 k) S16x256.size (k0_off44_inb k)).toLoadRect f15) (View.readAt (Elt Ideal) arg5.view (Rect.unit (s := S1x7168) ![0, 512] S1x256.size inb_S1x7168_S1x256_0_512).toLoadRect X5) (View.readAt (Elt Ideal) arg6.view (Rect.unit (s := S1x7168) ![0, 512] S1x256.size inb_S1x7168_S1x256_0_512).toLoadRect X6),
      yTile (trip_k0_t3.sl.v198 (F := Ideal) arg17 X17 k) (View.readAt (Elt Ideal) arg15.view (Rect.unit (s := S128x7168) (k0_off46 k) S16x256.size (k0_off46_inb k)).toLoadRect f15) (View.readAt (Elt Ideal) arg5.view (Rect.unit (s := S1x7168) ![0, 1024] S1x256.size inb_S1x7168_S1x256_0_1024).toLoadRect X5) (View.readAt (Elt Ideal) arg6.view (Rect.unit (s := S1x7168) ![0, 1024] S1x256.size inb_S1x7168_S1x256_0_1024).toLoadRect X6),
      yTile (trip_k0_t3.sl.v198 (F := Ideal) arg17 X17 k) (View.readAt (Elt Ideal) arg15.view (Rect.unit (s := S128x7168) (k0_off48 k) S16x256.size (k0_off48_inb k)).toLoadRect f15) (View.readAt (Elt Ideal) arg5.view (Rect.unit (s := S1x7168) ![0, 1536] S1x256.size inb_S1x7168_S1x256_0_1536).toLoadRect X5) (View.readAt (Elt Ideal) arg6.view (Rect.unit (s := S1x7168) ![0, 1536] S1x256.size inb_S1x7168_S1x256_0_1536).toLoadRect X6),
      yTile (trip_k0_t3.sl.v198 (F := Ideal) arg17 X17 k) (View.readAt (Elt Ideal) arg15.view (Rect.unit (s := S128x7168) (k0_off50 k) S16x256.size (k0_off50_inb k)).toLoadRect f15) (View.readAt (Elt Ideal) arg5.view (Rect.unit (s := S1x7168) ![0, 2048] S1x256.size inb_S1x7168_S1x256_0_2048).toLoadRect X5) (View.readAt (Elt Ideal) arg6.view (Rect.unit (s := S1x7168) ![0, 2048] S1x256.size inb_S1x7168_S1x256_0_2048).toLoadRect X6),
      yTile (trip_k0_t3.sl.v198 (F := Ideal) arg17 X17 k) (View.readAt (Elt Ideal) arg15.view (Rect.unit (s := S128x7168) (k0_off52 k) S16x256.size (k0_off52_inb k)).toLoadRect f15) (View.readAt (Elt Ideal) arg5.view (Rect.unit (s := S1x7168) ![0, 2560] S1x256.size inb_S1x7168_S1x256_0_2560).toLoadRect X5) (View.readAt (Elt Ideal) arg6.view (Rect.unit (s := S1x7168) ![0, 2560] S1x256.size inb_S1x7168_S1x256_0_2560).toLoadRect X6),
      yTile (trip_k0_t3.sl.v198 (F := Ideal) arg17 X17 k) (View.readAt (Elt Ideal) arg15.view (Rect.unit (s := S128x7168) (k0_off54 k) S16x256.size (k0_off54_inb k)).toLoadRect f15) (View.readAt (Elt Ideal) arg5.view (Rect.unit (s := S1x7168) ![0, 3072] S1x256.size inb_S1x7168_S1x256_0_3072).toLoadRect X5) (View.readAt (Elt Ideal) arg6.view (Rect.unit (s := S1x7168) ![0, 3072] S1x256.size inb_S1x7168_S1x256_0_3072).toLoadRect X6),
      yTile (trip_k0_t3.sl.v198 (F := Ideal) arg17 X17 k) (View.readAt (Elt Ideal) arg15.view (Rect.unit (s := S128x7168) (k0_off56 k) S16x256.size (k0_off56_inb k)).toLoadRect f15) (View.readAt (Elt Ideal) arg5.view (Rect.unit (s := S1x7168) ![0, 3584] S1x256.size inb_S1x7168_S1x256_0_3584).toLoadRect X5) (View.readAt (Elt Ideal) arg6.view (Rect.unit (s := S1x7168) ![0, 3584] S1x256.size inb_S1x7168_S1x256_0_3584).toLoadRect X6),
      yTile (trip_k0_t3.sl.v198 (F := Ideal) arg17 X17 k) (View.readAt (Elt Ideal) arg15.view (Rect.unit (s := S128x7168) (k0_off58 k) S16x256.size (k0_off58_inb k)).toLoadRect f15) (View.readAt (Elt Ideal) arg5.view (Rect.unit (s := S1x7168) ![0, 4096] S1x256.size inb_S1x7168_S1x256_0_4096).toLoadRect X5) (View.readAt (Elt Ideal) arg6.view (Rect.unit (s := S1x7168) ![0, 4096] S1x256.size inb_S1x7168_S1x256_0_4096).toLoadRect X6),
      yTile (trip_k0_t3.sl.v198 (F := Ideal) arg17 X17 k) (View.readAt (Elt Ideal) arg15.view (Rect.unit (s := S128x7168) (k0_off60 k) S16x256.size (k0_off60_inb k)).toLoadRect f15) (View.readAt (Elt Ideal) arg5.view (Rect.unit (s := S1x7168) ![0, 4608] S1x256.size inb_S1x7168_S1x256_0_4608).toLoadRect X5) (View.readAt (Elt Ideal) arg6.view (Rect.unit (s := S1x7168) ![0, 4608] S1x256.size inb_S1x7168_S1x256_0_4608).toLoadRect X6),
      yTile (trip_k0_t3.sl.v198 (F := Ideal) arg17 X17 k) (View.readAt (Elt Ideal) arg15.view (Rect.unit (s := S128x7168) (k0_off62 k) S16x256.size (k0_off62_inb k)).toLoadRect f15) (View.readAt (Elt Ideal) arg5.view (Rect.unit (s := S1x7168) ![0, 5120] S1x256.size inb_S1x7168_S1x256_0_5120).toLoadRect X5) (View.readAt (Elt Ideal) arg6.view (Rect.unit (s := S1x7168) ![0, 5120] S1x256.size inb_S1x7168_S1x256_0_5120).toLoadRect X6),
      yTile (trip_k0_t3.sl.v198 (F := Ideal) arg17 X17 k) (View.readAt (Elt Ideal) arg15.view (Rect.unit (s := S128x7168) (k0_off64 k) S16x256.size (k0_off64_inb k)).toLoadRect f15) (View.readAt (Elt Ideal) arg5.view (Rect.unit (s := S1x7168) ![0, 5632] S1x256.size inb_S1x7168_S1x256_0_5632).toLoadRect X5) (View.readAt (Elt Ideal) arg6.view (Rect.unit (s := S1x7168) ![0, 5632] S1x256.size inb_S1x7168_S1x256_0_5632).toLoadRect X6),
      yTile (trip_k0_t3.sl.v198 (F := Ideal) arg17 X17 k) (View.readAt (Elt Ideal) arg15.view (Rect.unit (s := S128x7168) (k0_off66 k) S16x256.size (k0_off66_inb k)).toLoadRect f15) (View.readAt (Elt Ideal) arg5.view (Rect.unit (s := S1x7168) ![0, 6144] S1x256.size inb_S1x7168_S1x256_0_6144).toLoadRect X5) (View.readAt (Elt Ideal) arg6.view (Rect.unit (s := S1x7168) ![0, 6144] S1x256.size inb_S1x7168_S1x256_0_6144).toLoadRect X6),
      yTile (trip_k0_t3.sl.v198 (F := Ideal) arg17 X17 k) (View.readAt (Elt Ideal) arg15.view (Rect.unit (s := S128x7168) (k0_off68 k) S16x256.size (k0_off68_inb k)).toLoadRect f15) (View.readAt (Elt Ideal) arg5.view (Rect.unit (s := S1x7168) ![0, 6656] S1x256.size inb_S1x7168_S1x256_0_6656).toLoadRect X5) (View.readAt (Elt Ideal) arg6.view (Rect.unit (s := S1x7168) ![0, 6656] S1x256.size inb_S1x7168_S1x256_0_6656).toLoadRect X6)])
        (List.foldl mxAcc (broadcast S16x256 (Scalar.ofBits .f32 0x00000000#32))
          [yTile (trip_k0_t3.sl.v198 (F := Ideal) arg17 X17 k) (View.readAt (Elt Ideal) arg15.view (Rect.unit (s := S128x7168) (k0_off43 k) S16x256.size (k0_off43_inb k)).toLoadRect f15) (View.readAt (Elt Ideal) arg5.view (Rect.unit (s := S1x7168) ![0, 256] S1x256.size inb_S1x7168_S1x256_0_256).toLoadRect X5) (View.readAt (Elt Ideal) arg6.view (Rect.unit (s := S1x7168) ![0, 256] S1x256.size inb_S1x7168_S1x256_0_256).toLoadRect X6),
      yTile (trip_k0_t3.sl.v198 (F := Ideal) arg17 X17 k) (View.readAt (Elt Ideal) arg15.view (Rect.unit (s := S128x7168) (k0_off45 k) S16x256.size (k0_off45_inb k)).toLoadRect f15) (View.readAt (Elt Ideal) arg5.view (Rect.unit (s := S1x7168) ![0, 768] S1x256.size inb_S1x7168_S1x256_0_768).toLoadRect X5) (View.readAt (Elt Ideal) arg6.view (Rect.unit (s := S1x7168) ![0, 768] S1x256.size inb_S1x7168_S1x256_0_768).toLoadRect X6),
      yTile (trip_k0_t3.sl.v198 (F := Ideal) arg17 X17 k) (View.readAt (Elt Ideal) arg15.view (Rect.unit (s := S128x7168) (k0_off47 k) S16x256.size (k0_off47_inb k)).toLoadRect f15) (View.readAt (Elt Ideal) arg5.view (Rect.unit (s := S1x7168) ![0, 1280] S1x256.size inb_S1x7168_S1x256_0_1280).toLoadRect X5) (View.readAt (Elt Ideal) arg6.view (Rect.unit (s := S1x7168) ![0, 1280] S1x256.size inb_S1x7168_S1x256_0_1280).toLoadRect X6),
      yTile (trip_k0_t3.sl.v198 (F := Ideal) arg17 X17 k) (View.readAt (Elt Ideal) arg15.view (Rect.unit (s := S128x7168) (k0_off49 k) S16x256.size (k0_off49_inb k)).toLoadRect f15) (View.readAt (Elt Ideal) arg5.view (Rect.unit (s := S1x7168) ![0, 1792] S1x256.size inb_S1x7168_S1x256_0_1792).toLoadRect X5) (View.readAt (Elt Ideal) arg6.view (Rect.unit (s := S1x7168) ![0, 1792] S1x256.size inb_S1x7168_S1x256_0_1792).toLoadRect X6),
      yTile (trip_k0_t3.sl.v198 (F := Ideal) arg17 X17 k) (View.readAt (Elt Ideal) arg15.view (Rect.unit (s := S128x7168) (k0_off51 k) S16x256.size (k0_off51_inb k)).toLoadRect f15) (View.readAt (Elt Ideal) arg5.view (Rect.unit (s := S1x7168) ![0, 2304] S1x256.size inb_S1x7168_S1x256_0_2304).toLoadRect X5) (View.readAt (Elt Ideal) arg6.view (Rect.unit (s := S1x7168) ![0, 2304] S1x256.size inb_S1x7168_S1x256_0_2304).toLoadRect X6),
      yTile (trip_k0_t3.sl.v198 (F := Ideal) arg17 X17 k) (View.readAt (Elt Ideal) arg15.view (Rect.unit (s := S128x7168) (k0_off53 k) S16x256.size (k0_off53_inb k)).toLoadRect f15) (View.readAt (Elt Ideal) arg5.view (Rect.unit (s := S1x7168) ![0, 2816] S1x256.size inb_S1x7168_S1x256_0_2816).toLoadRect X5) (View.readAt (Elt Ideal) arg6.view (Rect.unit (s := S1x7168) ![0, 2816] S1x256.size inb_S1x7168_S1x256_0_2816).toLoadRect X6),
      yTile (trip_k0_t3.sl.v198 (F := Ideal) arg17 X17 k) (View.readAt (Elt Ideal) arg15.view (Rect.unit (s := S128x7168) (k0_off55 k) S16x256.size (k0_off55_inb k)).toLoadRect f15) (View.readAt (Elt Ideal) arg5.view (Rect.unit (s := S1x7168) ![0, 3328] S1x256.size inb_S1x7168_S1x256_0_3328).toLoadRect X5) (View.readAt (Elt Ideal) arg6.view (Rect.unit (s := S1x7168) ![0, 3328] S1x256.size inb_S1x7168_S1x256_0_3328).toLoadRect X6),
      yTile (trip_k0_t3.sl.v198 (F := Ideal) arg17 X17 k) (View.readAt (Elt Ideal) arg15.view (Rect.unit (s := S128x7168) (k0_off57 k) S16x256.size (k0_off57_inb k)).toLoadRect f15) (View.readAt (Elt Ideal) arg5.view (Rect.unit (s := S1x7168) ![0, 3840] S1x256.size inb_S1x7168_S1x256_0_3840).toLoadRect X5) (View.readAt (Elt Ideal) arg6.view (Rect.unit (s := S1x7168) ![0, 3840] S1x256.size inb_S1x7168_S1x256_0_3840).toLoadRect X6),
      yTile (trip_k0_t3.sl.v198 (F := Ideal) arg17 X17 k) (View.readAt (Elt Ideal) arg15.view (Rect.unit (s := S128x7168) (k0_off59 k) S16x256.size (k0_off59_inb k)).toLoadRect f15) (View.readAt (Elt Ideal) arg5.view (Rect.unit (s := S1x7168) ![0, 4352] S1x256.size inb_S1x7168_S1x256_0_4352).toLoadRect X5) (View.readAt (Elt Ideal) arg6.view (Rect.unit (s := S1x7168) ![0, 4352] S1x256.size inb_S1x7168_S1x256_0_4352).toLoadRect X6),
      yTile (trip_k0_t3.sl.v198 (F := Ideal) arg17 X17 k) (View.readAt (Elt Ideal) arg15.view (Rect.unit (s := S128x7168) (k0_off61 k) S16x256.size (k0_off61_inb k)).toLoadRect f15) (View.readAt (Elt Ideal) arg5.view (Rect.unit (s := S1x7168) ![0, 4864] S1x256.size inb_S1x7168_S1x256_0_4864).toLoadRect X5) (View.readAt (Elt Ideal) arg6.view (Rect.unit (s := S1x7168) ![0, 4864] S1x256.size inb_S1x7168_S1x256_0_4864).toLoadRect X6),
      yTile (trip_k0_t3.sl.v198 (F := Ideal) arg17 X17 k) (View.readAt (Elt Ideal) arg15.view (Rect.unit (s := S128x7168) (k0_off63 k) S16x256.size (k0_off63_inb k)).toLoadRect f15) (View.readAt (Elt Ideal) arg5.view (Rect.unit (s := S1x7168) ![0, 5376] S1x256.size inb_S1x7168_S1x256_0_5376).toLoadRect X5) (View.readAt (Elt Ideal) arg6.view (Rect.unit (s := S1x7168) ![0, 5376] S1x256.size inb_S1x7168_S1x256_0_5376).toLoadRect X6),
      yTile (trip_k0_t3.sl.v198 (F := Ideal) arg17 X17 k) (View.readAt (Elt Ideal) arg15.view (Rect.unit (s := S128x7168) (k0_off65 k) S16x256.size (k0_off65_inb k)).toLoadRect f15) (View.readAt (Elt Ideal) arg5.view (Rect.unit (s := S1x7168) ![0, 5888] S1x256.size inb_S1x7168_S1x256_0_5888).toLoadRect X5) (View.readAt (Elt Ideal) arg6.view (Rect.unit (s := S1x7168) ![0, 5888] S1x256.size inb_S1x7168_S1x256_0_5888).toLoadRect X6),
      yTile (trip_k0_t3.sl.v198 (F := Ideal) arg17 X17 k) (View.readAt (Elt Ideal) arg15.view (Rect.unit (s := S128x7168) (k0_off67 k) S16x256.size (k0_off67_inb k)).toLoadRect f15) (View.readAt (Elt Ideal) arg5.view (Rect.unit (s := S1x7168) ![0, 6400] S1x256.size inb_S1x7168_S1x256_0_6400).toLoadRect X5) (View.readAt (Elt Ideal) arg6.view (Rect.unit (s := S1x7168) ![0, 6400] S1x256.size inb_S1x7168_S1x256_0_6400).toLoadRect X6),
      yTile (trip_k0_t3.sl.v198 (F := Ideal) arg17 X17 k) (View.readAt (Elt Ideal) arg15.view (Rect.unit (s := S128x7168) (k0_off69 k) S16x256.size (k0_off69_inb k)).toLoadRect f15) (View.readAt (Elt Ideal) arg5.view (Rect.unit (s := S1x7168) ![0, 6912] S1x256.size inb_S1x7168_S1x256_0_6912).toLoadRect X5) (View.readAt (Elt Ideal) arg6.view (Rect.unit (s := S1x7168) ![0, 6912] S1x256.size inb_S1x7168_S1x256_0_6912).toLoadRect X6)])) := rfl

/-- A tile of normalised rows, read by its place in the row. -/
theorem y_rowN (q : ℕ) (off : Fin 2 → ℕ) (inb : ∀ a, off a + S16x256.size a ≤ S128x7168.size a) (og : Fin 2 → ℕ)
    (inbg : ∀ a, og a + S1x256.size a ≤ S1x7168.size a) (ho : (off 0 = 16 * k.val ∧ og 0 = 0 ∧ off 1 = og 1) ∧ off 1 = 256 * q) (j : S16x256.Idx) :
    yTile (trip_k0_t3.sl.v198 (F := Ideal) arg17 X17 k)
      (View.readAt (Elt Ideal) arg15.view (Rect.unit (s := S128x7168) off S16x256.size inb).toLoadRect f15)
      (View.readAt (Elt Ideal) arg5.view (Rect.unit (s := S1x7168) og S1x256.size inbg).toLoadRect X5)
      (View.readAt (Elt Ideal) arg6.view (Rect.unit (s := S1x7168) og S1x256.size inbg).toLoadRect X6) j
      = rowN (yBlk C R g b) (rowOf k (j 0)) (256 * q + (j 1).val) := by
  refine (y_val C R g b arg5 arg6 arg15 arg17 X5 X6 X17 f15 hX5 hX6 hX17 k hf off inb og inbg ho.1 j).trans (rowN_val _ _ _ _ ?_ ?_).symm
  · rw [unit_emb_val, ho.1.1]; rfl
  · rw [unit_emb_val, ho.2]

theorem amax_rows (j : S16x128.Idx) :
    k0_pay326 (trip_k0_t3.sl.v198 (F := Ideal) arg17 X17 k) (trip_k0_t3.sl.v642 (F := Ideal) arg5 arg6 arg15 arg17 X5 X6 X17 k f15) (trip_k0_t3.sl.v659 (F := Ideal) arg5 arg6 arg15 arg17 X5 X6 X17 k f15) (trip_k0_t3.sl.v661 (F := Ideal) arg15 k f15) (View.readAt (Elt Ideal) arg5.view (Rect.unit (s := S1x7168) ![0, 6912] S1x256.size inb_S1x7168_S1x256_0_6912).toLoadRect X5) (View.readAt (Elt Ideal) arg6.view (Rect.unit (s := S1x7168) ![0, 6912] S1x256.size inb_S1x7168_S1x256_0_6912).toLoadRect X6) j = amaxRow (yBlk C R g b) (rowOf k (j 0)) := by
  rw [trip3_amax, amaxTile_val]
  have hE := mx_foldl k (yBlk C R g b) [yTile (trip_k0_t3.sl.v198 (F := Ideal) arg17 X17 k) (View.readAt (Elt Ideal) arg15.view (Rect.unit (s := S128x7168) (k0_off42 k) S16x256.size (k0_off42_inb k)).toLoadRect f15) (View.readAt (Elt Ideal) arg5.view (Rect.unit (s := S1x7168) ![0, 0] S1x256.size inb_S1x7168_S1x256_0_0).toLoadRect X5) (View.readAt (Elt Ideal) arg6.view (Rect.unit (s := S1x7168) ![0, 0] S1x256.size inb_S1x7168_S1x256_0_0).toLoadRect X6),
      yTile (trip_k0_t3.sl.v198 (F := Ideal) arg17 X17 k) (View.readAt (Elt Ideal) arg15.view (Rect.unit (s := S128x7168) (k0_off44 k) S16x256.size (k0_off44_inb k)).toLoadRect f15) (View.readAt (Elt Ideal) arg5.view (Rect.unit (s := S1x7168) ![0, 512] S1x256.size inb_S1x7168_S1x256_0_512).toLoadRect X5) (View.readAt (Elt Ideal) arg6.view (Rect.unit (s := S1x7168) ![0, 512] S1x256.size inb_S1x7168_S1x256_0_512).toLoadRect X6),
      yTile (trip_k0_t3.sl.v198 (F := Ideal) arg17 X17 k) (View.readAt (Elt Ideal) arg15.view (Rect.unit (s := S128x7168) (k0_off46 k) S16x256.size (k0_off46_inb k)).toLoadRect f15) (View.readAt (Elt Ideal) arg5.view (Rect.unit (s := S1x7168) ![0, 1024] S1x256.size inb_S1x7168_S1x256_0_1024).toLoadRect X5) (View.readAt (Elt Ideal) arg6.view (Rect.unit (s := S1x7168) ![0, 1024] S1x256.size inb_S1x7168_S1x256_0_1024).toLoadRect X6),
      yTile (trip_k0_t3.sl.v198 (F := Ideal) arg17 X17 k) (View.readAt (Elt Ideal) arg15.view (Rect.unit (s := S128x7168) (k0_off48 k) S16x256.size (k0_off48_inb k)).toLoadRect f15) (View.readAt (Elt Ideal) arg5.view (Rect.unit (s := S1x7168) ![0, 1536] S1x256.size inb_S1x7168_S1x256_0_1536).toLoadRect X5) (View.readAt (Elt Ideal) arg6.view (Rect.unit (s := S1x7168) ![0, 1536] S1x256.size inb_S1x7168_S1x256_0_1536).toLoadRect X6),
      yTile (trip_k0_t3.sl.v198 (F := Ideal) arg17 X17 k) (View.readAt (Elt Ideal) arg15.view (Rect.unit (s := S128x7168) (k0_off50 k) S16x256.size (k0_off50_inb k)).toLoadRect f15) (View.readAt (Elt Ideal) arg5.view (Rect.unit (s := S1x7168) ![0, 2048] S1x256.size inb_S1x7168_S1x256_0_2048).toLoadRect X5) (View.readAt (Elt Ideal) arg6.view (Rect.unit (s := S1x7168) ![0, 2048] S1x256.size inb_S1x7168_S1x256_0_2048).toLoadRect X6),
      yTile (trip_k0_t3.sl.v198 (F := Ideal) arg17 X17 k) (View.readAt (Elt Ideal) arg15.view (Rect.unit (s := S128x7168) (k0_off52 k) S16x256.size (k0_off52_inb k)).toLoadRect f15) (View.readAt (Elt Ideal) arg5.view (Rect.unit (s := S1x7168) ![0, 2560] S1x256.size inb_S1x7168_S1x256_0_2560).toLoadRect X5) (View.readAt (Elt Ideal) arg6.view (Rect.unit (s := S1x7168) ![0, 2560] S1x256.size inb_S1x7168_S1x256_0_2560).toLoadRect X6),
      yTile (trip_k0_t3.sl.v198 (F := Ideal) arg17 X17 k) (View.readAt (Elt Ideal) arg15.view (Rect.unit (s := S128x7168) (k0_off54 k) S16x256.size (k0_off54_inb k)).toLoadRect f15) (View.readAt (Elt Ideal) arg5.view (Rect.unit (s := S1x7168) ![0, 3072] S1x256.size inb_S1x7168_S1x256_0_3072).toLoadRect X5) (View.readAt (Elt Ideal) arg6.view (Rect.unit (s := S1x7168) ![0, 3072] S1x256.size inb_S1x7168_S1x256_0_3072).toLoadRect X6),
      yTile (trip_k0_t3.sl.v198 (F := Ideal) arg17 X17 k) (View.readAt (Elt Ideal) arg15.view (Rect.unit (s := S128x7168) (k0_off56 k) S16x256.size (k0_off56_inb k)).toLoadRect f15) (View.readAt (Elt Ideal) arg5.view (Rect.unit (s := S1x7168) ![0, 3584] S1x256.size inb_S1x7168_S1x256_0_3584).toLoadRect X5) (View.readAt (Elt Ideal) arg6.view (Rect.unit (s := S1x7168) ![0, 3584] S1x256.size inb_S1x7168_S1x256_0_3584).toLoadRect X6),
      yTile (trip_k0_t3.sl.v198 (F := Ideal) arg17 X17 k) (View.readAt (Elt Ideal) arg15.view (Rect.unit (s := S128x7168) (k0_off58 k) S16x256.size (k0_off58_inb k)).toLoadRect f15) (View.readAt (Elt Ideal) arg5.view (Rect.unit (s := S1x7168) ![0, 4096] S1x256.size inb_S1x7168_S1x256_0_4096).toLoadRect X5) (View.readAt (Elt Ideal) arg6.view (Rect.unit (s := S1x7168) ![0, 4096] S1x256.size inb_S1x7168_S1x256_0_4096).toLoadRect X6),
      yTile (trip_k0_t3.sl.v198 (F := Ideal) arg17 X17 k) (View.readAt (Elt Ideal) arg15.view (Rect.unit (s := S128x7168) (k0_off60 k) S16x256.size (k0_off60_inb k)).toLoadRect f15) (View.readAt (Elt Ideal) arg5.view (Rect.unit (s := S1x7168) ![0, 4608] S1x256.size inb_S1x7168_S1x256_0_4608).toLoadRect X5) (View.readAt (Elt Ideal) arg6.view (Rect.unit (s := S1x7168) ![0, 4608] S1x256.size inb_S1x7168_S1x256_0_4608).toLoadRect X6),
      yTile (trip_k0_t3.sl.v198 (F := Ideal) arg17 X17 k) (View.readAt (Elt Ideal) arg15.view (Rect.unit (s := S128x7168) (k0_off62 k) S16x256.size (k0_off62_inb k)).toLoadRect f15) (View.readAt (Elt Ideal) arg5.view (Rect.unit (s := S1x7168) ![0, 5120] S1x256.size inb_S1x7168_S1x256_0_5120).toLoadRect X5) (View.readAt (Elt Ideal) arg6.view (Rect.unit (s := S1x7168) ![0, 5120] S1x256.size inb_S1x7168_S1x256_0_5120).toLoadRect X6),
      yTile (trip_k0_t3.sl.v198 (F := Ideal) arg17 X17 k) (View.readAt (Elt Ideal) arg15.view (Rect.unit (s := S128x7168) (k0_off64 k) S16x256.size (k0_off64_inb k)).toLoadRect f15) (View.readAt (Elt Ideal) arg5.view (Rect.unit (s := S1x7168) ![0, 5632] S1x256.size inb_S1x7168_S1x256_0_5632).toLoadRect X5) (View.readAt (Elt Ideal) arg6.view (Rect.unit (s := S1x7168) ![0, 5632] S1x256.size inb_S1x7168_S1x256_0_5632).toLoadRect X6),
      yTile (trip_k0_t3.sl.v198 (F := Ideal) arg17 X17 k) (View.readAt (Elt Ideal) arg15.view (Rect.unit (s := S128x7168) (k0_off66 k) S16x256.size (k0_off66_inb k)).toLoadRect f15) (View.readAt (Elt Ideal) arg5.view (Rect.unit (s := S1x7168) ![0, 6144] S1x256.size inb_S1x7168_S1x256_0_6144).toLoadRect X5) (View.readAt (Elt Ideal) arg6.view (Rect.unit (s := S1x7168) ![0, 6144] S1x256.size inb_S1x7168_S1x256_0_6144).toLoadRect X6),
      yTile (trip_k0_t3.sl.v198 (F := Ideal) arg17 X17 k) (View.readAt (Elt Ideal) arg15.view (Rect.unit (s := S128x7168) (k0_off68 k) S16x256.size (k0_off68_inb k)).toLoadRect f15) (View.readAt (Elt Ideal) arg5.view (Rect.unit (s := S1x7168) ![0, 6656] S1x256.size inb_S1x7168_S1x256_0_6656).toLoadRect X5) (View.readAt (Elt Ideal) arg6.view (Rect.unit (s := S1x7168) ![0, 6656] S1x256.size inb_S1x7168_S1x256_0_6656).toLoadRect X6)] [0, 2, 4, 6, 8, 10, 12, 14, 16, 18, 20, 22, 24, 26] (by
    iterate 14 refine List.Forall₂.cons (y_rowN C R g b arg5 arg6 arg15 arg17 X5 X6 X17 f15 hX5 hX6 hX17 k hf _ _ _ _ _ (by clear hX5 hX6 hX17 hf; revert k; decide +kernel)) ?_
    exact List.Forall₂.nil) (broadcast S16x256 (Scalar.ofBits .f32 0x00000000#32))
  have hO := mx_foldl k (yBlk C R g b) [yTile (trip_k0_t3.sl.v198 (F := Ideal) arg17 X17 k) (View.readAt (Elt Ideal) arg15.view (Rect.unit (s := S128x7168) (k0_off43 k) S16x256.size (k0_off43_inb k)).toLoadRect f15) (View.readAt (Elt Ideal) arg5.view (Rect.unit (s := S1x7168) ![0, 256] S1x256.size inb_S1x7168_S1x256_0_256).toLoadRect X5) (View.readAt (Elt Ideal) arg6.view (Rect.unit (s := S1x7168) ![0, 256] S1x256.size inb_S1x7168_S1x256_0_256).toLoadRect X6),
      yTile (trip_k0_t3.sl.v198 (F := Ideal) arg17 X17 k) (View.readAt (Elt Ideal) arg15.view (Rect.unit (s := S128x7168) (k0_off45 k) S16x256.size (k0_off45_inb k)).toLoadRect f15) (View.readAt (Elt Ideal) arg5.view (Rect.unit (s := S1x7168) ![0, 768] S1x256.size inb_S1x7168_S1x256_0_768).toLoadRect X5) (View.readAt (Elt Ideal) arg6.view (Rect.unit (s := S1x7168) ![0, 768] S1x256.size inb_S1x7168_S1x256_0_768).toLoadRect X6),
      yTile (trip_k0_t3.sl.v198 (F := Ideal) arg17 X17 k) (View.readAt (Elt Ideal) arg15.view (Rect.unit (s := S128x7168) (k0_off47 k) S16x256.size (k0_off47_inb k)).toLoadRect f15) (View.readAt (Elt Ideal) arg5.view (Rect.unit (s := S1x7168) ![0, 1280] S1x256.size inb_S1x7168_S1x256_0_1280).toLoadRect X5) (View.readAt (Elt Ideal) arg6.view (Rect.unit (s := S1x7168) ![0, 1280] S1x256.size inb_S1x7168_S1x256_0_1280).toLoadRect X6),
      yTile (trip_k0_t3.sl.v198 (F := Ideal) arg17 X17 k) (View.readAt (Elt Ideal) arg15.view (Rect.unit (s := S128x7168) (k0_off49 k) S16x256.size (k0_off49_inb k)).toLoadRect f15) (View.readAt (Elt Ideal) arg5.view (Rect.unit (s := S1x7168) ![0, 1792] S1x256.size inb_S1x7168_S1x256_0_1792).toLoadRect X5) (View.readAt (Elt Ideal) arg6.view (Rect.unit (s := S1x7168) ![0, 1792] S1x256.size inb_S1x7168_S1x256_0_1792).toLoadRect X6),
      yTile (trip_k0_t3.sl.v198 (F := Ideal) arg17 X17 k) (View.readAt (Elt Ideal) arg15.view (Rect.unit (s := S128x7168) (k0_off51 k) S16x256.size (k0_off51_inb k)).toLoadRect f15) (View.readAt (Elt Ideal) arg5.view (Rect.unit (s := S1x7168) ![0, 2304] S1x256.size inb_S1x7168_S1x256_0_2304).toLoadRect X5) (View.readAt (Elt Ideal) arg6.view (Rect.unit (s := S1x7168) ![0, 2304] S1x256.size inb_S1x7168_S1x256_0_2304).toLoadRect X6),
      yTile (trip_k0_t3.sl.v198 (F := Ideal) arg17 X17 k) (View.readAt (Elt Ideal) arg15.view (Rect.unit (s := S128x7168) (k0_off53 k) S16x256.size (k0_off53_inb k)).toLoadRect f15) (View.readAt (Elt Ideal) arg5.view (Rect.unit (s := S1x7168) ![0, 2816] S1x256.size inb_S1x7168_S1x256_0_2816).toLoadRect X5) (View.readAt (Elt Ideal) arg6.view (Rect.unit (s := S1x7168) ![0, 2816] S1x256.size inb_S1x7168_S1x256_0_2816).toLoadRect X6),
      yTile (trip_k0_t3.sl.v198 (F := Ideal) arg17 X17 k) (View.readAt (Elt Ideal) arg15.view (Rect.unit (s := S128x7168) (k0_off55 k) S16x256.size (k0_off55_inb k)).toLoadRect f15) (View.readAt (Elt Ideal) arg5.view (Rect.unit (s := S1x7168) ![0, 3328] S1x256.size inb_S1x7168_S1x256_0_3328).toLoadRect X5) (View.readAt (Elt Ideal) arg6.view (Rect.unit (s := S1x7168) ![0, 3328] S1x256.size inb_S1x7168_S1x256_0_3328).toLoadRect X6),
      yTile (trip_k0_t3.sl.v198 (F := Ideal) arg17 X17 k) (View.readAt (Elt Ideal) arg15.view (Rect.unit (s := S128x7168) (k0_off57 k) S16x256.size (k0_off57_inb k)).toLoadRect f15) (View.readAt (Elt Ideal) arg5.view (Rect.unit (s := S1x7168) ![0, 3840] S1x256.size inb_S1x7168_S1x256_0_3840).toLoadRect X5) (View.readAt (Elt Ideal) arg6.view (Rect.unit (s := S1x7168) ![0, 3840] S1x256.size inb_S1x7168_S1x256_0_3840).toLoadRect X6),
      yTile (trip_k0_t3.sl.v198 (F := Ideal) arg17 X17 k) (View.readAt (Elt Ideal) arg15.view (Rect.unit (s := S128x7168) (k0_off59 k) S16x256.size (k0_off59_inb k)).toLoadRect f15) (View.readAt (Elt Ideal) arg5.view (Rect.unit (s := S1x7168) ![0, 4352] S1x256.size inb_S1x7168_S1x256_0_4352).toLoadRect X5) (View.readAt (Elt Ideal) arg6.view (Rect.unit (s := S1x7168) ![0, 4352] S1x256.size inb_S1x7168_S1x256_0_4352).toLoadRect X6),
      yTile (trip_k0_t3.sl.v198 (F := Ideal) arg17 X17 k) (View.readAt (Elt Ideal) arg15.view (Rect.unit (s := S128x7168) (k0_off61 k) S16x256.size (k0_off61_inb k)).toLoadRect f15) (View.readAt (Elt Ideal) arg5.view (Rect.unit (s := S1x7168) ![0, 4864] S1x256.size inb_S1x7168_S1x256_0_4864).toLoadRect X5) (View.readAt (Elt Ideal) arg6.view (Rect.unit (s := S1x7168) ![0, 4864] S1x256.size inb_S1x7168_S1x256_0_4864).toLoadRect X6),
      yTile (trip_k0_t3.sl.v198 (F := Ideal) arg17 X17 k) (View.readAt (Elt Ideal) arg15.view (Rect.unit (s := S128x7168) (k0_off63 k) S16x256.size (k0_off63_inb k)).toLoadRect f15) (View.readAt (Elt Ideal) arg5.view (Rect.unit (s := S1x7168) ![0, 5376] S1x256.size inb_S1x7168_S1x256_0_5376).toLoadRect X5) (View.readAt (Elt Ideal) arg6.view (Rect.unit (s := S1x7168) ![0, 5376] S1x256.size inb_S1x7168_S1x256_0_5376).toLoadRect X6),
      yTile (trip_k0_t3.sl.v198 (F := Ideal) arg17 X17 k) (View.readAt (Elt Ideal) arg15.view (Rect.unit (s := S128x7168) (k0_off65 k) S16x256.size (k0_off65_inb k)).toLoadRect f15) (View.readAt (Elt Ideal) arg5.view (Rect.unit (s := S1x7168) ![0, 5888] S1x256.size inb_S1x7168_S1x256_0_5888).toLoadRect X5) (View.readAt (Elt Ideal) arg6.view (Rect.unit (s := S1x7168) ![0, 5888] S1x256.size inb_S1x7168_S1x256_0_5888).toLoadRect X6),
      yTile (trip_k0_t3.sl.v198 (F := Ideal) arg17 X17 k) (View.readAt (Elt Ideal) arg15.view (Rect.unit (s := S128x7168) (k0_off67 k) S16x256.size (k0_off67_inb k)).toLoadRect f15) (View.readAt (Elt Ideal) arg5.view (Rect.unit (s := S1x7168) ![0, 6400] S1x256.size inb_S1x7168_S1x256_0_6400).toLoadRect X5) (View.readAt (Elt Ideal) arg6.view (Rect.unit (s := S1x7168) ![0, 6400] S1x256.size inb_S1x7168_S1x256_0_6400).toLoadRect X6),
      yTile (trip_k0_t3.sl.v198 (F := Ideal) arg17 X17 k) (View.readAt (Elt Ideal) arg15.view (Rect.unit (s := S128x7168) (k0_off69 k) S16x256.size (k0_off69_inb k)).toLoadRect f15) (View.readAt (Elt Ideal) arg5.view (Rect.unit (s := S1x7168) ![0, 6912] S1x256.size inb_S1x7168_S1x256_0_6912).toLoadRect X5) (View.readAt (Elt Ideal) arg6.view (Rect.unit (s := S1x7168) ![0, 6912] S1x256.size inb_S1x7168_S1x256_0_6912).toLoadRect X6)] [1, 3, 5, 7, 9, 11, 13, 15, 17, 19, 21, 23, 25, 27] (by
    iterate 14 refine List.Forall₂.cons (y_rowN C R g b arg5 arg6 arg15 arg17 X5 X6 X17 f15 hX5 hX6 hX17 k hf _ _ _ _ _ (by clear hE; clear hX5 hX6 hX17 hf; revert k; decide +kernel)) ?_
    exact List.Forall₂.nil) (broadcast S16x256 (Scalar.ofBits .f32 0x00000000#32))
  have hz : ∀ j, (broadcast S16x256 (Scalar.ofBits (F := Ideal) .f32 0x00000000#32) : FVec Ideal S16x256 .f32) j = 0 := fun _ => Ideal.ofBits_zero_f32
  refine eq_of_forall_ge_iff fun t => ?_
  unfold amaxRow
  rw [Finset.fold_max_le, Finset.sup_le_iff]
  have hm : ∀ (u v : FVec Ideal S16x256 .f32) j, (maximumf u v j ≤ t ↔ u j ≤ t ∧ v j ≤ t) := fun u v j => max_le_iff
  simp only [hm, hE, hO, hz]
  have hrow : ∀ (q : ℕ) (hq : q < 28) (l : Fin 256), rowN (yBlk C R g b) (rowOf k (j 0)) (256 * q + l.val)
      = yBlk C R g b (ix2 (rowOf k (j 0)) ⟨256 * q + l.val, by omega⟩) := fun q hq l => dif_pos (by omega)
  constructor
  · rintro ⟨-, h⟩ c -
    obtain ⟨⟨-, h1⟩, -, h2⟩ := h ⟨c.val % 256, Nat.mod_lt _ (by norm_num)⟩ (Finset.mem_univ _)
    have hq : c.val / 256 < 28 := by omega
    have key : ∀ q < 28, q ∈ ([0, 2, 4, 6, 8, 10, 12, 14, 16, 18, 20, 22, 24, 26] : List ℕ) ∨ q ∈ ([1, 3, 5, 7, 9, 11, 13, 15, 17, 19, 21, 23, 25, 27] : List ℕ) := by decide
    have e : rowN (yBlk C R g b) (rowOf k (j 0)) (256 * (c.val / 256) + c.val % 256) = yBlk C R g b (ix2 (rowOf k (j 0)) c) := by
      rw [Nat.div_add_mod]; exact dif_pos c.isLt
    rw [← e]
    rcases key _ hq with hq | hq
    · exact h1 _ hq
    · exact h2 _ hq
  · intro h
    have h0 : (0 : EReal) ≤ t := (absE_nonneg _).trans (h 0 (Finset.mem_univ _))
    have hall : ∀ q < 28, ∀ l : Fin 256, absE (rowN (yBlk C R g b) (rowOf k (j 0)) (256 * q + l.val)) ≤ t := by
      intro q hq l
      rw [hrow q hq l]
      exact h _ (Finset.mem_univ _)
    have kE : ∀ q ∈ ([0, 2, 4, 6, 8, 10, 12, 14, 16, 18, 20, 22, 24, 26] : List ℕ), q < 28 := by decide
    have kO : ∀ q ∈ ([1, 3, 5, 7, 9, 11, 13, 15, 17, 19, 21, 23, 25, 27] : List ℕ), q < 28 := by decide
    exact ⟨bot_le, fun l _ => ⟨⟨h0, fun q hq => hall q (kE q hq) l⟩, h0, fun q hq => hall q (kO q hq) l⟩⟩
end

section
variable (C : S128x7168.Idx → EReal) (R : Fin 128 → EReal) (g b : Fin 7168 → EReal)
  (𝒱 : Variants) (c : Dev nD) (bd : Option 𝒱.V) (i : grid0.Coords)
    (arg1 : Memref sig .tc .vmem S128x7168 .bf16) (harg1 : arg1.IsWhole)
    (arg2 : Memref sig .tc .vmem S128x7168 .bf16) (harg2 : arg2.IsWhole)
    (arg3 : Memref sig .tc .vmem S1x7168 .f32) (harg3 : arg3.IsWhole)
    (arg4 : Memref sig .tc .vmem S128x7168 .i32) (harg4 : arg4.IsWhole)
    (arg5 : Memref sig .tc .vmem S1x7168 .f32) (harg5 : arg5.IsWhole)
    (arg6 : Memref sig .tc .vmem S1x7168 .f32) (harg6 : arg6.IsWhole)
    (arg7 : Memref sig .tc .vmem S1024x128 .bf16) (harg7 : arg7.IsWhole)
    (arg8 : Memref sig .tc .vmem S128x7168 .fp8e4m3) (harg8 : arg8.IsWhole)
    (arg9 : Memref sig .tc .vmem S4x3072 .f32) (harg9 : arg9.IsWhole)
    (arg10 : Memref sig .tc .vmem S128x896 .i8) (harg10 : arg10.IsWhole)
    (arg11 : Memref sig .tc .vmem S4x3072 .f32) (harg11 : arg11.IsWhole)
    (arg12 : Memref sig .tc .vmem S4x3072 .f32) (harg12 : arg12.IsWhole)
    (arg13 : Memref sig .tc .vmem S128x7168 .bf16) (harg13 : arg13.IsWhole)
    (arg14 : Memref sig .tc .vmem S128x1024 .bf16) (harg14 : arg14.IsWhole)
    (arg15 : Memref sig .tc .vmem S128x7168 .f32) (harg15 : arg15.IsWhole)
    (arg16 : Memref sig .tc .vmem S128x128 .f32) (harg16 : arg16.IsWhole)
    (arg17 : Memref sig .tc .vmem S128x128 .f32) (harg17 : arg17.IsWhole)
    (arg18 : Memref sig .tc .vmem S128x128 .f32) (harg18 : arg18.IsWhole)
    (arg19 : Memref sig .tc .vmem S128x128 .f32) (harg19 : arg19.IsWhole)
  (X5 : BufTy.Contents (Elt Ideal) arg5.view.ty) (X6 : BufTy.Contents (Elt Ideal) arg6.view.ty) (X17 : BufTy.Contents (Elt Ideal) arg17.view.ty)
    (G15 : BufTy.Contents (Elt Ideal) arg15.view.ty) (G18 : BufTy.Contents (Elt Ideal) arg18.view.ty)
    (hX5 : ∀ l : Fin 7168, arg5.view.read (Elt Ideal) X5 (ix2 0 l) = g l) (hX6 : ∀ l : Fin 7168, arg6.view.read (Elt Ideal) X6 (ix2 0 l) = b l)
    (hX17 : ∀ z, arg17.view.read (Elt Ideal) X17 z = R (z 0)) (hG15 : ∀ y, arg15.view.read (Elt Ideal) G15 y = C y)

/-- The stores before trip `n` into the windows of normalised rows and of their largest absolute values. -/
abbrev pb3 (n : ℕ) := pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 n

/-- What trip `k` finds in the window of normalised rows. -/
abbrev f3 (n : ℕ) := arg15.view.writes (Elt Ideal) G15 (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 n).1

/-- The store of one trip into the window of largest absolute values. -/
def L18 (f15 : BufTy.Contents (Elt Ideal) arg15.view.ty) (k : Fin k0_t3_loop.trips) : List (Piece (Elt Ideal) S128x128 .f32) :=
  [⟨Rect.unit (s := S128x128) (k0_off41 k) S16x128.size (k0_off41_inb k),
    k0_pay326 (trip_k0_t3.sl.v198 (F := Ideal) arg17 X17 k) (trip_k0_t3.sl.v642 (F := Ideal) arg5 arg6 arg15 arg17 X5 X6 X17 k f15) (trip_k0_t3.sl.v659 (F := Ideal) arg5 arg6 arg15 arg17 X5 X6 X17 k f15) (trip_k0_t3.sl.v661 (F := Ideal) arg15 k f15) (View.readAt (Elt Ideal) arg5.view (Rect.unit (s := S1x7168) ![0, 6912] S1x256.size inb_S1x7168_S1x256_0_6912).toLoadRect X5) (View.readAt (Elt Ideal) arg6.view (Rect.unit (s := S1x7168) ![0, 6912] S1x256.size inb_S1x7168_S1x256_0_6912).toLoadRect X6)⟩]

theorem pb3_succ (k : Fin k0_t3_loop.trips) :
    pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 (k.val + 1)
      = (L3 arg5 arg6 arg15 arg17 X5 X6 X17 (f3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k.val) k ++ (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k.val).1,
        L18 arg5 arg6 arg15 arg17 X5 X6 X17 (f3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k.val) k ++ (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k.val).2) := by
  refine (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k).trans ?_
  simp only [tripL_k0_t3]
  unfold trip_k0_t3
  rfl

include hX5 hX6 hX17 hG15

/-- Before each trip, the stores so far are tiles of the normalised block, all in the rows of the trips before. -/
theorem t3_inv : ∀ n ≤ k0_t3_loop.trips, ∀ p ∈ (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 n).1,
    IsTile (s := S128x7168) S16x256.size (yBlk C R g b) p ∧ p.1.off 0 + 16 ≤ 16 * n := by
  intro n
  induction n with
  | zero => intro _ p hp; exact absurd hp List.not_mem_nil
  | succ n ih =>
    intro hn p hp
    rw [pb3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 ⟨n, hn⟩] at hp
    rcases List.mem_append.mp hp with hp | hp
    · refine ⟨L3_tiles C R g b arg5 arg6 arg15 arg17 X5 X6 X17 _ hX5 hX6 hX17 ⟨n, hn⟩ (fun y hy => ?_) p hp, ?_⟩
      · refine (View.read_writes_apply_of_forall_not_mem _ _ y _ fun p' hp' hmem => ?_).trans (hG15 y)
        obtain ⟨ht, hr⟩ := ih (by omega) p' hp'
        have h0 := ((ht.mem y).mp hmem 0).2
        change (y 0).val < p'.1.off 0 + 16 at h0
        change 16 * n ≤ (y 0).val at hy
        omega
      · rw [L3_rows _ _ _ _ _ _ _ _ _ p hp]
        show 16 * n + 16 ≤ _
        omega
    · obtain ⟨h1, h2⟩ := ih (by omega) p hp
      exact ⟨h1, by omega⟩

/-- Trip `k` finds the centred rows where it reads. -/
theorem f3_read (k : Fin k0_t3_loop.trips) (y : S128x7168.Idx) (hy : 16 * k.val ≤ (y 0).val) :
    arg15.view.read (Elt Ideal) (f3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k.val) y = C y := by
  refine (View.read_writes_apply_of_forall_not_mem _ _ y _ fun p' hp' hmem => ?_).trans (hG15 y)
  obtain ⟨ht, hr⟩ := t3_inv C R g b 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 hX5 hX6 hX17 hG15 k.val k.isLt.le p' hp'
  have h0 := ((ht.mem y).mp hmem 0).2
  change (y 0).val < p'.1.off 0 + 16 at h0
  omega

/-- After the loop the window holds the normalised rows. -/
theorem t3_y (f : BufTy.Contents (Elt Ideal) arg15.view.ty) (y : S128x7168.Idx) :
    arg15.view.read (Elt Ideal) (arg15.view.writes (Elt Ideal) f (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k0_t3_loop.trips).1) y
      = yBlk C R g b y := by
  have h : (y 0).val < 128 := (y 0).isLt
  have hk : (y 0).val / 16 < k0_t3_loop.trips := by
    have : k0_t3_loop.trips = 8 := by decide
    omega
  refine read_trips arg15 (fun n => (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 n).1)
    (fun k => L3 arg5 arg6 arg15 arg17 X5 X6 X17 (f3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k.val) k) f rfl
    (fun k => congrArg (fun s => s.1) (pb3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k))
    (fun k => L3_tiles C R g b arg5 arg6 arg15 arg17 X5 X6 X17 _ hX5 hX6 hX17 k
      (f3_read C R g b 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 hX5 hX6 hX17 hG15 k)) y
    ⟨⟨(y 0).val / 16, hk⟩, L3_cover arg5 arg6 arg15 arg17 X5 X6 X17 _ _ y ?_ ?_⟩
  · show 16 * ((y 0).val / 16) ≤ _
    omega
  · show _ < 16 * ((y 0).val / 16) + 16
    omega

/-- After the loop each lane of a row holds the row's largest absolute value. -/
theorem t3_amax (f : BufTy.Contents (Elt Ideal) arg18.view.ty) (z : S128x128.Idx) :
    arg18.view.read (Elt Ideal) (arg18.view.writes (Elt Ideal) f (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k0_t3_loop.trips).2) z
      = amaxRow (yBlk C R g b) (z 0) := by
  have h : (z 0).val < 128 := (z 0).isLt
  have h1 : (z 1).val < 128 := (z 1).isLt
  have hk : (z 0).val / 16 < k0_t3_loop.trips := by
    have : k0_t3_loop.trips = 8 := by decide
    omega
  have ho : ∀ k : Fin k0_t3_loop.trips, k0_off41 k 0 = 16 * k.val ∧ k0_off41 k 1 = 0 := by decide +kernel
  refine read_trips (G := fun z : S128x128.Idx => amaxRow (yBlk C R g b) (z 0)) (sz := S16x128.size) arg18 (fun n => (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 n).2)
    (fun k => L18 arg5 arg6 arg15 arg17 X5 X6 X17 (f3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k.val) k) f rfl
    (fun k => congrArg (fun s => s.2) (pb3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 k))
    (fun k => forall_cons (IsTile.unit fun x => ?_) (forall_nil _)) z
    ⟨⟨(z 0).val / 16, hk⟩, _, List.mem_singleton.mpr rfl, Fin.forall_fin_two.mpr ⟨?_, ?_⟩⟩
  · refine (amax_rows C R g b arg5 arg6 arg15 arg17 X5 X6 X17 _ hX5 hX6 hX17 k
      (f3_read C R g b 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X6 X17 G15 G18 hX5 hX6 hX17 hG15 k) x).trans ?_
    congr 1
    exact Fin.ext (((unit_emb_val (s := S128x128) _ _ _ _ _).trans (by rw [(ho k).1]; rfl)).symm)
  · show k0_off41 ⟨(z 0).val / 16, hk⟩ 0 ≤ (z 0).val ∧ (z 0).val < k0_off41 ⟨(z 0).val / 16, hk⟩ 0 + 16
    rw [(ho _).1]; simp only; omega
  · show k0_off41 ⟨(z 0).val / 16, hk⟩ 1 ≤ (z 1).val ∧ (z 1).val < k0_off41 ⟨(z 0).val / 16, hk⟩ 1 + 128
    rw [(ho _).2]; omega

end

end Cert.KernelIdeal.Hand
-- ==== Proof.KernelIdeal.Quant.lean ====
/-
  The quantising loop: each trip scales 32 normalised rows, clamps them and stores the codes.
-/
module

public import proofs.«01_k».proof.Proof.KernelIdeal.Norm

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (Piece)

/-- The row of the block that a trip's row `r` of 32 is. -/
def rowOf32 (k : Fin 4) (r : Fin 32) : Fin 128 := ⟨32 * k.val + r.val, by omega⟩

/-- Two copies side by side of rows each holding one value: that value in each lane. -/
theorem concat_rows32 (m : Vec Ideal S32x128 .f32) (R : Fin 32 → EReal) (hm : ∀ j, m j = R (j 0)) (j : S32x256.Idx) :
    concatenate S32x256 1 [⟨S32x128, m⟩, ⟨S32x128, m⟩] concatenates_S32x128_S32x128_S32x256_d1 j = R (j 0) := by
  pointwise [hm]
  simp

section
variable {F : FTy → Type} [FloatOps F] [Named F]

/-- A tile of codes. -/
def codeTile (x m : FVec F S32x256 .f32) : FVec F S32x256 .fp8e4m3 :=
  truncf .fp8e4m3 (minimumf (broadcast S32x256 (Scalar.ofBits .f32 0x43E00000#32))
    (maximumf (broadcast S32x256 (Scalar.ofBits .f32 0xC3E00000#32)) (mulf x m))) bitsLt_fp8e4m3_f32
end

/-- One code: the scaled entry, clamped to the format's range. -/
def codeAt (y s : EReal) : EReal :=
  min (Ideal.ofBits .f32 0x43E00000#32) (max (Ideal.ofBits .f32 0xC3E00000#32) (y * s))

theorem codeTile_val (x m : FVec Ideal S32x256 .f32) (j : S32x256.Idx) : codeTile x m j = codeAt (x j) (m j) := by
  pointwise [codeTile, codeAt]

/-- The block of codes. -/
def codeBlk (Y : S128x7168.Idx → EReal) (S : Fin 128 → EReal) (y : S128x7168.Idx) : EReal := codeAt (Y y) (S (y 0))

section
variable (Y : S128x7168.Idx → EReal) (S : Fin 128 → EReal)
  (arg15 : Memref sig .tc .vmem S128x7168 .f32) (arg18 : Memref sig .tc .vmem S128x128 .f32)
    (X15 : BufTy.Contents (Elt Ideal) arg15.view.ty) (X18 : BufTy.Contents (Elt Ideal) arg18.view.ty)
    (hX15 : ∀ y, arg15.view.read (Elt Ideal) X15 y = Y y) (hX18 : ∀ z, arg18.view.read (Elt Ideal) X18 z = S (z 0))
include hX15 hX18

theorem inv_lanes (k : Fin k0_t4_loop.trips) (j : S32x256.Idx) :
    trip_k0_t4.sl.v198 (F := Ideal) arg18 X18 k j = S (rowOf32 k (j 0)) := by
  refine concat_rows32 _ (fun r => S (rowOf32 k r)) (fun z => ?_) j
  rw [readAt_unit_apply, hX18]
  congr 1
  have ho : ∀ k : Fin k0_t4_loop.trips, k0_off70 k 0 = 32 * k.val := by decide +kernel
  exact Fin.ext ((unit_emb_val (s := S128x128) _ _ _ _ _).trans (by rw [ho]; rfl))

theorem code_piece (k : Fin k0_t4_loop.trips) (off : Fin 2 → ℕ) (inb : ∀ a, off a + S32x256.size a ≤ S128x7168.size a)
    (ho : off 0 = 32 * k.val) :
    IsTile (s := S128x7168) (e := .fp8e4m3) S32x256.size (codeBlk Y S)
      ⟨Rect.unit (s := S128x7168) off S32x256.size inb, codeTile
        (View.readAt (Elt Ideal) arg15.view (Rect.unit (s := S128x7168) off S32x256.size inb).toLoadRect X15)
        (trip_k0_t4.sl.v198 (F := Ideal) arg18 X18 k)⟩ := by
  refine IsTile.unit fun x => ?_
  have e0 : (Rect.unit (s := S128x7168) off S32x256.size inb).emb x 0 = rowOf32 k (x 0) :=
    Fin.ext ((unit_emb_val (s := S128x7168) _ _ _ _ _).trans (by rw [ho]; rfl))
  exact (codeTile_val _ _ _).trans (congrArg₂ codeAt (hX15 _)
    ((inv_lanes Y S arg15 arg18 X15 X18 hX15 hX18 k x).trans (congrArg S e0.symm)))

/-- The stores of one trip into the window of codes. -/
def L8 (k : Fin k0_t4_loop.trips) : List (Piece (Elt Ideal) S128x7168 .fp8e4m3) :=
  [⟨Rect.unit (s := S128x7168) (k0_off98 k) S32x256.size (k0_off98_inb k), k0_pay335 (trip_k0_t4.sl.v471 (F := Ideal) arg15 arg18 X15 X18 k) trip_k0_t4.sl.cst_84 trip_k0_t4.sl.v202⟩,
      ⟨Rect.unit (s := S128x7168) (k0_off97 k) S32x256.size (k0_off97_inb k), trip_k0_t4.sl.v466 (F := Ideal) arg15 arg18 X15 X18 k⟩,
      ⟨Rect.unit (s := S128x7168) (k0_off96 k) S32x256.size (k0_off96_inb k), trip_k0_t4.sl.v456 (F := Ideal) arg15 arg18 X15 X18 k⟩,
      ⟨Rect.unit (s := S128x7168) (k0_off95 k) S32x256.size (k0_off95_inb k), trip_k0_t4.sl.v446 (F := Ideal) arg15 arg18 X15 X18 k⟩,
      ⟨Rect.unit (s := S128x7168) (k0_off94 k) S32x256.size (k0_off94_inb k), trip_k0_t4.sl.v436 (F := Ideal) arg15 arg18 X15 X18 k⟩,
      ⟨Rect.unit (s := S128x7168) (k0_off93 k) S32x256.size (k0_off93_inb k), trip_k0_t4.sl.v426 (F := Ideal) arg15 arg18 X15 X18 k⟩,
      ⟨Rect.unit (s := S128x7168) (k0_off92 k) S32x256.size (k0_off92_inb k), trip_k0_t4.sl.v416 (F := Ideal) arg15 arg18 X15 X18 k⟩,
      ⟨Rect.unit (s := S128x7168) (k0_off91 k) S32x256.size (k0_off91_inb k), trip_k0_t4.sl.v406 (F := Ideal) arg15 arg18 X15 X18 k⟩,
      ⟨Rect.unit (s := S128x7168) (k0_off90 k) S32x256.size (k0_off90_inb k), trip_k0_t4.sl.v396 (F := Ideal) arg15 arg18 X15 X18 k⟩,
      ⟨Rect.unit (s := S128x7168) (k0_off89 k) S32x256.size (k0_off89_inb k), trip_k0_t4.sl.v386 (F := Ideal) arg15 arg18 X15 X18 k⟩,
      ⟨Rect.unit (s := S128x7168) (k0_off88 k) S32x256.size (k0_off88_inb k), trip_k0_t4.sl.v376 (F := Ideal) arg15 arg18 X15 X18 k⟩,
      ⟨Rect.unit (s := S128x7168) (k0_off87 k) S32x256.size (k0_off87_inb k), trip_k0_t4.sl.v366 (F := Ideal) arg15 arg18 X15 X18 k⟩,
      ⟨Rect.unit (s := S128x7168) (k0_off86 k) S32x256.size (k0_off86_inb k), trip_k0_t4.sl.v356 (F := Ideal) arg15 arg18 X15 X18 k⟩,
      ⟨Rect.unit (s := S128x7168) (k0_off85 k) S32x256.size (k0_off85_inb k), trip_k0_t4.sl.v346 (F := Ideal) arg15 arg18 X15 X18 k⟩,
      ⟨Rect.unit (s := S128x7168) (k0_off84 k) S32x256.size (k0_off84_inb k), trip_k0_t4.sl.v336 (F := Ideal) arg15 arg18 X15 X18 k⟩,
      ⟨Rect.unit (s := S128x7168) (k0_off83 k) S32x256.size (k0_off83_inb k), trip_k0_t4.sl.v326 (F := Ideal) arg15 arg18 X15 X18 k⟩,
      ⟨Rect.unit (s := S128x7168) (k0_off82 k) S32x256.size (k0_off82_inb k), trip_k0_t4.sl.v316 (F := Ideal) arg15 arg18 X15 X18 k⟩,
      ⟨Rect.unit (s := S128x7168) (k0_off81 k) S32x256.size (k0_off81_inb k), trip_k0_t4.sl.v306 (F := Ideal) arg15 arg18 X15 X18 k⟩,
      ⟨Rect.unit (s := S128x7168) (k0_off80 k) S32x256.size (k0_off80_inb k), trip_k0_t4.sl.v296 (F := Ideal) arg15 arg18 X15 X18 k⟩,
      ⟨Rect.unit (s := S128x7168) (k0_off79 k) S32x256.size (k0_off79_inb k), trip_k0_t4.sl.v286 (F := Ideal) arg15 arg18 X15 X18 k⟩,
      ⟨Rect.unit (s := S128x7168) (k0_off78 k) S32x256.size (k0_off78_inb k), trip_k0_t4.sl.v276 (F := Ideal) arg15 arg18 X15 X18 k⟩,
      ⟨Rect.unit (s := S128x7168) (k0_off77 k) S32x256.size (k0_off77_inb k), trip_k0_t4.sl.v266 (F := Ideal) arg15 arg18 X15 X18 k⟩,
      ⟨Rect.unit (s := S128x7168) (k0_off76 k) S32x256.size (k0_off76_inb k), trip_k0_t4.sl.v256 (F := Ideal) arg15 arg18 X15 X18 k⟩,
      ⟨Rect.unit (s := S128x7168) (k0_off75 k) S32x256.size (k0_off75_inb k), trip_k0_t4.sl.v246 (F := Ideal) arg15 arg18 X15 X18 k⟩,
      ⟨Rect.unit (s := S128x7168) (k0_off74 k) S32x256.size (k0_off74_inb k), trip_k0_t4.sl.v236 (F := Ideal) arg15 arg18 X15 X18 k⟩,
      ⟨Rect.unit (s := S128x7168) (k0_off73 k) S32x256.size (k0_off73_inb k), trip_k0_t4.sl.v226 (F := Ideal) arg15 arg18 X15 X18 k⟩,
      ⟨Rect.unit (s := S128x7168) (k0_off72 k) S32x256.size (k0_off72_inb k), trip_k0_t4.sl.v216 (F := Ideal) arg15 arg18 X15 X18 k⟩,
      ⟨Rect.unit (s := S128x7168) (k0_off71 k) S32x256.size (k0_off71_inb k), trip_k0_t4.sl.v206 (F := Ideal) arg15 arg18 X15 X18 k⟩]

theorem L8_tiles (k : Fin k0_t4_loop.trips) : ∀ p ∈ L8 arg15 arg18 X15 X18 k, IsTile (s := S128x7168) S32x256.size (codeBlk Y S) p := by
  unfold L8
  iterate 28 refine forall_cons (code_piece Y S arg15 arg18 X15 X18 hX15 hX18 k _ _ (by clear hX15 hX18; revert k; decide +kernel)) ?_
  exact forall_nil _

omit hX15 hX18 in
theorem L8_cover (k : Fin k0_t4_loop.trips) (y : S128x7168.Idx) (h : 32 * k.val ≤ (y 0).val) (h' : (y 0).val < 32 * k.val + 32) :
    ∃ o ∈ (L8 arg15 arg18 X15 X18 k).map (fun p => p.1.off), ∀ a, o a ≤ (y a).val ∧ (y a).val < o a + S32x256.size a := by
  have e : (L8 arg15 arg18 X15 X18 k).map (fun p => p.1.off) = [k0_off98 k, k0_off97 k, k0_off96 k, k0_off95 k, k0_off94 k, k0_off93 k, k0_off92 k, k0_off91 k, k0_off90 k, k0_off89 k, k0_off88 k, k0_off87 k, k0_off86 k, k0_off85 k, k0_off84 k, k0_off83 k, k0_off82 k, k0_off81 k, k0_off80 k, k0_off79 k, k0_off78 k, k0_off77 k, k0_off76 k, k0_off75 k, k0_off74 k, k0_off73 k, k0_off72 k, k0_off71 k] := rfl
  rw [e]
  have hc : ∀ k : Fin k0_t4_loop.trips, ∀ q : Fin 28, ∃ o ∈ ([k0_off98 k, k0_off97 k, k0_off96 k, k0_off95 k, k0_off94 k, k0_off93 k, k0_off92 k, k0_off91 k, k0_off90 k, k0_off89 k, k0_off88 k, k0_off87 k, k0_off86 k, k0_off85 k, k0_off84 k, k0_off83 k, k0_off82 k, k0_off81 k, k0_off80 k, k0_off79 k, k0_off78 k, k0_off77 k, k0_off76 k, k0_off75 k, k0_off74 k, k0_off73 k, k0_off72 k, k0_off71 k] : List (Fin 2 → ℕ)),
      o 0 = 32 * k.val ∧ o 1 = 256 * q.val := by decide +kernel
  have h1 : (y 1).val < 7168 := (y 1).isLt
  obtain ⟨o, ho, e0, e1⟩ := hc k ⟨(y 1).val / 256, by omega⟩
  refine ⟨o, ho, Fin.forall_fin_two.mpr ⟨?_, ?_⟩⟩
  · show o 0 ≤ (y 0).val ∧ (y 0).val < o 0 + 32
    omega
  · show o 1 ≤ (y 1).val ∧ (y 1).val < o 1 + 256
    simp only at e1; omega
end

section
variable (Y : S128x7168.Idx → EReal) (S : Fin 128 → EReal)
  (𝒱 : Variants) (c : Dev nD) (bd : Option 𝒱.V) (i : grid0.Coords)
    (arg1 : Memref sig .tc .vmem S128x7168 .bf16) (harg1 : arg1.IsWhole)
    (arg2 : Memref sig .tc .vmem S128x7168 .bf16) (harg2 : arg2.IsWhole)
    (arg3 : Memref sig .tc .vmem S1x7168 .f32) (harg3 : arg3.IsWhole)
    (arg4 : Memref sig .tc .vmem S128x7168 .i32) (harg4 : arg4.IsWhole)
    (arg5 : Memref sig .tc .vmem S1x7168 .f32) (harg5 : arg5.IsWhole)
    (arg6 : Memref sig .tc .vmem S1x7168 .f32) (harg6 : arg6.IsWhole)
    (arg7 : Memref sig .tc .vmem S1024x128 .bf16) (harg7 : arg7.IsWhole)
    (arg8 : Memref sig .tc .vmem S128x7168 .fp8e4m3) (harg8 : arg8.IsWhole)
    (arg9 : Memref sig .tc .vmem S4x3072 .f32) (harg9 : arg9.IsWhole)
    (arg10 : Memref sig .tc .vmem S128x896 .i8) (harg10 : arg10.IsWhole)
    (arg11 : Memref sig .tc .vmem S4x3072 .f32) (harg11 : arg11.IsWhole)
    (arg12 : Memref sig .tc .vmem S4x3072 .f32) (harg12 : arg12.IsWhole)
    (arg13 : Memref sig .tc .vmem S128x7168 .bf16) (harg13 : arg13.IsWhole)
    (arg14 : Memref sig .tc .vmem S128x1024 .bf16) (harg14 : arg14.IsWhole)
    (arg15 : Memref sig .tc .vmem S128x7168 .f32) (harg15 : arg15.IsWhole)
    (arg16 : Memref sig .tc .vmem S128x128 .f32) (harg16 : arg16.IsWhole)
    (arg17 : Memref sig .tc .vmem S128x128 .f32) (harg17 : arg17.IsWhole)
    (arg18 : Memref sig .tc .vmem S128x128 .f32) (harg18 : arg18.IsWhole)
    (arg19 : Memref sig .tc .vmem S128x128 .f32) (harg19 : arg19.IsWhole)
  (v13 : FVec Ideal S128x128 .f32) (v68 : IVec S128x128 32) (v74 : IVec S128x128 1)
  (X15 : BufTy.Contents (Elt Ideal) arg15.view.ty) (X18 : BufTy.Contents (Elt Ideal) arg18.view.ty)
    (hX15 : ∀ y, arg15.view.read (Elt Ideal) X15 y = Y y) (hX18 : ∀ z, arg18.view.read (Elt Ideal) X18 z = S (z 0))

/-- The stores before trip `n` into the window of codes. -/
abbrev pb4 (n : ℕ) := pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v13 v68 v74 X15 X18 n

theorem pb4_succ (k : Fin k0_t4_loop.trips) :
    pb4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v13 v68 v74 X15 X18 (k.val + 1) = L8 arg15 arg18 X15 X18 k ++ pb4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v13 v68 v74 X15 X18 k.val := by
  refine (pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v13 v68 v74 X15 X18 k).trans ?_
  simp only [tripL_k0_t4]
  unfold trip_k0_t4
  rfl

include hX15 hX18

/-- After the loop the window holds the codes. -/
theorem t4_codes (f : BufTy.Contents (Elt Ideal) arg8.view.ty) (y : S128x7168.Idx) :
    arg8.view.read (Elt Ideal) (arg8.view.writes (Elt Ideal) f (pb4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v13 v68 v74 X15 X18 k0_t4_loop.trips)) y = codeBlk Y S y := by
  have h : (y 0).val < 128 := (y 0).isLt
  have hk : (y 0).val / 32 < k0_t4_loop.trips := by
    have : k0_t4_loop.trips = 4 := by decide
    omega
  refine read_trips arg8 (fun n => pb4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v13 v68 v74 X15 X18 n)
    (fun k => L8 arg15 arg18 X15 X18 k) f rfl
    (fun k => pb4_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v13 v68 v74 X15 X18 k) (L8_tiles Y S arg15 arg18 X15 X18 hX15 hX18) y
    ⟨⟨(y 0).val / 32, hk⟩, L8_cover arg15 arg18 X15 X18 _ y ?_ ?_⟩
  · show 32 * ((y 0).val / 32) ≤ _
    omega
  · show _ < 32 * ((y 0).val / 32) + 32
    omega
end

end Cert.KernelIdeal.Hand
-- ==== Proof.KernelIdeal.Drop.lean ====
/-
  The dropout loop: each trip stores 1024 columns of h, adds their row sums to the carried value, and
  stores the packed dropout bits of these columns.
-/
module

public import proofs.«01_k».proof.Proof.KernelIdeal.Tiles

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (Piece)

/-- One element of h: the residual plus the dropped-out, rescaled branch. -/
def hAt (x a b : EReal) (w : BitVec 32) : EReal :=
  x + Scalar.select (IntOp.cmpi .uge w 429496730#32) ((a + b) * Ideal.ofBits .f32 1066285284#32) 0

/-- One element of the dropout mask as a number. -/
def keepAt (w : BitVec 32) : EReal := Scalar.select (IntOp.cmpi .uge w 429496730#32) 1 0

theorem h_tile (w : Vec Ideal S16x256 .i32) (a x : Vec Ideal S16x256 .bf16) (b : Vec Ideal S1x256 .f32) (j : S16x256.Idx) :
    k0_pay2 (F := Ideal) w a b x j = hAt (x j) (a j) (b (ix2 0 (j 1))) (w j) := by
  pointwise [k0_pay2, k0_pay1, hAt, shapeCast_self]

theorem keep_tile (w : Vec Ideal S16x256 .i32) (j : S16x256.Idx) : k0_pay3 (F := Ideal) w j = keepAt (w j) := by
  pointwise [k0_pay3, k0_pay1, keepAt, shapeCast_self]

/-- The carried row sums after a trip: before it, plus the sums of the chunk's rows. -/
theorem carry_step (acc : FVec Ideal S128x128 .f32) (v : FVec Ideal S128x1024 .bf16) (j : S128x128.Idx) :
    k0_pay321 acc v j = acc j + ∑ l : Fin 1024, v (ix2 (j 0) l) := by
  pointwise [k0_pay321]

/-- The bytes a number packs to. -/
def maskAt (s : EReal) : BitVec 8 := (FloatOps.fptosi (F := Ideal) (φ := .f32) 32 s).setWidth 8

section
variable (arg1 : Memref sig .tc .vmem S128x7168 .bf16) (arg2 : Memref sig .tc .vmem S128x7168 .bf16) (arg3 : Memref sig .tc .vmem S1x7168 .f32) (arg4 : Memref sig .tc .vmem S128x7168 .i32)
    (X1 : BufTy.Contents (Elt Ideal) arg1.view.ty) (X2 : BufTy.Contents (Elt Ideal) arg2.view.ty) (X3 : BufTy.Contents (Elt Ideal) arg3.view.ty) (X4 : BufTy.Contents (Elt Ideal) arg4.view.ty)

/-- The block of h that the input windows' contents give. -/
def hBlk (y : S128x7168.Idx) : EReal :=
  hAt (arg1.view.read (Elt Ideal) X1 y) (arg2.view.read (Elt Ideal) X2 y) (arg3.view.read (Elt Ideal) X3 (ix2 0 (y 1)))
    (arg4.view.read (Elt Ideal) X4 y)

/-- The block of the dropout mask as numbers. -/
def keepBlk (y : S128x7168.Idx) : EReal := keepAt (arg4.view.read (Elt Ideal) X4 y)

theorem h_piece (off : Fin 2 → Nat) (inb : ∀ a, off a + S16x256.size a ≤ S128x7168.size a) (offb : Fin 2 → Nat)
    (inbb : ∀ a, offb a + S1x256.size a ≤ S1x7168.size a) (hb : offb 1 = off 1) :
    IsTile (s := S128x7168) (e := .bf16) S16x256.size (hBlk arg1 arg2 arg3 arg4 X1 X2 X3 X4)
      ⟨Rect.unit (s := S128x7168) off S16x256.size inb,
        k0_pay2 (F := Ideal) (View.readAt (Elt Ideal) arg4.view (Rect.unit (s := S128x7168) off S16x256.size inb).toLoadRect X4)
      (View.readAt (Elt Ideal) arg2.view (Rect.unit (s := S128x7168) off S16x256.size inb).toLoadRect X2)
      (View.readAt (Elt Ideal) arg3.view (Rect.unit (s := S1x7168) offb S1x256.size inbb).toLoadRect X3)
      (View.readAt (Elt Ideal) arg1.view (Rect.unit (s := S128x7168) off S16x256.size inb).toLoadRect X1)⟩ := by
  refine IsTile.unit fun x => ?_
  rw [h_tile]
  simp only [readAt_unit_apply]
  unfold hBlk
  congr 2
  have h0 := inbb 0
  apply Shape.idx_ext₂
  · have h1 := unit_emb_val (s := S1x7168) offb S1x256.size inbb (ix2 0 (x 1)) 0
    simp only [S1x256, S1x7168] at h0 h1 ⊢
    simp at h0
    rw [h1, h0]; rfl
  · rw [unit_emb_val]
    refine Eq.trans ?_ (unit_emb_val (s := S128x7168) off S16x256.size inb x 1).symm
    rw [← hb]; rfl

theorem HW13_tiles (k : Fin k0_t1_loop.trips) :
    ∀ p ∈ trip_k0_t1.sl.HW_arg13_32 (F := Ideal) arg1 arg2 arg3 arg4 X1 X2 X3 X4 k,
      IsTile (s := S128x7168) S16x256.size (hBlk arg1 arg2 arg3 arg4 X1 X2 X3 X4) p := by
  unfold trip_k0_t1.sl.HW_arg13_32
  iterate 32 refine forall_cons (h_piece arg1 arg2 arg3 arg4 X1 X2 X3 X4 _ _ _ _ (by revert k; decide +kernel)) ?_
  exact forall_nil _

theorem HW13_offs (k : Fin k0_t1_loop.trips) :
    (trip_k0_t1.sl.HW_arg13_32 (F := Ideal) arg1 arg2 arg3 arg4 X1 X2 X3 X4 k).map (fun p => p.1.off)
      = [k0_off9 k 768#32, k0_off9 k 512#32, k0_off9 k 256#32, k0_off9 k 0#32, k0_off8 k 768#32, k0_off8 k 512#32, k0_off8 k 256#32, k0_off8 k 0#32, k0_off7 k 768#32, k0_off7 k 512#32, k0_off7 k 256#32, k0_off7 k 0#32, k0_off6 k 768#32, k0_off6 k 512#32, k0_off6 k 256#32, k0_off6 k 0#32, k0_off5 k 768#32, k0_off5 k 512#32, k0_off5 k 256#32, k0_off5 k 0#32, k0_off4 k 768#32, k0_off4 k 512#32, k0_off4 k 256#32, k0_off4 k 0#32, k0_off3 k 768#32, k0_off3 k 512#32, k0_off3 k 256#32, k0_off3 k 0#32, k0_off1 k 768#32, k0_off1 k 512#32, k0_off1 k 256#32, k0_off1 k 0#32] := rfl

theorem HW13_cover (k : Fin k0_t1_loop.trips) (y : S128x7168.Idx) (h : 1024 * k.val ≤ (y 1).val) (h' : (y 1).val < 1024 * k.val + 1024) :
    ∃ o ∈ (trip_k0_t1.sl.HW_arg13_32 (F := Ideal) arg1 arg2 arg3 arg4 X1 X2 X3 X4 k).map (fun p => p.1.off),
      ∀ a, o a ≤ (y a).val ∧ (y a).val < o a + S16x256.size a := by
  rw [HW13_offs]
  have hc : ∀ k : Fin k0_t1_loop.trips, ∀ g : Fin 8, ∀ q : Fin 4, ∃ o ∈ ([k0_off9 k 768#32, k0_off9 k 512#32, k0_off9 k 256#32, k0_off9 k 0#32, k0_off8 k 768#32, k0_off8 k 512#32, k0_off8 k 256#32, k0_off8 k 0#32, k0_off7 k 768#32, k0_off7 k 512#32, k0_off7 k 256#32, k0_off7 k 0#32, k0_off6 k 768#32, k0_off6 k 512#32, k0_off6 k 256#32, k0_off6 k 0#32, k0_off5 k 768#32, k0_off5 k 512#32, k0_off5 k 256#32, k0_off5 k 0#32, k0_off4 k 768#32, k0_off4 k 512#32, k0_off4 k 256#32, k0_off4 k 0#32, k0_off3 k 768#32, k0_off3 k 512#32, k0_off3 k 256#32, k0_off3 k 0#32, k0_off1 k 768#32, k0_off1 k 512#32, k0_off1 k 256#32, k0_off1 k 0#32] : List (Fin 2 → ℕ)),
      o 0 = 16 * g.val ∧ o 1 = 1024 * k.val + 256 * q.val := by decide +kernel
  have h0 : (y 0).val < 128 := (y 0).isLt
  obtain ⟨o, ho, e0, e1⟩ := hc k ⟨(y 0).val / 16, by omega⟩ ⟨((y 1).val - 1024 * k.val) / 256, by omega⟩
  refine ⟨o, ho, Fin.forall_fin_two.mpr ⟨?_, ?_⟩⟩
  · show o 0 ≤ (y 0).val ∧ (y 0).val < o 0 + 16
    simp only at e0; omega
  · show o 1 ≤ (y 1).val ∧ (y 1).val < o 1 + 256
    simp only at e1; omega

/-- The chunk a trip reads back for its row sums. -/
theorem chunk_read (arg13 : Memref sig .tc .vmem S128x7168 .bf16) (k : Fin k0_t1_loop.trips) (z : S128x1024.Idx) :
    trip_k0_t1.sl.v1296 (F := Ideal) arg1 arg2 arg3 arg4 arg13 X1 X2 X3 X4 k z
      = rowN (hBlk arg1 arg2 arg3 arg4 X1 X2 X3 X4) (z 0) (1024 * k.val + (z 1).val) := by
  unfold trip_k0_t1.sl.v1296
  rw [shapeCast_self]
  have ho : ∀ k : Fin k0_t1_loop.trips, k0_off11 k 0 = 0 ∧ k0_off11 k 1 = 1024 * k.val := by decide +kernel
  have hz : (z 1).val < 1024 := (z 1).isLt
  have e0 : ((Rect.unit (s := S128x7168) (k0_off11 k) S128x1024.size (k0_off11_inb k)).emb z 0).val = (z 0).val := by
    rw [unit_emb_val, (ho k).1, Nat.zero_add]
  have e1 : ((Rect.unit (s := S128x7168) (k0_off11 k) S128x1024.size (k0_off11_inb k)).emb z 1).val = 1024 * k.val + (z 1).val := by
    rw [unit_emb_val, (ho k).2]
  refine (read_tiles arg13 _ _ (HW13_tiles arg1 arg2 arg3 arg4 X1 X2 X3 X4 k) _
    (HW13_cover arg1 arg2 arg3 arg4 X1 X2 X3 X4 k _ ?_ ?_)).trans (rowN_val _ _ _ _ e0 e1).symm
  · exact (Nat.le_add_right _ _).trans e1.ge
  · exact e1.le.trans_lt (by omega)

theorem keep_piece (k : Fin k0_t1_loop.trips) (off : Fin 2 → Nat) (inb : ∀ a, off a + S16x256.size a ≤ S128x7168.size a) (off' : Fin 2 → Nat)
    (inb' : ∀ a, off' a + S16x256.size a ≤ S128x1024.size a) (h : off 0 = off' 0 ∧ off 1 = 1024 * k.val + off' 1) :
    IsTile (s := S128x1024) (e := .bf16) S16x256.size (fun z => rowN (keepBlk arg4 X4) (z 0) (1024 * k.val + (z 1).val))
      ⟨Rect.unit (s := S128x1024) off' S16x256.size inb',
        k0_pay3 (F := Ideal) (View.readAt (Elt Ideal) arg4.view (Rect.unit (s := S128x7168) off S16x256.size inb).toLoadRect X4)⟩ := by
  refine IsTile.unit fun x => ?_
  rw [keep_tile]
  refine (rowN_val (keepBlk arg4 X4) ((Rect.unit (s := S128x7168) off S16x256.size inb).emb x) _ _ ?_ ?_).symm
  · rw [unit_emb_val, unit_emb_val, h.1]
  · rw [unit_emb_val, unit_emb_val, h.2, Nat.add_assoc]

theorem HW14_tiles (k : Fin k0_t1_loop.trips) :
    ∀ p ∈ trip_k0_t1.sl.HW_arg14_32 (F := Ideal) arg4 X4 k,
      IsTile (s := S128x1024) S16x256.size (fun z => rowN (keepBlk arg4 X4) (z 0) (1024 * k.val + (z 1).val)) p := by
  unfold trip_k0_t1.sl.HW_arg14_32
  refine forall_cons (keep_piece arg4 X4 k (k0_off9 k 768#32) _ _ _ (by revert k; decide +kernel)) ?_
  refine forall_cons (keep_piece arg4 X4 k (k0_off9 k 512#32) _ _ _ (by revert k; decide +kernel)) ?_
  refine forall_cons (keep_piece arg4 X4 k (k0_off9 k 256#32) _ _ _ (by revert k; decide +kernel)) ?_
  refine forall_cons (keep_piece arg4 X4 k (k0_off9 k 0#32) _ _ _ (by revert k; decide +kernel)) ?_
  refine forall_cons (keep_piece arg4 X4 k (k0_off8 k 768#32) _ _ _ (by revert k; decide +kernel)) ?_
  refine forall_cons (keep_piece arg4 X4 k (k0_off8 k 512#32) _ _ _ (by revert k; decide +kernel)) ?_
  refine forall_cons (keep_piece arg4 X4 k (k0_off8 k 256#32) _ _ _ (by revert k; decide +kernel)) ?_
  refine forall_cons (keep_piece arg4 X4 k (k0_off8 k 0#32) _ _ _ (by revert k; decide +kernel)) ?_
  refine forall_cons (keep_piece arg4 X4 k (k0_off7 k 768#32) _ _ _ (by revert k; decide +kernel)) ?_
  refine forall_cons (keep_piece arg4 X4 k (k0_off7 k 512#32) _ _ _ (by revert k; decide +kernel)) ?_
  refine forall_cons (keep_piece arg4 X4 k (k0_off7 k 256#32) _ _ _ (by revert k; decide +kernel)) ?_
  refine forall_cons (keep_piece arg4 X4 k (k0_off7 k 0#32) _ _ _ (by revert k; decide +kernel)) ?_
  refine forall_cons (keep_piece arg4 X4 k (k0_off6 k 768#32) _ _ _ (by revert k; decide +kernel)) ?_
  refine forall_cons (keep_piece arg4 X4 k (k0_off6 k 512#32) _ _ _ (by revert k; decide +kernel)) ?_
  refine forall_cons (keep_piece arg4 X4 k (k0_off6 k 256#32) _ _ _ (by revert k; decide +kernel)) ?_
  refine forall_cons (keep_piece arg4 X4 k (k0_off6 k 0#32) _ _ _ (by revert k; decide +kernel)) ?_
  refine forall_cons (keep_piece arg4 X4 k (k0_off5 k 768#32) _ _ _ (by revert k; decide +kernel)) ?_
  refine forall_cons (keep_piece arg4 X4 k (k0_off5 k 512#32) _ _ _ (by revert k; decide +kernel)) ?_
  refine forall_cons (keep_piece arg4 X4 k (k0_off5 k 256#32) _ _ _ (by revert k; decide +kernel)) ?_
  refine forall_cons (keep_piece arg4 X4 k (k0_off5 k 0#32) _ _ _ (by revert k; decide +kernel)) ?_
  refine forall_cons (keep_piece arg4 X4 k (k0_off4 k 768#32) _ _ _ (by revert k; decide +kernel)) ?_
  refine forall_cons (keep_piece arg4 X4 k (k0_off4 k 512#32) _ _ _ (by revert k; decide +kernel)) ?_
  refine forall_cons (keep_piece arg4 X4 k (k0_off4 k 256#32) _ _ _ (by revert k; decide +kernel)) ?_
  refine forall_cons (keep_piece arg4 X4 k (k0_off4 k 0#32) _ _ _ (by revert k; decide +kernel)) ?_
  refine forall_cons (keep_piece arg4 X4 k (k0_off3 k 768#32) _ _ _ (by revert k; decide +kernel)) ?_
  refine forall_cons (keep_piece arg4 X4 k (k0_off3 k 512#32) _ _ _ (by revert k; decide +kernel)) ?_
  refine forall_cons (keep_piece arg4 X4 k (k0_off3 k 256#32) _ _ _ (by revert k; decide +kernel)) ?_
  refine forall_cons (keep_piece arg4 X4 k (k0_off3 k 0#32) _ _ _ (by revert k; decide +kernel)) ?_
  refine forall_cons (keep_piece arg4 X4 k (k0_off1 k 768#32) _ _ _ (by revert k; decide +kernel)) ?_
  refine forall_cons (keep_piece arg4 X4 k (k0_off1 k 512#32) _ _ _ (by revert k; decide +kernel)) ?_
  refine forall_cons (keep_piece arg4 X4 k (k0_off1 k 256#32) _ _ _ (by revert k; decide +kernel)) ?_
  refine forall_cons (keep_piece arg4 X4 k (k0_off1 k 0#32) _ _ _ (by revert k; decide +kernel)) ?_
  exact forall_nil _

theorem HW14_cover (k : Fin k0_t1_loop.trips) (y : S128x1024.Idx) :
    ∃ o ∈ (trip_k0_t1.sl.HW_arg14_32 (F := Ideal) arg4 X4 k).map (fun p => p.1.off),
      ∀ a, o a ≤ (y a).val ∧ (y a).val < o a + S16x256.size a := by
  have hc : ∀ g : Fin 8, ∀ q : Fin 4, (![16 * g.val, 256 * q.val] : Fin 2 → ℕ) ∈
      (trip_k0_t1.sl.HW_arg14_32 (F := Ideal) arg4 X4 k).map (fun p => p.1.off) := by
    intro g q
    have e : (trip_k0_t1.sl.HW_arg14_32 (F := Ideal) arg4 X4 k).map (fun p => p.1.off)
      = [![112, 768], ![112, 512], ![112, 256], ![112, 0], ![96, 768], ![96, 512], ![96, 256], ![96, 0], ![80, 768], ![80, 512], ![80, 256], ![80, 0], ![64, 768], ![64, 512], ![64, 256], ![64, 0], ![48, 768], ![48, 512], ![48, 256], ![48, 0], ![32, 768], ![32, 512], ![32, 256], ![32, 0], ![16, 768], ![16, 512], ![16, 256], ![16, 0], ![0, 768], ![0, 512], ![0, 256], ![0, 0]] := rfl
    rw [e]
    revert g q
    decide +kernel
  have h0 : (y 0).val < 128 := (y 0).isLt
  have h1 : (y 1).val < 1024 := (y 1).isLt
  refine ⟨_, hc ⟨(y 0).val / 16, by omega⟩ ⟨(y 1).val / 256, by omega⟩, Fin.forall_fin_two.mpr ⟨?_, ?_⟩⟩
  · show 16 * ((y 0).val / 16) ≤ (y 0).val ∧ (y 0).val < 16 * ((y 0).val / 16) + 16
    omega
  · show 256 * ((y 1).val / 256) ≤ (y 1).val ∧ (y 1).val < 256 * ((y 1).val / 256) + 256
    omega

variable (arg7 : Memref sig .tc .vmem S1024x128 .bf16) (X7 : BufTy.Contents (Elt Ideal) arg7.view.ty)

/-- The number a mask byte packs: the kept columns of its chunk, each with its column's weight for the byte's lane. -/
def maskSum (r : Fin 128) (j : ℕ) (l : Fin 128) : EReal :=
  ∑ k : Fin 1024, rowN (keepBlk arg4 X4) r (1024 * j + k.val) * arg7.view.read (Elt Ideal) X7 (ix2 k l)

/-- The block of mask bytes. -/
def maskBlk (z : S128x896.Idx) : BitVec 8 :=
  maskAt (maskSum arg4 X4 arg7 X7 (z 0) ((z 1).val / 128) ⟨(z 1).val % 128, Nat.mod_lt _ (by norm_num)⟩)

/-- The mask bytes from the chunk's kept columns and the weights. -/
theorem mask_tile (kp : FVec Ideal S128x1024 .bf16) (bw : FVec Ideal S1024x128 .bf16) (j : S128x128.Idx) :
    trunci 8 (fptosi 32 (matmul (F := Ideal) dot_S128x1024_S1024x128_S128x128_1_0_0_1_n_n none kp bw trip_k0_t1.sl.cst_486)) (by decide) j
      = maskAt (∑ k : Fin 1024, kp (ix2 (j 0) k) * bw (ix2 k (j 1))) := by
  pointwise [maskAt, trip_k0_t1.sl.cst_486]

theorem mask_piece (arg14 : Memref sig .tc .vmem S128x1024 .bf16) (k : Fin k0_t1_loop.trips) :
    IsTile (s := S128x896) (e := .i8) S128x128.size (maskBlk arg4 X4 arg7 X7)
      ⟨Rect.unit (s := S128x896) (k0_off10 k) S128x128.size (k0_off10_inb k), trip_k0_t1.sl.v1289 (F := Ideal) arg4 arg7 arg14 X4 X7 k⟩ := by
  refine IsTile.unit fun x => ?_
  refine (mask_tile _ _ x).trans ?_
  have ho : ∀ k : Fin k0_t1_loop.trips, k0_off10 k 0 = 0 ∧ k0_off10 k 1 = 128 * k.val := by decide +kernel
  have hx : (x 1).val < 128 := (x 1).isLt
  have e0 : (Rect.unit (s := S128x896) (k0_off10 k) S128x128.size (k0_off10_inb k)).emb x 0 = (x 0 : Fin 128) :=
    Fin.ext (by rw [unit_emb_val, (ho k).1, Nat.zero_add])
  have e1 : ((Rect.unit (s := S128x896) (k0_off10 k) S128x128.size (k0_off10_inb k)).emb x 1).val = 128 * k.val + (x 1).val := by
    rw [unit_emb_val, (ho k).2]
  unfold maskBlk maskSum
  rw [e0]
  congr 1
  refine Finset.sum_congr rfl fun l _ => ?_
  congr 1
  · refine (read_tiles arg14 _ _ (HW14_tiles arg4 X4 k) _ (HW14_cover arg4 X4 k _)).trans ?_
    have a0 : (Rect.unit (s := S128x1024) ![0, 0] S128x1024.size (by decide)).emb (ix2 (x 0) l) 0 = (x 0 : Fin 128) :=
      Fin.ext ((unit_emb_val (s := S128x1024) _ _ _ _ _).trans (Nat.zero_add _))
    have a1 : ((Rect.unit (s := S128x1024) ![0, 0] S128x1024.size (by decide)).emb (ix2 (x 0) l) 1).val = l.val :=
      (unit_emb_val (s := S128x1024) _ _ _ _ _).trans (Nat.zero_add _)
    show rowN _ ((Rect.unit (s := S128x1024) ![0, 0] S128x1024.size _).emb (ix2 (x 0) l) 0) (1024 * k.val + ((Rect.unit (s := S128x1024) ![0, 0] S128x1024.size _).emb (ix2 (x 0) l) 1).val) = _
    rw [a0, a1, e1, Nat.mul_add_div (by norm_num), Nat.div_eq_of_lt hx]
    rfl
  · unfold trip_k0_t1.sl.v1286
    rw [shapeCast_self, readAt_unit_apply]
    congr 1
    apply Shape.idx_ext₂
    · exact (unit_emb_val (s := S1024x128) _ _ _ _ _).trans (Nat.zero_add _)
    · refine (unit_emb_val (s := S1024x128) _ _ _ _ _).trans ?_
      show 0 + (x 1).val = _ % 128
      rw [e1, Nat.mul_add_mod, Nat.mod_eq_of_lt hx, Nat.zero_add]
end

section
variable (𝒱 : Variants) (c : Dev nD) (bd : Option 𝒱.V) (i : grid0.Coords)
    (arg1 : Memref sig .tc .vmem S128x7168 .bf16) (harg1 : arg1.IsWhole)
    (arg2 : Memref sig .tc .vmem S128x7168 .bf16) (harg2 : arg2.IsWhole)
    (arg3 : Memref sig .tc .vmem S1x7168 .f32) (harg3 : arg3.IsWhole)
    (arg4 : Memref sig .tc .vmem S128x7168 .i32) (harg4 : arg4.IsWhole)
    (arg5 : Memref sig .tc .vmem S1x7168 .f32) (harg5 : arg5.IsWhole)
    (arg6 : Memref sig .tc .vmem S1x7168 .f32) (harg6 : arg6.IsWhole)
    (arg7 : Memref sig .tc .vmem S1024x128 .bf16) (harg7 : arg7.IsWhole)
    (arg8 : Memref sig .tc .vmem S128x7168 .fp8e4m3) (harg8 : arg8.IsWhole)
    (arg9 : Memref sig .tc .vmem S4x3072 .f32) (harg9 : arg9.IsWhole)
    (arg10 : Memref sig .tc .vmem S128x896 .i8) (harg10 : arg10.IsWhole)
    (arg11 : Memref sig .tc .vmem S4x3072 .f32) (harg11 : arg11.IsWhole)
    (arg12 : Memref sig .tc .vmem S4x3072 .f32) (harg12 : arg12.IsWhole)
    (arg13 : Memref sig .tc .vmem S128x7168 .bf16) (harg13 : arg13.IsWhole)
    (arg14 : Memref sig .tc .vmem S128x1024 .bf16) (harg14 : arg14.IsWhole)
    (arg15 : Memref sig .tc .vmem S128x7168 .f32) (harg15 : arg15.IsWhole)
    (arg16 : Memref sig .tc .vmem S128x128 .f32) (harg16 : arg16.IsWhole)
    (arg17 : Memref sig .tc .vmem S128x128 .f32) (harg17 : arg17.IsWhole)
    (arg18 : Memref sig .tc .vmem S128x128 .f32) (harg18 : arg18.IsWhole)
    (arg19 : Memref sig .tc .vmem S128x128 .f32) (harg19 : arg19.IsWhole)
    (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X7 : BufTy.Contents (Elt Ideal) arg7.view.ty)
    (G10 : BufTy.Contents (Elt Ideal) arg10.view.ty) (G13 : BufTy.Contents (Elt Ideal) arg13.view.ty) (G14 : BufTy.Contents (Elt Ideal) arg14.view.ty) (init : FVec Ideal S128x128 .f32)

/-- The state before trip `n`: the carried row sums and the stores so far into the mask, h and keep windows. -/
abbrev st1 (n : ℕ) := st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init n

theorem st1_succ (k : Fin k0_t1_loop.trips) :
    st1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init (k.val + 1)
      = (k0_pay321 (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init k.val).1 (trip_k0_t1.sl.v1296 (F := Ideal) arg1 arg2 arg3 arg4 arg13 X1 X2 X3 X4 k),
          [⟨Rect.unit (s := S128x896) (k0_off10 k) S128x128.size (k0_off10_inb k), trip_k0_t1.sl.v1289 (F := Ideal) arg4 arg7 arg14 X4 X7 k⟩]
            ++ (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init k.val).2.1,
          trip_k0_t1.sl.HW_arg13_32 (F := Ideal) arg1 arg2 arg3 arg4 X1 X2 X3 X4 k ++ (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init k.val).2.2.1,
          trip_k0_t1.sl.HW_arg14_32 (F := Ideal) arg4 X4 k ++ (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init k.val).2.2.2) := by
  refine (st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init k).trans ?_
  simp only [tripR_k0_t1, tripL_k0_t1]
  unfold trip_k0_t1
  rfl

/-- The carried value before trip `n` is the row sum over the first `n` chunks. -/
theorem t1_sum (h0 : ∀ j, init j = 0) (j : S128x128.Idx) : ∀ n ≤ k0_t1_loop.trips,
    (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init n).1 j = ∑ x ∈ Finset.range (1024 * n), rowN (hBlk arg1 arg2 arg3 arg4 X1 X2 X3 X4) (j 0) x := by
  intro n
  induction n with
  | zero => intro _; exact (h0 j).trans (by simp)
  | succ n ih =>
    intro hn
    rw [st1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init ⟨n, hn⟩]
    show k0_pay321 _ _ j = _
    rw [carry_step, ih (by omega), Nat.mul_succ, Finset.sum_range_add]
    congr 1
    rw [Finset.sum_range]
    exact Finset.sum_congr rfl fun l _ => chunk_read arg1 arg2 arg3 arg4 X1 X2 X3 X4 arg13 ⟨n, hn⟩ (ix2 (j 0) l)

/-- After the loop the h window holds the block of h. -/
theorem t1_h (f : BufTy.Contents (Elt Ideal) arg13.view.ty) (y : S128x7168.Idx) :
    arg13.view.read (Elt Ideal) (arg13.view.writes (Elt Ideal) f (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init k0_t1_loop.trips).2.2.1) y
      = hBlk arg1 arg2 arg3 arg4 X1 X2 X3 X4 y := by
  refine read_trips arg13 (fun n => (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init n).2.2.1)
    (fun k => trip_k0_t1.sl.HW_arg13_32 (F := Ideal) arg1 arg2 arg3 arg4 X1 X2 X3 X4 k) f rfl
    (fun k => congrArg (fun s => s.2.2.1) (st1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init k)) (HW13_tiles arg1 arg2 arg3 arg4 X1 X2 X3 X4) y ?_
  have h : (y 1).val < 7168 := (y 1).isLt
  refine ⟨⟨(y 1).val / 1024, ?_⟩, HW13_cover arg1 arg2 arg3 arg4 X1 X2 X3 X4 _ y ?_ ?_⟩
  · have : k0_t1_loop.trips = 7 := by decide
    omega
  · show 1024 * ((y 1).val / 1024) ≤ _
    omega
  · show _ < 1024 * ((y 1).val / 1024) + 1024
    omega

/-- After the loop the mask window holds the packed bits. -/
theorem t1_mask (f : BufTy.Contents (Elt Ideal) arg10.view.ty) (z : S128x896.Idx) :
    arg10.view.read (Elt Ideal) (arg10.view.writes (Elt Ideal) f (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init k0_t1_loop.trips).2.1) z
      = maskBlk arg4 X4 arg7 X7 z := by
  refine read_trips arg10 (fun n => (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init n).2.1)
    (fun k => [⟨Rect.unit (s := S128x896) (k0_off10 k) S128x128.size (k0_off10_inb k), trip_k0_t1.sl.v1289 (F := Ideal) arg4 arg7 arg14 X4 X7 k⟩]) f rfl
    (fun k => congrArg (fun s => s.2.1) (st1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X7 G10 G13 G14 init k))
    (fun k => forall_cons (mask_piece arg4 X4 arg7 X7 arg14 k) (forall_nil _)) z ?_
  have h : (z 1).val < 896 := (z 1).isLt
  have h0 : (z 0).val < 128 := (z 0).isLt
  have ho : ∀ k : Fin k0_t1_loop.trips, k0_off10 k 0 = 0 ∧ k0_off10 k 1 = 128 * k.val := by decide +kernel
  have hk : (z 1).val / 128 < k0_t1_loop.trips := by
    have : k0_t1_loop.trips = 7 := by decide
    omega
  refine ⟨⟨(z 1).val / 128, hk⟩, _, List.mem_singleton.mpr rfl, Fin.forall_fin_two.mpr ⟨?_, ?_⟩⟩
  · show k0_off10 ⟨(z 1).val / 128, hk⟩ 0 ≤ (z 0).val ∧ (z 0).val < k0_off10 ⟨(z 1).val / 128, hk⟩ 0 + 128
    rw [(ho _).1]; omega
  · show k0_off10 ⟨(z 1).val / 128, hk⟩ 1 ≤ (z 1).val ∧ (z 1).val < k0_off10 ⟨(z 1).val / 128, hk⟩ 1 + 128
    rw [(ho _).2]; simp only; omega
end

end Cert.KernelIdeal.Hand
-- ==== Proof.KernelIdeal.Scale.lean ====
/-
  The scale of a row of the block from its greatest magnitude: the search for the power of two by comparisons, the
  scale and its inverse as patterns; and the rows stored into the windows holding one number per token.
-/
module

public import proofs.«01_k».proof.Proof.Search
public import proofs.«01_k».proof.Proof.KernelIdeal.Quant
public import proofs.«01_k».proof.Proof.KernelIdeal.Drop

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (Piece)

/-! ## The search -/

section
variable {F : FTy → Type} [FloatOps F] [Named F]

theorem shl23 (n : BitVec 32) : IntOp.shli .vector n 23#32 = n <<< 23 := rfl

/-- A select by a comparison of words for equality. -/
theorem select_eqB {α : Type} (a b : BitVec 32) (x y : α) :
    Scalar.select (IntOp.cmpi .eq a b) x y = if a = b then x else y := by
  by_cases h : a = b <;> simp [Scalar.select, IntOp.cmpi, h, BitVec.ofBool, beq_eq_false_iff_ne.mpr]

/-- One step of the search, over a block. -/
def stepV (t : FVec F S128x128 .f32) (n : IVec S128x128 32) (d : BitVec 32) : IVec S128x128 32 :=
  select (cmpf .olt t (bitcastToFloat .f32 (shli (addi n (broadcast S128x128 d)) (broadcast S128x128 23#32)))) n
    (addi n (broadcast S128x128 d))

/-- The exponent from the search's last value. -/
def expV (n : IVec S128x128 32) (a : FVec F S128x128 .f32) : IVec S128x128 32 :=
  select (cmpf .oeq a (broadcast S128x128 (Scalar.ofBits .f32 0x00000000#32))) (broadcast S128x128 0#32)
    (subi n (broadcast S128x128 126#32))

/-- The search, over a block. -/
def biasedV (t : FVec F S128x128 .f32) : IVec S128x128 32 :=
  stepV t (stepV t (stepV t (stepV t (stepV t (stepV t (stepV t (stepV t (broadcast S128x128 0#32) 128#32) 64#32)
    32#32) 16#32) 8#32) 4#32) 2#32) 1#32

/-- The exponents the body finds. -/
def exps (a : Vec F S128x128 .f32) : IVec S128x128 32 :=
  k0_pay332 (k0_pay327 a) (k0_pay330 (k0_pay327 a) (k0_pay328 a) (k0_pay329 a))
    (k0_pay331 (k0_pay327 a) (k0_pay328 a) (k0_pay329 a)) a

theorem exps_eq (a : Vec F S128x128 .f32) : exps a = expV (F := F) (biasedV (k0_pay327 a)) a := rfl
end

theorem stepV_val (t : FVec Ideal S128x128 .f32) (n : IVec S128x128 32) (d : BitVec 32) (z : S128x128.Idx) :
    stepV t n d z = stepB (t z) (n z) d := by
  pointwise [stepV, stepB, shl23, IntOp.addi]

theorem biasedV_val (t : FVec Ideal S128x128 .f32) (z : S128x128.Idx) : biasedV t z = biased (t z) := by
  unfold biasedV biased
  simp only [stepV_val]
  rfl

theorem exps_val (a : Vec Ideal S128x128 .f32) (z : S128x128.Idx) : exps a z = expW (a z) := by
  rw [exps_eq]
  have e : k0_pay327 a z = a z * Ideal.ofBits .f32 0x3B124925#32 := by pointwise [k0_pay327]
  have : expV (F := Ideal) (biasedV (k0_pay327 a)) a z
      = if a z = 0 then 0#32 else biasedV (k0_pay327 a) z - 126#32 := by
    pointwise [expV, IntOp.subi]
  rw [this, biasedV_val, e]; rfl

/-- The scales of the block, -/
theorem scale_val (a : Vec Ideal S128x128 .f32) (z : S128x128.Idx) :
    k0_pay333 (k0_pay327 a) (k0_pay330 (k0_pay327 a) (k0_pay328 a) (k0_pay329 a))
      (k0_pay331 (k0_pay327 a) (k0_pay328 a) (k0_pay329 a)) a z = scaleAt (a z) := by
  have : k0_pay333 (k0_pay327 a) (k0_pay330 (k0_pay327 a) (k0_pay328 a) (k0_pay329 a))
      (k0_pay331 (k0_pay327 a) (k0_pay328 a) (k0_pay329 a)) a
      = shapeCast S128x128 (bitcastToFloat (F := Ideal) .f32 (shli (addi (exps a) (broadcast S128x128 127#32)) (broadcast S128x128 23#32))) shapeCasts_S128x128_S128x128 := rfl
  rw [this, scaleAt, ← exps_val]
  pointwise [shl23, IntOp.addi, IntOp.subi]

/-- and their inverses. -/
theorem inv_val (a : Vec Ideal S128x128 .f32) (z : S128x128.Idx) :
    k0_pay334 (k0_pay327 a) (k0_pay330 (k0_pay327 a) (k0_pay328 a) (k0_pay329 a))
      (k0_pay331 (k0_pay327 a) (k0_pay328 a) (k0_pay329 a)) a z = invAt (a z) := by
  have : k0_pay334 (k0_pay327 a) (k0_pay330 (k0_pay327 a) (k0_pay328 a) (k0_pay329 a))
      (k0_pay331 (k0_pay327 a) (k0_pay328 a) (k0_pay329 a)) a
      = shapeCast S128x128 (bitcastToFloat (F := Ideal) .f32 (shli (subi (broadcast S128x128 127#32) (exps a)) (broadcast S128x128 23#32))) shapeCasts_S128x128_S128x128 := rfl
  rw [this, invAt, ← exps_val]
  pointwise [shl23, IntOp.addi, IntOp.subi]

/-- The mean of the rows, from their sums. -/
theorem mean_val (s : FVec Ideal S128x128 .f32) (z : S128x128.Idx) : k0_pay322 (F := Ideal) s z = s z * invD := by
  pointwise [k0_pay322, invD]

/-! ## The rows of tokens -/

/-- A block holding one number per row, laid along the lanes of one row of four. -/
theorem tok_val (w : BitVec 32) (src : Vec Ideal S128x128 .f32) (old : Vec Ideal S4x128 .f32) (R : Fin 128 → EReal)
    (hsrc : ∀ z, src z = R (z 0)) (x : S4x128.Idx) :
    k0_pay343 w k0_pay336 src old x = if BitVec.ofNat 32 (x 0).val = w then R (x 1) else old x := by
  have h : ∀ l : Fin 128, (∑ r : Fin 128, if BitVec.ofNat 32 r.val = BitVec.ofNat 32 l.val then R r else (0 : EReal)) = R l := by
    intro l
    have : ∀ r : Fin 128, (BitVec.ofNat 32 r.val = BitVec.ofNat 32 l.val) ↔ r = l := by
      intro r
      constructor
      · intro h
        have := congrArg BitVec.toNat h
        simp only [BitVec.toNat_ofNat] at this
        apply Fin.ext; omega
      · rintro rfl; rfl
    simp only [this, Finset.sum_ite_eq', Finset.mem_univ, if_true]
  rw [← h (x 1)]
  pointwise [k0_pay343, k0_pay336, hsrc, select_eqB]

end Cert.KernelIdeal.Hand

end
-- ==== Proof.KernelIdeal.Chain.lean ====
/-
  What one run of the body leaves in its windows, as functions of its inputs: the hidden rows, their means and
  reciprocal standard deviations, the normalised rows, the scales, the codes and the mask bytes.
-/
module

public import proofs.«01_k».proof.Proof.KernelIdeal.Scale
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (Piece)

/-! ## The values -/

section
variable (x1 x2 : Vec Ideal S128x7168 .bf16) (x3 : Vec Ideal S1x7168 .f32) (x4 : Vec Ideal S128x7168 .i32) (x5 x6 : Vec Ideal S1x7168 .f32)
  (x7 : Vec Ideal S1024x128 .bf16)

/-- The hidden rows. -/
def hVal (y : S128x7168.Idx) : EReal := hAt (x1 y) (x2 y) (x3 (ix2 0 (y 1))) (x4 y)

/-- A row's mean. -/
def meanVal (r : Fin 128) : EReal := (∑ l : Fin 7168, hVal x1 x2 x3 x4 (ix2 r l)) * invD

/-- The centred rows. -/
def cVal (y : S128x7168.Idx) : EReal := cBlk (hVal x1 x2 x3 x4) (meanVal x1 x2 x3 x4) y

/-- A row's reciprocal standard deviation. -/
def rstdVal (r : Fin 128) : EReal := rstdRow (cVal x1 x2 x3 x4) r

/-- The normalised rows. -/
def yVal (y : S128x7168.Idx) : EReal :=
  yBlk (cVal x1 x2 x3 x4) (rstdVal x1 x2 x3 x4) (fun l => x5 (ix2 0 l)) (fun l => x6 (ix2 0 l)) y

/-- A row's greatest magnitude. -/
def amaxVal (r : Fin 128) : EReal := amaxRow (yVal x1 x2 x3 x4 x5 x6) r

/-- The codes. -/
def codeVal (y : S128x7168.Idx) : EReal := codeAt (yVal x1 x2 x3 x4 x5 x6 y) (invAt (amaxVal x1 x2 x3 x4 x5 x6 (y 0)))

/-- A row's scale. -/
def scaleVal (r : Fin 128) : EReal := scaleAt (amaxVal x1 x2 x3 x4 x5 x6 r)

/-- The mask bytes. -/
def maskVal (z : S128x896.Idx) : BitVec 8 :=
  maskAt (∑ k : Fin 1024, rowN (fun y => keepAt (x4 y)) (z 0) (1024 * ((z 1).val / 128) + k.val)
    * x7 (ix2 k ⟨(z 1).val % 128, Nat.mod_lt _ (by norm_num)⟩))
end

/-- A window of one number per token after a run at grid point `i`: the block's 128 tokens hold the block's values,
    the others are zero at the first point and unchanged at a later one. -/
def tokNext (i : grid0.Coords) (R : Fin 128 → EReal) (old : S4x3072.Idx → EReal) (z : S4x3072.Idx) : EReal :=
  if (z 0).val = (i 0).val / 24 ∧ (z 1).val / 128 = (i 0).val % 24 then R ⟨(z 1).val % 128, Nat.mod_lt _ (by norm_num)⟩
  else if (i 0).val = 0 then 0 else old z

/-! ## The windows -/

/-- A window stored whole reads what was stored last. -/
theorem read_whole {sh : Shape} {e : EltTy} (v : Memref sig .tc .vmem sh e) (f : BufTy.Contents (Elt Ideal) v.view.ty)
    (off : Fin sh.rank → ℕ) (inb : ∀ a, off a + sh.size a ≤ sh.size a) (w : sh.Idx → Elt Ideal e)
    (L : List (Piece (Elt Ideal) sh e)) (y : sh.Idx) :
    v.view.read (Elt Ideal) (v.view.writes (Elt Ideal) f (⟨Rect.unit (s := sh) off sh.size inb, w⟩ :: L)) y = w y :=
  View.read_writes_cons_unit_of_mem (off' := fun _ => 0) v.view f inb w L y y
    (funext fun a => by have := inb a; omega) (fun a => (Nat.zero_add _).symm)

/-- A load of the whole window reads it. -/
theorem readAt_whole {sh : Shape} {e : EltTy} (v : Memref sig .tc .vmem sh e) (f : BufTy.Contents (Elt Ideal) v.view.ty)
    (off : Fin sh.rank → ℕ) (inb : ∀ a, off a + sh.size a ≤ sh.size a) (y : sh.Idx) :
    View.readAt (Elt Ideal) v.view (Rect.unit (s := sh) off sh.size inb).toLoadRect f y = v.view.read (Elt Ideal) f y :=
  (readAt_unit_apply v f off sh.size inb y).trans (congrArg _ (funext fun a => Fin.ext
    ((unit_emb_val off sh.size inb y a).trans (by have := inb a; omega))))

section
variable (c : Dev nD) (i : grid0.Coords)
    (arg1 : Memref sig .tc .vmem S128x7168 .bf16) (harg1 : arg1.IsWhole)
    (arg2 : Memref sig .tc .vmem S128x7168 .bf16) (harg2 : arg2.IsWhole)
    (arg3 : Memref sig .tc .vmem S1x7168 .f32) (harg3 : arg3.IsWhole)
    (arg4 : Memref sig .tc .vmem S128x7168 .i32) (harg4 : arg4.IsWhole)
    (arg5 : Memref sig .tc .vmem S1x7168 .f32) (harg5 : arg5.IsWhole)
    (arg6 : Memref sig .tc .vmem S1x7168 .f32) (harg6 : arg6.IsWhole)
    (arg7 : Memref sig .tc .vmem S1024x128 .bf16) (harg7 : arg7.IsWhole)
    (arg8 : Memref sig .tc .vmem S128x7168 .fp8e4m3) (harg8 : arg8.IsWhole)
    (arg9 : Memref sig .tc .vmem S4x3072 .f32) (harg9 : arg9.IsWhole)
    (arg10 : Memref sig .tc .vmem S128x896 .i8) (harg10 : arg10.IsWhole)
    (arg11 : Memref sig .tc .vmem S4x3072 .f32) (harg11 : arg11.IsWhole)
    (arg12 : Memref sig .tc .vmem S4x3072 .f32) (harg12 : arg12.IsWhole)
    (arg13 : Memref sig .tc .vmem S128x7168 .bf16) (harg13 : arg13.IsWhole)
    (arg14 : Memref sig .tc .vmem S128x1024 .bf16) (harg14 : arg14.IsWhole)
    (arg15 : Memref sig .tc .vmem S128x7168 .f32) (harg15 : arg15.IsWhole)
    (arg16 : Memref sig .tc .vmem S128x128 .f32) (harg16 : arg16.IsWhole)
    (arg17 : Memref sig .tc .vmem S128x128 .f32) (harg17 : arg17.IsWhole)
    (arg18 : Memref sig .tc .vmem S128x128 .f32) (harg18 : arg18.IsWhole)
    (arg19 : Memref sig .tc .vmem S128x128 .f32) (harg19 : arg19.IsWhole)
  (F1 : BufTy.Contents (Elt Ideal) arg1.view.ty) (F2 : BufTy.Contents (Elt Ideal) arg2.view.ty) (F3 : BufTy.Contents (Elt Ideal) arg3.view.ty) (F4 : BufTy.Contents (Elt Ideal) arg4.view.ty) (F5 : BufTy.Contents (Elt Ideal) arg5.view.ty) (F6 : BufTy.Contents (Elt Ideal) arg6.view.ty) (F7 : BufTy.Contents (Elt Ideal) arg7.view.ty)
  (F8 : BufTy.Contents (Elt Ideal) arg8.view.ty) (F9 : BufTy.Contents (Elt Ideal) arg9.view.ty) (F10 : BufTy.Contents (Elt Ideal) arg10.view.ty) (F11 : BufTy.Contents (Elt Ideal) arg11.view.ty) (F12 : BufTy.Contents (Elt Ideal) arg12.view.ty) (F13 : BufTy.Contents (Elt Ideal) arg13.view.ty) (F14 : BufTy.Contents (Elt Ideal) arg14.view.ty)
  (F15 : BufTy.Contents (Elt Ideal) arg15.view.ty) (F17 : BufTy.Contents (Elt Ideal) arg17.view.ty) (F18 : BufTy.Contents (Elt Ideal) arg18.view.ty)

/-- The window of hidden rows after the first loop, -/
abbrev W13 := arg13.view.writes (Elt Ideal) F13 (st1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 k0_pay320 k0_t1_loop.trips).2.2.1
/-- the window of means, -/
abbrev W16 := arg16.view.writes (Elt Ideal) arg16.view.junk
  [⟨Rect.unit (s := S128x128) ![0, 0] S128x128.size inb_S128x128_S128x128_0_0, k0_pay322 (st1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 k0_pay320 k0_t1_loop.trips).1⟩]
/-- the window of reciprocal standard deviations, -/
abbrev W17 := arg17.view.writes (Elt Ideal) F17 (pb2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (W13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) (W16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) k0_t2_loop.trips).2
/-- the window of centred rows, -/
abbrev W15 := arg15.view.writes (Elt Ideal) F15 (pb2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (W13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) (W16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) k0_t2_loop.trips).1
/-- the window of normalised rows, -/
abbrev W15' := arg15.view.writes (Elt Ideal) F15 ((pb3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F5 F6 (W17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F17) (W15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F15) F18 k0_t3_loop.trips).1 ++ (pb2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (W13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) (W16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) k0_t2_loop.trips).1)
/-- the rows' greatest magnitudes as loaded, -/
abbrev A18 : Vec Ideal S128x128 .f32 := View.readAt (Elt Ideal) arg18.view (Rect.unit (s := S128x128) ![0, 0] S128x128.size inb_S128x128_S128x128_0_0).toLoadRect
  (arg18.view.writes (Elt Ideal) F18 (pb3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F5 F6 (W17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F17) (W15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F15) F18 k0_t3_loop.trips).2)
/-- and the window of inverse scales. -/
abbrev W18 := arg18.view.writes (Elt Ideal) arg18.view.junk (⟨Rect.unit (s := S128x128) ![0, 0] S128x128.size inb_S128x128_S128x128_0_0,
  k0_pay334 (k0_pay327 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay330 (k0_pay327 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay328 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay329 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18))) (k0_pay331 (k0_pay327 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay328 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay329 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18))) (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)⟩ :: (pb3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F5 F6 (W17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F17) (W15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F15) F18 k0_t3_loop.trips).2)

/-- Hidden rows. -/
theorem ch_h (y : S128x7168.Idx) : arg13.view.read (Elt Ideal) (W13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) y = hVal (arg1.view.read (Elt Ideal) F1) (arg2.view.read (Elt Ideal) F2) (arg3.view.read (Elt Ideal) F3) (arg4.view.read (Elt Ideal) F4) y := by
  exact t1_h Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 k0_pay320 F13 y

/-- Mask bytes. -/
theorem ch_mask (y : S128x896.Idx) : arg10.view.read (Elt Ideal) (arg10.view.writes (Elt Ideal) F10 (st1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 k0_pay320 k0_t1_loop.trips).2.1) y = maskVal (arg4.view.read (Elt Ideal) F4) (arg7.view.read (Elt Ideal) F7) y := by
  exact t1_mask Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 k0_pay320 F10 y

/-- Means. -/
theorem ch_mean (z : S128x128.Idx) : arg16.view.read (Elt Ideal) (W16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) z = meanVal (arg1.view.read (Elt Ideal) F1) (arg2.view.read (Elt Ideal) F2) (arg3.view.read (Elt Ideal) F3) (arg4.view.read (Elt Ideal) F4) (z 0) := by
  refine (read_whole arg16 _ _ _ _ _ z).trans ((mean_val _ z).trans (congrArg (· * invD) ?_))
  refine (t1_sum Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 k0_pay320 (fun j => by pointwise [k0_pay320]) z _ le_rfl).trans ?_
  exact sum_rowN _ _

/-- Centred rows. -/
theorem ch_c (y : S128x7168.Idx) : arg15.view.read (Elt Ideal) (W15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F15) y = cVal (arg1.view.read (Elt Ideal) F1) (arg2.view.read (Elt Ideal) F2) (arg3.view.read (Elt Ideal) F3) (arg4.view.read (Elt Ideal) F4) y := by
  exact t2_cent (hVal (arg1.view.read (Elt Ideal) F1) (arg2.view.read (Elt Ideal) F2) (arg3.view.read (Elt Ideal) F3) (arg4.view.read (Elt Ideal) F4)) (meanVal (arg1.view.read (Elt Ideal) F1) (arg2.view.read (Elt Ideal) F2) (arg3.view.read (Elt Ideal) F3) (arg4.view.read (Elt Ideal) F4)) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (ch_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) (ch_mean c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) F15 y

/-- Reciprocal standard deviations. -/
theorem ch_rstd (z : S128x128.Idx) : arg17.view.read (Elt Ideal) (W17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F17) z = rstdVal (arg1.view.read (Elt Ideal) F1) (arg2.view.read (Elt Ideal) F2) (arg3.view.read (Elt Ideal) F3) (arg4.view.read (Elt Ideal) F4) (z 0) := by
  exact t2_rstd (hVal (arg1.view.read (Elt Ideal) F1) (arg2.view.read (Elt Ideal) F2) (arg3.view.read (Elt Ideal) F3) (arg4.view.read (Elt Ideal) F4)) (meanVal (arg1.view.read (Elt Ideal) F1) (arg2.view.read (Elt Ideal) F2) (arg3.view.read (Elt Ideal) F3) (arg4.view.read (Elt Ideal) F4)) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (ch_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) (ch_mean c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14) F17 z

/-- Normalised rows. -/
theorem ch_y (y : S128x7168.Idx) : arg15.view.read (Elt Ideal) (W15' c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18) y = yVal (arg1.view.read (Elt Ideal) F1) (arg2.view.read (Elt Ideal) F2) (arg3.view.read (Elt Ideal) F3) (arg4.view.read (Elt Ideal) F4) (arg5.view.read (Elt Ideal) F5) (arg6.view.read (Elt Ideal) F6) y := by
  refine (congrArg (fun G => arg15.view.read (Elt Ideal) G y) (View.writes_append _ _ _ _)).trans ?_
  exact t3_y (cVal (arg1.view.read (Elt Ideal) F1) (arg2.view.read (Elt Ideal) F2) (arg3.view.read (Elt Ideal) F3) (arg4.view.read (Elt Ideal) F4)) (rstdVal (arg1.view.read (Elt Ideal) F1) (arg2.view.read (Elt Ideal) F2) (arg3.view.read (Elt Ideal) F3) (arg4.view.read (Elt Ideal) F4)) (fun l => arg5.view.read (Elt Ideal) F5 (ix2 0 l)) (fun l => arg6.view.read (Elt Ideal) F6 (ix2 0 l)) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F5 F6 _ _ F18 (fun _ => rfl) (fun _ => rfl) (ch_rstd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F17) (ch_c c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F15) _ y

/-- Greatest magnitudes. -/
theorem ch_amax (z : S128x128.Idx) : (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18) z = amaxVal (arg1.view.read (Elt Ideal) F1) (arg2.view.read (Elt Ideal) F2) (arg3.view.read (Elt Ideal) F3) (arg4.view.read (Elt Ideal) F4) (arg5.view.read (Elt Ideal) F5) (arg6.view.read (Elt Ideal) F6) (z 0) := by
  refine (readAt_whole arg18 _ _ _ z).trans ?_
  exact t3_amax (cVal (arg1.view.read (Elt Ideal) F1) (arg2.view.read (Elt Ideal) F2) (arg3.view.read (Elt Ideal) F3) (arg4.view.read (Elt Ideal) F4)) (rstdVal (arg1.view.read (Elt Ideal) F1) (arg2.view.read (Elt Ideal) F2) (arg3.view.read (Elt Ideal) F3) (arg4.view.read (Elt Ideal) F4)) (fun l => arg5.view.read (Elt Ideal) F5 (ix2 0 l)) (fun l => arg6.view.read (Elt Ideal) F6 (ix2 0 l)) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F5 F6 _ _ F18 (fun _ => rfl) (fun _ => rfl) (ch_rstd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F17) (ch_c c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F7 F10 F13 F14 F15) F18 z

/-- Inverse scales. -/
theorem ch_inv (z : S128x128.Idx) : arg18.view.read (Elt Ideal) (W18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18) z = invAt (amaxVal (arg1.view.read (Elt Ideal) F1) (arg2.view.read (Elt Ideal) F2) (arg3.view.read (Elt Ideal) F3) (arg4.view.read (Elt Ideal) F4) (arg5.view.read (Elt Ideal) F5) (arg6.view.read (Elt Ideal) F6) (z 0)) := by
  exact (read_whole arg18 _ _ _ _ _ z).trans ((inv_val _ z).trans (congrArg invAt (ch_amax c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18 z)))

/-- Scales. -/
theorem ch_scale (z : S128x128.Idx) : k0_pay333 (k0_pay327 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay330 (k0_pay327 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay328 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay329 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18))) (k0_pay331 (k0_pay327 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay328 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay329 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18))) (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18) z = scaleVal (arg1.view.read (Elt Ideal) F1) (arg2.view.read (Elt Ideal) F2) (arg3.view.read (Elt Ideal) F3) (arg4.view.read (Elt Ideal) F4) (arg5.view.read (Elt Ideal) F5) (arg6.view.read (Elt Ideal) F6) (z 0) := by
  exact (scale_val _ z).trans (congrArg scaleAt (ch_amax c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18 z))

/-- Codes. -/
theorem ch_code (y : S128x7168.Idx) : arg8.view.read (Elt Ideal) (arg8.view.writes (Elt Ideal) F8 (pb4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (k0_pay327 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay330 (k0_pay327 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay328 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay329 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18))) (k0_pay331 (k0_pay327 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay328 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18)) (k0_pay329 (A18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18))) (W15' c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18) (W18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18) k0_t4_loop.trips)) y = codeVal (arg1.view.read (Elt Ideal) F1) (arg2.view.read (Elt Ideal) F2) (arg3.view.read (Elt Ideal) F3) (arg4.view.read (Elt Ideal) F4) (arg5.view.read (Elt Ideal) F5) (arg6.view.read (Elt Ideal) F6) y := by
  exact t4_codes (yVal (arg1.view.read (Elt Ideal) F1) (arg2.view.read (Elt Ideal) F2) (arg3.view.read (Elt Ideal) F3) (arg4.view.read (Elt Ideal) F4) (arg5.view.read (Elt Ideal) F5) (arg6.view.read (Elt Ideal) F6)) (fun r => invAt (amaxVal (arg1.view.read (Elt Ideal) F1) (arg2.view.read (Elt Ideal) F2) (arg3.view.read (Elt Ideal) F3) (arg4.view.read (Elt Ideal) F4) (arg5.view.read (Elt Ideal) F5) (arg6.view.read (Elt Ideal) F6) r)) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ (ch_y c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18) (ch_inv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 F1 F2 F3 F4 F5 F6 F7 F10 F13 F14 F15 F17 F18) F8 y
end

/-! ## The windows of tokens -/

theorem off99 (i : grid0.Coords) : k0_off99 i = ![0, ((i 0).val % 24) * 128] := by
  revert i; decide +kernel

/-- The window of one number per token after the body's two stores into it. -/
theorem tok_read (v : Memref sig .tc .vmem S4x3072 .f32) (f : BufTy.Contents (Elt Ideal) v.view.ty) (i : grid0.Coords)
    (w : BitVec 32) (hw : w = BitVec.ofNat 32 ((i 0).val / 24))
    (src : Vec Ideal S128x128 .f32) (R : Fin 128 → EReal) (hsrc : ∀ z, src z = R (z 0)) (f' : BufTy.Contents (Elt Ideal) v.view.ty)
    (hf' : ∀ z, v.view.read (Elt Ideal) f' z = if (i 0).val = 0 then 0 else v.view.read (Elt Ideal) f z)
    (z : S4x3072.Idx) :
    v.view.read (Elt Ideal) (v.view.writes (Elt Ideal) f' [⟨Rect.unit (s := S4x3072) (k0_off99 i) S4x128.size (k0_off99_inb i),
        k0_pay343 w k0_pay336 src (View.readAt (Elt Ideal) v.view (Rect.unit (s := S4x3072) (k0_off99 i) S4x128.size (k0_off99_inb i)).toLoadRect f')⟩]) z
      = tokNext i R (v.view.read (Elt Ideal) f) z := by
  have hi : (i 0).val < 96 := (i 0).isLt
  have h0 : (z 0).val < 4 := (z 0).isLt
  have h1 : (z 1).val < 3072 := (z 1).isLt
  by_cases h : (z 1).val / 128 = (i 0).val % 24
  · refine (View.read_writes_cons_unit_of_mem v.view f' (k0_off99_inb i) _ _ z
      (ix2 (z 0) ⟨(z 1).val % 128, Nat.mod_lt _ (by norm_num)⟩) (off99 i) (Fin.forall_fin_two.mpr ⟨?_, ?_⟩)).trans ?_
    · show (z 0).val = 0 + (z 0).val
      omega
    · show (z 1).val = (i 0).val % 24 * 128 + (z 1).val % 128
      omega
    · rw [tok_val w src _ R hsrc, readAt_unit_apply, hf', hw]
      have e : ((Rect.unit (s := S4x3072) (k0_off99 i) S4x128.size (k0_off99_inb i)).emb (ix2 (z 0) ⟨(z 1).val % 128, Nat.mod_lt _ (by norm_num)⟩)) = z := by
        refine Shape.idx_ext₂ ((unit_emb_val (s := S4x3072) _ _ _ _ _).trans ?_) ((unit_emb_val (s := S4x3072) _ _ _ _ _).trans ?_)
        · show k0_off99 i 0 + (z 0).val = (z 0).val; rw [show k0_off99 i 0 = 0 from congrFun (off99 i) 0, Nat.zero_add]
        · show k0_off99 i 1 + (z 1).val % 128 = (z 1).val; rw [show k0_off99 i 1 = (i 0).val % 24 * 128 from congrFun (off99 i) 1]; omega
      rw [e]
      have hq : (BitVec.ofNat 32 (z 0).val = BitVec.ofNat 32 ((i 0).val / 24)) ↔ (z 0).val = (i 0).val / 24 := by
        constructor
        · intro h
          have := congrArg BitVec.toNat h
          simp only [BitVec.toNat_ofNat] at this
          omega
        · intro h; rw [h]
      unfold tokNext
      simp only [h, and_true]
      exact if_congr hq rfl rfl
  · refine (View.read_writes_cons_unit_of_not_mem v.view f' (k0_off99_inb i) _ _ z (off99 i) 1 ?_).trans ((hf' z).trans ?_)
    · show (z 1).val < (i 0).val % 24 * 128 ∨ (i 0).val % 24 * 128 + 128 ≤ (z 1).val
      omega
    · unfold tokNext
      exact (if_neg fun h' => h h'.2).symm

end Cert.KernelIdeal.Hand

end
-- ==== Proof.KernelIdeal.Value.lean ====
/-
  One run of the body with values: what it leaves in its windows, from what it finds there.
-/
module

public import proofs.«01_k».proof.Proof.KernelIdeal.Chain
public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem first_iff : ∀ i : grid0.Coords, (sound_kernel.sl.v145 i = 1#1) ↔ (i 0).val = 0 := by decide +kernel

theorem row_word : ∀ i : grid0.Coords, sound_kernel.sl.v127 i = BitVec.ofNat 32 ((i 0).val / 24) := by decide +kernel

/-- The window of tokens after the first point's zeroing. -/
theorem tok_first (v : Memref sig .tc .vmem S4x3072 .f32) (f : BufTy.Contents (Elt Ideal) v.view.ty) (i : grid0.Coords)
    (inb : ∀ a, (![0, 0] : Fin 2 → ℕ) a + S4x3072.size a ≤ S4x3072.size a) (z : S4x3072.Idx) :
    v.view.read (Elt Ideal) (if hc : sound_kernel.sl.v145 i = 1#1 then
        v.view.writes (Elt Ideal) f [⟨Rect.unit (s := S4x3072) ![0, 0] S4x3072.size inb, k0_pay337 (F := Ideal)⟩] else f) z
      = if (i 0).val = 0 then 0 else v.view.read (Elt Ideal) f z := by
  by_cases h : sound_kernel.sl.v145 i = 1#1
  · rw [dif_pos h, if_pos ((first_iff i).mp h)]
    exact (read_whole v f _ inb _ [] z).trans (by pointwise [k0_pay337])
  · rw [dif_neg h, if_neg fun h' => h ((first_iff i).mpr h')]

set_option sl_exec.matchHeartbeats 100000 in
set_option maxHeartbeats 4000000 in
/-- What one run of the body leaves, from what it finds. -/
theorem sound_value (c : Dev nD) (E : Set ℕ) (i : grid0.Coords) (arg1 : Memref sig .tc .vmem S128x7168 .bf16) (harg1 : arg1.IsWhole) (arg2 : Memref sig .tc .vmem S128x7168 .bf16) (harg2 : arg2.IsWhole) (arg3 : Memref sig .tc .vmem S1x7168 .f32) (harg3 : arg3.IsWhole) (arg4 : Memref sig .tc .vmem S128x7168 .i32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S1024x128 .bf16) (harg7 : arg7.IsWhole) (arg8 : Memref sig .tc .vmem S128x7168 .fp8e4m3) (harg8 : arg8.IsWhole) (arg9 : Memref sig .tc .vmem S4x3072 .f32) (harg9 : arg9.IsWhole) (arg10 : Memref sig .tc .vmem S128x896 .i8) (harg10 : arg10.IsWhole) (arg11 : Memref sig .tc .vmem S4x3072 .f32) (harg11 : arg11.IsWhole) (arg12 : Memref sig .tc .vmem S4x3072 .f32) (harg12 : arg12.IsWhole) (arg13 : Memref sig .tc .vmem S128x7168 .bf16) (harg13 : arg13.IsWhole) (arg14 : Memref sig .tc .vmem S128x1024 .bf16) (harg14 : arg14.IsWhole) (arg15 : Memref sig .tc .vmem S128x7168 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole)
    (x1 : Vec Ideal S128x7168 .bf16) (x2 : Vec Ideal S128x7168 .bf16) (x3 : Vec Ideal S1x7168 .f32) (x4 : Vec Ideal S128x7168 .i32) (x5 : Vec Ideal S1x7168 .f32) (x6 : Vec Ideal S1x7168 .f32) (x7 : Vec Ideal S1024x128 .bf16) (d9 d11 d12 : Vec Ideal S4x3072 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare d9 ∗ (∃ d, owns (c : Thread nD τ) arg10 fullShare d) ∗ owns (c : Thread nD τ) arg11 fullShare d11 ∗ owns (c : Thread nD τ) arg12 fullShare d12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (codeVal x1 x2 x3 x4 x5 x6) ∗ owns (c : Thread nD τ) arg9 fullShare (tokNext i (scaleVal x1 x2 x3 x4 x5 x6) d9) ∗ owns (c : Thread nD τ) arg10 fullShare (maskVal x4 x7) ∗ owns (c : Thread nD τ) arg11 fullShare (tokNext i (meanVal x1 x2 x3 x4) d11) ∗ owns (c : Thread nD τ) arg12 fullShare (tokNext i (rstdVal x1 x2 x3 x4) d12) ∗ owns (c : Thread nD τ) arg13 fullShare (hVal x1 x2 x3 x4) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp Idealize.ShloMosaic.frame (wpE (defs₀ (F := Ideal)) Variants.none c none) E (cc0_bda_ln_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_bda_ln_fp8_eq_skeleton]; unfold cc0_bda_ln_fp8_skel
  simp only [k0_part55_eq_skeleton]; unfold k0_part55_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf1 hf2 hf3 hf4 hf5 hf6 hf7 hf9 hf11 hf12
  sl_exec
  rw [Prog.bind_assoc]
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    exact funext fun y => ch_code c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f10 f13 f14 f15 f17 f18 y
  isplitl [H9]
  · iexists _; isplitr; swap; · iexact H9
    ipureintro
    exact funext fun z => tok_read arg9 f9 i (sound_value.sl.v127 i) (row_word i) (sound_value.sl.v178 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f10 f13 f14 f15 f17 f18) (scaleVal (arg1.view.read (Elt Ideal) f1) (arg2.view.read (Elt Ideal) f2) (arg3.view.read (Elt Ideal) f3) (arg4.view.read (Elt Ideal) f4) (arg5.view.read (Elt Ideal) f5) (arg6.view.read (Elt Ideal) f6)) (fun z => (readAt_whole arg19 _ _ _ z).trans ((read_whole arg19 _ _ _ _ _ z).trans (ch_scale c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f10 f13 f14 f15 f17 f18 z))) _ (tok_first arg9 f9 i _) z
  isplitl [H10]
  · iexists _; isplitr; swap; · iexact H10
    ipureintro
    exact funext fun y => ch_mask c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f7 f10 f13 f14 y
  isplitl [H11]
  · iexists _; isplitr; swap; · iexact H11
    ipureintro
    exact funext fun z => tok_read arg11 f11 i (sound_kernel.sl.v127 i) (row_word i) _ (meanVal (arg1.view.read (Elt Ideal) f1) (arg2.view.read (Elt Ideal) f2) (arg3.view.read (Elt Ideal) f3) (arg4.view.read (Elt Ideal) f4)) (fun z => (readAt_whole arg16 _ _ _ z).trans (ch_mean c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f7 f10 f13 f14 z)) _ (tok_first arg11 f11 i _) z
  isplitl [H12]
  · iexists _; isplitr; swap; · iexact H12
    ipureintro
    exact funext fun z => tok_read arg12 f12 i (sound_kernel.sl.v127 i) (row_word i) _ (rstdVal (arg1.view.read (Elt Ideal) f1) (arg2.view.read (Elt Ideal) f2) (arg3.view.read (Elt Ideal) f3) (arg4.view.read (Elt Ideal) f4)) (fun z => (readAt_whole arg17 _ _ _ z).trans (ch_rstd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f7 f10 f13 f14 f17 z)) _ (tok_first arg12 f12 i _) z
  isplitl [H13]
  · iexists _; isplitr; swap; · iexact H13
    ipureintro
    exact funext fun y => ch_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f7 f10 f13 f14 y
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.KernelIdeal.Hand

end
-- ==== Proof.KernelIdeal.Run.lean ====
/-
  The kernel's run with values: what every window is left with at every grid point, and the run itself.
-/
module

public import proofs.«01_k».proof.Proof.KernelIdeal.Value
public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The grid point `(z 0) * 24 + (z 1) / 128` at which token `z` is computed. -/
def tokPt (z : S4x3072.Idx) : Fin cfg0.N :=
  ⟨(z 0).val * 24 + (z 1).val / 128, by
    have h0 : (z 0).val < 4 := (z 0).isLt
    have h1 : (z 1).val < 3072 := (z 1).isLt
    have : cfg0.N = 96 := N_0
    omega⟩

/-- A token's row within its block. -/
def tokRow (z : S4x3072.Idx) : Fin 128 := ⟨(z 1).val % 128, Nat.mod_lt _ (by norm_num)⟩

/-- A window of one number per token after point `t`: the tokens computed so far, the others zero. -/
def tokAfter (R : Fin cfg0.N → Fin 128 → EReal) (t : Fin cfg0.N) (z : S4x3072.Idx) : EReal :=
  if (tokPt z).val ≤ t.val then R (tokPt z) (tokRow z) else 0

theorem coords_val : ∀ t : Fin cfg0.N, (grid0.coords t 0).val = t.val := by decide +kernel

theorem tokNext_after (R : Fin cfg0.N → Fin 128 → EReal) (t : Fin cfg0.N) (old : S4x3072.Idx → EReal)
    (hold : ∀ h : t.val ≠ 0, old = tokAfter R ⟨t.val - 1, by omega⟩) :
    tokNext (grid0.coords t) (R t) old = tokAfter R t := by
  funext z
  have h0 : (z 0).val < 4 := (z 0).isLt
  have h1 : (z 1).val < 3072 := (z 1).isLt
  have ht : t.val < 96 := lt_of_lt_of_eq t.isLt N_0
  have hp : (tokPt z).val = (z 0).val * 24 + (z 1).val / 128 := rfl
  unfold tokNext
  rw [coords_val]
  by_cases h : (z 0).val = t.val / 24 ∧ (z 1).val / 128 = t.val % 24
  · have e : tokPt z = t := Fin.ext (by omega)
    rw [if_pos h]
    unfold tokAfter
    rw [if_pos (by omega), e]
    rfl
  · rw [if_neg h]
    by_cases h' : t.val = 0
    · rw [if_pos h']
      unfold tokAfter
      rw [if_neg (by omega)]
    · rw [if_neg h', hold h']
      unfold tokAfter
      by_cases h'' : (tokPt z).val ≤ t.val - 1
      · rw [if_pos h'', if_pos (by omega)]
      · rw [if_neg h'', if_neg (by omega)]

section
variable (c : Dev nD) (t : Fin cfg0.N)
/-- The hidden rows, means and so on of the block at point `t`. -/
def hPt : S128x7168.Idx → EReal := hVal (iblk m c 0 t) (iblk m c 1 t) (iblk m c 2 t) (iblk m c 3 t)
def meanPt : Fin 128 → EReal := meanVal (iblk m c 0 t) (iblk m c 1 t) (iblk m c 2 t) (iblk m c 3 t)
def rstdPt : Fin 128 → EReal := rstdVal (iblk m c 0 t) (iblk m c 1 t) (iblk m c 2 t) (iblk m c 3 t)
def scalePt : Fin 128 → EReal := scaleVal (iblk m c 0 t) (iblk m c 1 t) (iblk m c 2 t) (iblk m c 3 t) (iblk m c 4 t) (iblk m c 5 t)
def codePt : S128x7168.Idx → EReal := codeVal (iblk m c 0 t) (iblk m c 1 t) (iblk m c 2 t) (iblk m c 3 t) (iblk m c 4 t) (iblk m c 5 t)
def maskPt : S128x896.Idx → BitVec 8 := maskVal (iblk m c 3 t) (iblk m c 6 t)
end

/-- The arrays as the region finds them; each input window keeps its block; what the kernel leaves in the outputs. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => codePt m c t
    | ⟨8, h⟩ => tokAfter (scalePt m c) t
    | ⟨9, h⟩ => maskPt m c t
    | ⟨10, h⟩ => tokAfter (meanPt m c) t
    | ⟨11, h⟩ => tokAfter (rstdPt m c) t
    | ⟨12, h⟩ => hPt m c t
  Φ _ := Pipeline.ΦA spec0 c
  q _ := fullShare
  owed _ := 0

theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = iblk m c 4 t := by dsimp only [vdats]
theorem vafter_5 (c : Dev nD) (t : Fin cfg0.N) : (vdats m 0 c).after 5 t = iblk m c 5 t := by dsimp only [vdats]
theorem vafter_6 (c : Dev nD) (t : Fin cfg0.N) : (vdats m 0 c).after 6 t = iblk m c 6 t := by dsimp only [vdats]
theorem vafter_7 (c : Dev nD) (t : Fin cfg0.N) : (vdats m 0 c).after 7 t = codePt m c t := by dsimp only [vdats]
theorem vafter_8 (c : Dev nD) (t : Fin cfg0.N) : (vdats m 0 c).after 8 t = tokAfter (scalePt m c) t := by dsimp only [vdats]
theorem vafter_9 (c : Dev nD) (t : Fin cfg0.N) : (vdats m 0 c).after 9 t = maskPt m c t := by dsimp only [vdats]
theorem vafter_10 (c : Dev nD) (t : Fin cfg0.N) : (vdats m 0 c).after 10 t = tokAfter (meanPt m c) t := by dsimp only [vdats]
theorem vafter_11 (c : Dev nD) (t : Fin cfg0.N) : (vdats m 0 c).after 11 t = tokAfter (rstdPt m c) t := by dsimp only [vdats]
theorem vafter_12 (c : Dev nD) (t : Fin cfg0.N) : (vdats m 0 c).after 12 t = hPt m c t := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d
theorem vbefore_4 (c : Dev nD) (t : Fin cfg0.N) (d) : (vdats m 0 c).before 4 t d = iblk m c 4 t :=
  before0_4_of m (vdats m 0 c) (vA_eq m c 4) (vafter_4 m c) t d
theorem vbefore_5 (c : Dev nD) (t : Fin cfg0.N) (d) : (vdats m 0 c).before 5 t d = iblk m c 5 t :=
  before0_5_of m (vdats m 0 c) (vA_eq m c 5) (vafter_5 m c) t d
theorem vbefore_6 (c : Dev nD) (t : Fin cfg0.N) (d) : (vdats m 0 c).before 6 t d = iblk m c 6 t :=
  before0_6_of m (vdats m 0 c) (vA_eq m c 6) (vafter_6 m c) t d

theorem vbefore_8 (c : Dev nD) (t : Fin cfg0.N) (d) (h : t.val ≠ 0) :
    (vdats m 0 c).before 8 t d = tokAfter (scalePt m c) ⟨t.val - 1, by omega⟩ := by
  have hN : t.val < 96 := lt_of_lt_of_eq t.isLt N_0
  refine (Pipeline.Dat.before_out_kept (vdats m 0 c) 8 rfl t h ?_ (fun _ => rfl) (fun _ _ => rfl) d).trans (vafter_8 m c _)
  refine Bool.eq_false_iff.mpr fun hf => ?_
  have := (flush0_8 _).mp hf
  have e : (⟨t.val - 1, Nat.lt_of_le_of_lt (Nat.sub_le _ _) t.isLt⟩ : Fin cfg0.N).val = t.val - 1 := rfl
  omega

theorem vbefore_10 (c : Dev nD) (t : Fin cfg0.N) (d) (h : t.val ≠ 0) :
    (vdats m 0 c).before 10 t d = tokAfter (meanPt m c) ⟨t.val - 1, by omega⟩ := by
  have hN : t.val < 96 := lt_of_lt_of_eq t.isLt N_0
  refine (Pipeline.Dat.before_out_kept (vdats m 0 c) 10 rfl t h ?_ (fun _ => rfl) (fun _ _ => rfl) d).trans (vafter_10 m c _)
  refine Bool.eq_false_iff.mpr fun hf => ?_
  have := (flush0_10 _).mp hf
  have e : (⟨t.val - 1, Nat.lt_of_le_of_lt (Nat.sub_le _ _) t.isLt⟩ : Fin cfg0.N).val = t.val - 1 := rfl
  omega

theorem vbefore_11 (c : Dev nD) (t : Fin cfg0.N) (d) (h : t.val ≠ 0) :
    (vdats m 0 c).before 11 t d = tokAfter (rstdPt m c) ⟨t.val - 1, by omega⟩ := by
  have hN : t.val < 96 := lt_of_lt_of_eq t.isLt N_0
  refine (Pipeline.Dat.before_out_kept (vdats m 0 c) 11 rfl t h ?_ (fun _ => rfl) (fun _ _ => rfl) d).trans (vafter_11 m c _)
  refine Bool.eq_false_iff.mpr fun hf => ?_
  have := (flush0_11 _).mp hf
  have e : (⟨t.val - 1, Nat.lt_of_le_of_lt (Nat.sub_le _ _) t.isLt⟩ : Fin cfg0.N).val = t.val - 1 := rfl
  omega

/-- What the body is called with at point `t`, -/
def vPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d)) ∗ (∃ d, owns (c : Thread nD τ) (st0_1 t) fullShare ((vdats m 0 c).before 1 t d)) ∗ (∃ d, owns (c : Thread nD τ) (st0_2 t) fullShare ((vdats m 0 c).before 2 t d)) ∗ (∃ d, owns (c : Thread nD τ) (st0_3 t) fullShare ((vdats m 0 c).before 3 t d)) ∗ (∃ d, owns (c : Thread nD τ) (st0_4 t) fullShare ((vdats m 0 c).before 4 t d)) ∗ (∃ d, owns (c : Thread nD τ) (st0_5 t) fullShare ((vdats m 0 c).before 5 t d)) ∗ (∃ d, owns (c : Thread nD τ) (st0_6 t) fullShare ((vdats m 0 c).before 6 t d)) ∗ (∃ d, owns (c : Thread nD τ) (st0_7 t) fullShare ((vdats m 0 c).before 7 t d)) ∗ (∃ d, owns (c : Thread nD τ) (st0_8 t) fullShare ((vdats m 0 c).before 8 t d)) ∗ (∃ d, owns (c : Thread nD τ) (st0_9 t) fullShare ((vdats m 0 c).before 9 t d)) ∗ (∃ d, owns (c : Thread nD τ) (st0_10 t) fullShare ((vdats m 0 c).before 10 t d)) ∗ (∃ d, owns (c : Thread nD τ) (st0_11 t) fullShare ((vdats m 0 c).before 11 t d)) ∗ (∃ d, owns (c : Thread nD τ) (st0_12 t) fullShare ((vdats m 0 c).before 12 t d)))

/-- and what it returns. -/
def vPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t) ∗ owns (c : Thread nD τ) (st0_1 t) fullShare ((vdats m 0 c).after 1 t) ∗ owns (c : Thread nD τ) (st0_2 t) fullShare ((vdats m 0 c).after 2 t) ∗ owns (c : Thread nD τ) (st0_3 t) fullShare ((vdats m 0 c).after 3 t) ∗ owns (c : Thread nD τ) (st0_4 t) fullShare ((vdats m 0 c).after 4 t) ∗ owns (c : Thread nD τ) (st0_5 t) fullShare ((vdats m 0 c).after 5 t) ∗ owns (c : Thread nD τ) (st0_6 t) fullShare ((vdats m 0 c).after 6 t) ∗ owns (c : Thread nD τ) (st0_7 t) fullShare ((vdats m 0 c).after 7 t) ∗ owns (c : Thread nD τ) (st0_8 t) fullShare ((vdats m 0 c).after 8 t) ∗ owns (c : Thread nD τ) (st0_9 t) fullShare ((vdats m 0 c).after 9 t) ∗ owns (c : Thread nD τ) (st0_10 t) fullShare ((vdats m 0 c).after 10 t) ∗ owns (c : Thread nD τ) (st0_11 t) fullShare ((vdats m 0 c).after 11 t) ∗ owns (c : Thread nD τ) (st0_12 t) fullShare ((vdats m 0 c).after 12 t))

/-- The body at any point: the inputs' windows hold their blocks, so `sound_value` applies. -/
theorem sound_vbody (c : Dev nD) (t : Fin cfg0.N) :
    vPre m c t ⊢ wp Idealize.ShloMosaic.frame (wpE (defs₀ (F := Ideal)) Variants.none c none) Set.univ (bodyAt0 t) (fun _ => vPost m c t) := by
  unfold vPre vPost bodyAt0
  simp only [vbefore_0, vbefore_1, vbefore_2, vbefore_3, vbefore_4, vbefore_5, vbefore_6]
  rw [show (vdats m 0 c).Φ t.succ = (vdats m 0 c).Φ t.castSucc from rfl,
    show (vdats m 0 c).owesAt () t.succ = (vdats m 0 c).owesAt () t.castSucc from rfl,
    show (vdats m 0 c).Φ t.castSucc = Pipeline.ΦA spec0 c from rfl, PhiA0_eq,
    vafter_0, vafter_1, vafter_2, vafter_3, vafter_4, vafter_5, vafter_6, vafter_7, vafter_8, vafter_9, vafter_10, vafter_11, vafter_12]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have e8 : tokNext (grid0.coords t) (scaleVal (iblk m c 0 t) (iblk m c 1 t) (iblk m c 2 t) (iblk m c 3 t) (iblk m c 4 t) (iblk m c 5 t)) ((vdats m 0 c).before 8 t d8) = tokAfter (scalePt m c) t :=
    tokNext_after (scalePt m c) t _ (vbefore_8 m c t d8)
  have e10 : tokNext (grid0.coords t) (meanVal (iblk m c 0 t) (iblk m c 1 t) (iblk m c 2 t) (iblk m c 3 t)) ((vdats m 0 c).before 10 t d10) = tokAfter (meanPt m c) t :=
    tokNext_after (meanPt m c) t _ (vbefore_10 m c t d10)
  have e11 : tokNext (grid0.coords t) (rstdVal (iblk m c 0 t) (iblk m c 1 t) (iblk m c 2 t) (iblk m c 3 t)) ((vdats m 0 c).before 11 t d11) = tokAfter (rstdPt m c) t :=
    tokNext_after (rstdPt m c) t _ (vbefore_11 m c t d11)
  rw [← e8, ← e10, ← e11]
  iapply (sound_value c Set.univ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((vdats m 0 c).before 8 t d8) ((vdats m 0 c).before 10 t d10) ((vdats m 0 c).before 11 t d11) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexact H10
  isplitl [H11]; · iexact H11
  isplitl [H12]; · iexists _; iexact H12
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem vbody_obligation (c : Dev nD) :
    BodyObligation (vdats m 0 c) (defs₀ (F := Ideal)) Variants.none () Set.univ := fun t => by
  rw [bigSep_W0, bigSep_W0, defs₀_row]
  exact triple_restated (sound_vbody m c t) rfl .rfl fun _ => .rfl

-- the launch theorem's implicit arguments are found by unifying its conclusion with this one, which takes unfolding
-- plain definitions in a metavariable's type
set_option backward.isDefEq.respectTransparency.types false in
set_option maxHeartbeats 800000 in
theorem vrun_main : θ_run defs (onTc (τ := τ) (main (F := Ideal))) (s₀ m ρ)
    (fun r => Pipeline.FramePost cfgs (vdats m) (0 : Fin 1) (V m) r ∧ r.2.sem = fun _ => 0) :=
  Pipeline.θ_run_frame (Q' := _) cfgs (vdats m) (0 : Fin 1) launch0 defs₀ Variants.none m ρ main
    (hbody := fun c => (vbody_obligation m c).loose) (hshare := fun c => (vdats m 0 c).share_full fun _ => rfl)
    (howed := fun _ _ => rfl) (V := V m) (hmain := hmain m Variants.none) (hA := vA_eq m) (hΦ := fun _ _ => rfl)

end Cert.KernelIdeal.Hand

end
-- ==== Proof.KernelIdeal.Inputs.lean ====
/-
  What the kernel's input blocks hold, in the arguments: the rows of the flattened tokens, the bias and affine rows, and
  the weights that pack the dropout mask.
-/
module

public import proofs.«01_k».proof.Proof.KernelIdeal.Run
public import Idealize.ShloMosaic.Lib.Pipeline.ValueKit.Point
public import Idealize.ShloMosaic.Lib.KernelVsHost
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- Row `n` of the flattened tokens, at column `l`. -/
def flat {α : Type} (f : S4x3072x7168.Idx → α) (n : Fin 12288) (l : Fin 7168) : α :=
  f (ix3 ⟨n.val / 3072, by omega⟩ ⟨n.val % 3072, Nat.mod_lt _ (by norm_num)⟩ l)

/-- The flattened token at row `r` of block `t`. -/
def blkRow (t : Fin cfg0.N) (r : Fin 128) : Fin 12288 :=
  ⟨128 * t.val + r.val, by have : cfg0.N = 96 := N_0; omega⟩

variable (m : (ℓ : Loc nD τ sig) → Buf (Elt Ideal) ℓ) (c : Dev nD)

/-- The argument arrays. -/
def argX : S4x3072x7168.Idx → EReal := m ((c.tc : Thread nD τ).loc main_arg0)
def argA : S4x3072x7168.Idx → EReal := m ((c.tc : Thread nD τ).loc main_arg1)
def argB : S7168.Idx → EReal := m ((c.tc : Thread nD τ).loc main_arg2)
def argW : S4x3072x7168.Idx → BitVec 32 := m ((c.tc : Thread nD τ).loc main_arg3)
def argG : S7168.Idx → EReal := m ((c.tc : Thread nD τ).loc main_arg4)
def argT : S7168.Idx → EReal := m ((c.tc : Thread nD τ).loc main_arg5)

/-! ## The operands the host code makes -/

theorem V_x (y : S12288x7168.Idx) : (V m c main_v14 : Vec Ideal S12288x7168 .bf16) y = flat (argX m c) (y 0) (y 1) := by
  unfold V
  simp only [List.flatten_cons, List.flatten_nil, List.append_nil, hostOps0, hostOps0_1, hostOps0_2, hostOps0_3, hostOps0_4, hostOps0_5, hostOps0_6, List.cons_append, List.nil_append]
  after_reads_at
  rfl

theorem V_a (y : S12288x7168.Idx) : (V m c main_v15 : Vec Ideal S12288x7168 .bf16) y = flat (argA m c) (y 0) (y 1) := by
  unfold V
  simp only [List.flatten_cons, List.flatten_nil, List.append_nil, hostOps0, hostOps0_1, hostOps0_2, hostOps0_3, hostOps0_4, hostOps0_5, hostOps0_6, List.cons_append, List.nil_append]
  after_reads_at
  rfl

theorem V_w (y : S12288x7168.Idx) : (V m c main_v17 : IVec S12288x7168 32) y = flat (argW m c) (y 0) (y 1) := by
  unfold V
  simp only [List.flatten_cons, List.flatten_nil, List.append_nil, hostOps0, hostOps0_1, hostOps0_2, hostOps0_3, hostOps0_4, hostOps0_5, hostOps0_6, List.cons_append, List.nil_append]
  after_reads_at
  rfl

theorem V_b (y : S1x7168.Idx) : (V m c main_v16 : Vec Ideal S1x7168 .f32) y = argB m c (ix1 (y 1)) := by
  unfold V
  simp only [List.flatten_cons, List.flatten_nil, List.append_nil, hostOps0, hostOps0_1, hostOps0_2, hostOps0_3, hostOps0_4, hostOps0_5, hostOps0_6, List.cons_append, List.nil_append]
  after_reads_at
  rfl

theorem V_g (y : S1x7168.Idx) : (V m c main_v18 : Vec Ideal S1x7168 .f32) y = argG m c (ix1 (y 1)) := by
  unfold V
  simp only [List.flatten_cons, List.flatten_nil, List.append_nil, hostOps0, hostOps0_1, hostOps0_2, hostOps0_3, hostOps0_4, hostOps0_5, hostOps0_6, List.cons_append, List.nil_append]
  after_reads_at
  rfl

theorem V_t (y : S1x7168.Idx) : (V m c main_v19 : Vec Ideal S1x7168 .f32) y = argT m c (ix1 (y 1)) := by
  unfold V
  simp only [List.flatten_cons, List.flatten_nil, List.append_nil, hostOps0, hostOps0_1, hostOps0_2, hostOps0_3, hostOps0_4, hostOps0_5, hostOps0_6, List.cons_append, List.nil_append]
  after_reads_at
  rfl

/-- A column's quotient by eight, as the host code computes it on words, -/
def quotW (k : Fin 1024) : BitVec 32 :=
  Scalar.select
    (IntOp.andi
      (IntOp.cmpi CmpIPredicate.ne
        (if BitVec.ofNat 32 k.val = 0 then (0 : BitVec 32) else if (BitVec.ofNat 32 k.val).msb = true then (-1 : BitVec 32) else (1 : BitVec 32))
        (if (8#32) = 0 then (0 : BitVec 32) else if BitVec.msb (8#32) = true then (-1 : BitVec 32) else (1 : BitVec 32)))
      (IntOp.cmpi CmpIPredicate.ne (IntOp.remsi ArithUnit.host (BitVec.ofNat 32 k.val) 8#32) 0#32))
    (IntOp.subi (IntOp.divsi ArithUnit.host (BitVec.ofNat 32 k.val) 8#32) 1#32)
    (IntOp.divsi ArithUnit.host (BitVec.ofNat 32 k.val) 8#32)

/-- and the bit of its remainder. -/
def bitW (k : Fin 1024) : BitVec 32 :=
  IntOp.shli ArithUnit.host (1#32)
    (Scalar.select
      (IntOp.andi
        (IntOp.cmpi CmpIPredicate.ne
          (IntOp.cmpi CmpIPredicate.slt
            (IntOp.remsi ArithUnit.host (BitVec.ofNat 32 k.val)
              (Scalar.select (IntOp.cmpi CmpIPredicate.eq (8#32) 0#32) (1#32) (8#32))) 0#32)
          (IntOp.cmpi CmpIPredicate.slt
            (Scalar.select (IntOp.cmpi CmpIPredicate.eq (8#32) 0#32) (1#32) (8#32)) 0#32))
        (IntOp.cmpi CmpIPredicate.ne
          (IntOp.remsi ArithUnit.host (BitVec.ofNat 32 k.val)
            (Scalar.select (IntOp.cmpi CmpIPredicate.eq (8#32) 0#32) (1#32) (8#32))) 0#32))
      (IntOp.addi
        (IntOp.remsi ArithUnit.host (BitVec.ofNat 32 k.val)
          (Scalar.select (IntOp.cmpi CmpIPredicate.eq (8#32) 0#32) (1#32) (8#32)))
        (Scalar.select (IntOp.cmpi CmpIPredicate.eq (8#32) 0#32) (1#32) (8#32)))
      (IntOp.remsi ArithUnit.host (BitVec.ofNat 32 k.val)
        (Scalar.select (IntOp.cmpi CmpIPredicate.eq (8#32) 0#32) (1#32) (8#32))))

theorem quotW_eq : ∀ k : Fin 1024, quotW k = BitVec.ofNat 32 (k.val / 8) := by decide +kernel

theorem bitW_eq : ∀ k : Fin 1024, bitW k = BitVec.ofNat 32 (2 ^ (k.val % 8)) := by decide +kernel

theorem V_bits (y : S1024x128.Idx) : (V m c main_v13 : Vec Ideal S1024x128 .bf16) y
    = FloatOps.sitofp (F := Ideal) FTy.bf16 (Scalar.select (IntOp.cmpi .eq (quotW (y 0)) (BitVec.ofNat 32 (y 1).val)) (bitW (y 0)) 0#32) := by
  unfold V
  simp only [List.flatten_cons, List.flatten_nil, List.append_nil, hostOps0, hostOps0_1, hostOps0_2, hostOps0_3, hostOps0_4, hostOps0_5, hostOps0_6, List.cons_append, List.nil_append]
  after_reads_at
  have e : ∀ w : BitVec 32, (id (constantI S_ 32 w) ix0 : BitVec 32) = w := fun _ => rfl
  simp only [e]
  rfl

/-! ## The blocks -/

theorem idx_0 : ∀ t : Fin cfg0.N, win0_0.index t 0 = t.val ∧ win0_0.index t 1 = 0 := by decide +kernel

theorem emb_0 (t : Fin cfg0.N) (y : S128x7168.Idx) :
    (((win0_0.blk t).view.emb y : S12288x7168.Idx) 0).val = 128 * t.val + (y 0).val
      ∧ (((win0_0.blk t).view.emb y : S12288x7168.Idx) 1).val = (y 1).val := by
  have e0 : (((win0_0.blk t).view.emb y : S12288x7168.Idx) 0).val = win0_0.index t 0 * 128 + (y 0).val := win0_0.rect_emb_val_off t y 0
  have e1 : (((win0_0.blk t).view.emb y : S12288x7168.Idx) 1).val = win0_0.index t 1 * 7168 + (y 1).val := win0_0.rect_emb_val_off t y 1
  have h := idx_0 t
  omega

theorem idx_1 : ∀ t : Fin cfg0.N, win0_1.index t 0 = t.val ∧ win0_1.index t 1 = 0 := by decide +kernel

theorem emb_1 (t : Fin cfg0.N) (y : S128x7168.Idx) :
    (((win0_1.blk t).view.emb y : S12288x7168.Idx) 0).val = 128 * t.val + (y 0).val
      ∧ (((win0_1.blk t).view.emb y : S12288x7168.Idx) 1).val = (y 1).val := by
  have e0 : (((win0_1.blk t).view.emb y : S12288x7168.Idx) 0).val = win0_1.index t 0 * 128 + (y 0).val := win0_1.rect_emb_val_off t y 0
  have e1 : (((win0_1.blk t).view.emb y : S12288x7168.Idx) 1).val = win0_1.index t 1 * 7168 + (y 1).val := win0_1.rect_emb_val_off t y 1
  have h := idx_1 t
  omega

theorem idx_3 : ∀ t : Fin cfg0.N, win0_3.index t 0 = t.val ∧ win0_3.index t 1 = 0 := by decide +kernel

theorem emb_3 (t : Fin cfg0.N) (y : S128x7168.Idx) :
    (((win0_3.blk t).view.emb y : S12288x7168.Idx) 0).val = 128 * t.val + (y 0).val
      ∧ (((win0_3.blk t).view.emb y : S12288x7168.Idx) 1).val = (y 1).val := by
  have e0 : (((win0_3.blk t).view.emb y : S12288x7168.Idx) 0).val = win0_3.index t 0 * 128 + (y 0).val := win0_3.rect_emb_val_off t y 0
  have e1 : (((win0_3.blk t).view.emb y : S12288x7168.Idx) 1).val = win0_3.index t 1 * 7168 + (y 1).val := win0_3.rect_emb_val_off t y 1
  have h := idx_3 t
  omega

theorem iblk_x (t : Fin cfg0.N) (y : S128x7168.Idx) : (iblk m c 0 t : Vec Ideal S128x7168 .bf16) y = flat (argX m c) (blkRow t (y 0)) (y 1) := by
  blk_simp [iblk]
  refine (V_x m c _).trans ?_
  exact congrArg₂ (flat (argX m c)) (Fin.ext (emb_0 t y).1) (Fin.ext (emb_0 t y).2)

theorem iblk_a (t : Fin cfg0.N) (y : S128x7168.Idx) : (iblk m c 1 t : Vec Ideal S128x7168 .bf16) y = flat (argA m c) (blkRow t (y 0)) (y 1) := by
  blk_simp [iblk]
  refine (V_a m c _).trans ?_
  exact congrArg₂ (flat (argA m c)) (Fin.ext (emb_1 t y).1) (Fin.ext (emb_1 t y).2)

theorem iblk_w (t : Fin cfg0.N) (y : S128x7168.Idx) : (iblk m c 3 t : IVec S128x7168 32) y = flat (argW m c) (blkRow t (y 0)) (y 1) := by
  blk_simp [iblk]
  refine (V_w m c _).trans ?_
  exact congrArg₂ (flat (argW m c)) (Fin.ext (emb_3 t y).1) (Fin.ext (emb_3 t y).2)

theorem idx_2 : ∀ t : Fin cfg0.N, win0_2.index t 1 = 0 := by decide +kernel

theorem iblk_b (t : Fin cfg0.N) (y : S1x7168.Idx) : (iblk m c 2 t : Vec Ideal S1x7168 .f32) y = argB m c (ix1 (y 1)) := by
  blk_simp [iblk]
  refine (V_b m c _).trans ?_
  have e1 : (((win0_2.blk t).view.emb y : S1x7168.Idx) 1).val = win0_2.index t 1 * 7168 + (y 1).val := win0_2.rect_emb_val_off t y 1
  have h := idx_2 t
  exact congrArg (fun l => argB m c (ix1 l)) (Fin.ext (by omega))

theorem idx_4 : ∀ t : Fin cfg0.N, win0_4.index t 1 = 0 := by decide +kernel

theorem iblk_g (t : Fin cfg0.N) (y : S1x7168.Idx) : (iblk m c 4 t : Vec Ideal S1x7168 .f32) y = argG m c (ix1 (y 1)) := by
  blk_simp [iblk]
  refine (V_g m c _).trans ?_
  have e1 : (((win0_4.blk t).view.emb y : S1x7168.Idx) 1).val = win0_4.index t 1 * 7168 + (y 1).val := win0_4.rect_emb_val_off t y 1
  have h := idx_4 t
  exact congrArg (fun l => argG m c (ix1 l)) (Fin.ext (by omega))

theorem idx_5 : ∀ t : Fin cfg0.N, win0_5.index t 1 = 0 := by decide +kernel

theorem iblk_t (t : Fin cfg0.N) (y : S1x7168.Idx) : (iblk m c 5 t : Vec Ideal S1x7168 .f32) y = argT m c (ix1 (y 1)) := by
  blk_simp [iblk]
  refine (V_t m c _).trans ?_
  have e1 : (((win0_5.blk t).view.emb y : S1x7168.Idx) 1).val = win0_5.index t 1 * 7168 + (y 1).val := win0_5.rect_emb_val_off t y 1
  have h := idx_5 t
  exact congrArg (fun l => argT m c (ix1 l)) (Fin.ext (by omega))

theorem idx_6 : ∀ t : Fin cfg0.N, win0_6.index t 0 = 0 ∧ win0_6.index t 1 = 0 := by decide +kernel

/-- The weight of a column for a lane: the bit of its place in its byte where the byte is the lane's, else zero. -/
def weight (k : Fin 1024) (l : Fin 128) : EReal := if k.val / 8 = l.val then (2 ^ (k.val % 8) : ℕ) else 0

theorem sitofp_pow : ∀ j : Fin 8, FloatOps.sitofp (F := Ideal) FTy.bf16 (BitVec.ofNat 32 (2 ^ j.val)) = ((2 ^ j.val : ℕ) : EReal) := by
  intro j
  have : (BitVec.ofNat 32 (2 ^ j.val)).toInt = (2 ^ j.val : ℕ) := by revert j; decide +kernel
  show (((BitVec.ofNat 32 (2 ^ j.val)).toInt : ℝ) : EReal) = _
  rw [this, Int.cast_natCast]
  exact EReal.coe_natCast

theorem iblk_bits (t : Fin cfg0.N) (k : Fin 1024) (l : Fin 128) :
    (iblk m c 6 t : Vec Ideal S1024x128 .bf16) (ix2 k l) = weight k l := by
  have e0 : (((win0_6.blk t).view.emb (ix2 k l : S1024x128.Idx) : S1024x128.Idx) 0).val = win0_6.index t 0 * 1024 + k.val := win0_6.rect_emb_val_off t _ 0
  have e1 : (((win0_6.blk t).view.emb (ix2 k l : S1024x128.Idx) : S1024x128.Idx) 1).val = win0_6.index t 1 * 128 + l.val := win0_6.rect_emb_val_off t _ 1
  have h := idx_6 t
  blk_simp [iblk]
  refine (V_bits m c _).trans ?_
  have e0' : ((win0_6.blk t).view.emb (ix2 k l : S1024x128.Idx) : S1024x128.Idx) 0 = k := Fin.ext (by omega)
  have e1' : ((win0_6.blk t).view.emb (ix2 k l : S1024x128.Idx) : S1024x128.Idx) 1 = l := Fin.ext (by omega)
  refine (congrArg₂ (fun (k' : Fin 1024) (l' : Fin 128) => FloatOps.sitofp (F := Ideal) FTy.bf16
    (Scalar.select (IntOp.cmpi .eq (quotW k') (BitVec.ofNat 32 l'.val)) (bitW k') 0#32)) e0' e1').trans ?_
  rw [select_eqB, quotW_eq, bitW_eq]
  have hi : BitVec.ofNat 32 (k.val / 8) = BitVec.ofNat 32 l.val ↔ k.val / 8 = l.val := by
    constructor
    · intro h
      have := congrArg BitVec.toNat h
      simp only [BitVec.toNat_ofNat] at this
      omega
    · intro h; rw [h]
  unfold weight
  by_cases hk : k.val / 8 = l.val
  · rw [if_pos hk, if_pos (hi.mpr hk)]
    exact sitofp_pow ⟨k.val % 8, Nat.mod_lt _ (by norm_num)⟩
  · rw [if_neg hk, if_neg (fun h => hk (hi.mp h))]
    show ((((0#32 : BitVec 32).toInt : ℤ) : ℝ) : EReal) = 0
    simp

end Cert.KernelIdeal.Hand

end
-- ==== Proof.Row.lean ====
/-
  One row of 7168 numbers, as plain mathematics: its mean, its reciprocal standard deviation, the normalised row and
  its greatest magnitude; and that with a finite gain and offset that magnitude is a real number whose quotient by 448
  lies below 2 ^ 126.
-/
module

public import proofs.«01_k».proof.Proof.Search

@[expose] public section

noncomputable section

namespace Cert.Row

open Idealize.ShloMosaic Cert.KernelIdeal.Hand

/-- The hidden entry: `x` plus, where the random word `w` keeps it, `a + b` over the keeping probability. -/
def hid (x a b : EReal) (w : BitVec 32) : EReal :=
  x + Scalar.select (IntOp.cmpi .uge w 429496730#32) ((a + b) * Ideal.ofBits .f32 1066285284#32) 0

/-- One part in 7168. -/
def part : EReal := ((1 / 7168 : ℝ) : EReal)

/-- The addend under the square root. -/
def eps : EReal := Ideal.ofBits .f32 0x3727C5AC#32

section
variable (h g t : Fin 7168 → EReal)

/-- The mean of a row, -/
def mean : EReal := (∑ l, h l) * part

/-- the row less its mean, -/
def cen (l : Fin 7168) : EReal := h l - mean h

/-- its reciprocal standard deviation, -/
def rstd : EReal := Ideal.rsqrt ((∑ l, cen h l * cen h l) * part + eps)

/-- the normalised row with gain `g` and offset `t`, -/
def nrm (l : Fin 7168) : EReal := cen h l * rstd h * g l + t l

/-- and its greatest magnitude. -/
def amax : EReal := Finset.univ.sup fun l => max (nrm h g t l) (-(nrm h g t l))

end

/-- A code before its format: a normalised entry scaled and clipped to 448. -/
def clip (y s : EReal) : EReal := min (Ideal.ofBits .f32 0x43E00000#32) (max (Ideal.ofBits .f32 0xC3E00000#32) (y * s))

/-! ## The bound -/

/-- A real number of magnitude at most `M`. -/
def Within (M : ℝ) (x : EReal) : Prop := ∃ r : ℝ, x = r ∧ |r| ≤ M

theorem eps_real : ∃ e : ℝ, eps = e ∧ 0 < e := by
  refine ⟨_, by unfold eps; simp [Ideal.ofBits, Ideal.ieee, -EReal.coe_mul]; rfl, by norm_num⟩

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem sq_nonneg' (x : EReal) : 0 ≤ x * x := by
  induction x using EReal.rec with
  | bot => simp
  | top => simp
  | coe r => rw [← EReal.coe_mul]; exact_mod_cast mul_self_nonneg r

/-- The reciprocal root of a positive real. -/
theorem rsqrt_pos (v : ℝ) (hv : 0 < v) : Ideal.rsqrt (v : EReal) = (((√v)⁻¹ : ℝ) : EReal) := by
  show (if v < 0 then (⊥ : EReal) else if v = 0 then ⊤ else (((√v)⁻¹ : ℝ) : EReal)) = _
  rw [if_neg (not_lt.mpr hv.le), if_neg hv.ne']

/-- An entry times the reciprocal root of the mean square is at most 85, or every one is zero. -/
theorem unit_bound (c : Fin 7168 → EReal) (l : Fin 7168) :
    Within 85 (c l * Ideal.rsqrt ((∑ l, c l * c l) * part + eps)) := by
  obtain ⟨e, he, hpos⟩ := eps_real
  rw [he]
  by_cases hc : ∀ l, ∃ r : ℝ, c l = r
  · choose r hr using hc
    have hq : (∑ l, c l * c l) = ((∑ l, r l * r l : ℝ) : EReal) := by
      rw [coe_sum]
      exact Finset.sum_congr rfl fun l _ => by rw [hr, EReal.coe_mul]
    have hle : r l * r l ≤ ∑ l, r l * r l :=
      Finset.single_le_sum (f := fun l => r l * r l) (fun i _ => mul_self_nonneg (r i)) (Finset.mem_univ l)
    have h0 := mul_self_nonneg (r l)
    rw [hq]
    generalize (∑ l, r l * r l) = q at *
    unfold part
    rw [← EReal.coe_mul, ← EReal.coe_add]
    have hv : 0 < q * (1 / 7168) + e := by nlinarith
    rw [rsqrt_pos _ hv, hr, ← EReal.coe_mul]
    refine ⟨_, rfl, ?_⟩
    have hs : 0 < √(q * (1 / 7168) + e) := Real.sqrt_pos.mpr hv
    rw [abs_mul, abs_of_pos (inv_pos.mpr hs), ← div_eq_mul_inv, div_le_iff₀ hs]
    refine abs_le_of_sq_le_sq ?_ (by positivity)
    rw [mul_pow, Real.sq_sqrt hv.le]
    nlinarith
  · push Not at hc
    obtain ⟨k, hk⟩ := hc
    have hk' : c k * c k = ⊤ := by
      generalize c k = x at hk
      induction x using EReal.rec with
      | bot => simp
      | top => simp
      | coe r => exact absurd rfl (hk r)
    have hq : (∑ l, c l * c l) = ⊤ := top_le_iff.mp (hk' ▸
      Finset.single_le_sum (f := fun l => c l * c l) (fun i _ => sq_nonneg' (c i)) (Finset.mem_univ k))
    have : (⊤ : EReal) * part = ⊤ := EReal.top_mul_of_pos (by unfold part; exact_mod_cast (by norm_num : (0 : ℝ) < 1 / 7168))
    rw [hq, this, EReal.top_add_coe]
    have h0 : Ideal.rsqrt ⊤ = 0 := rfl
    rw [h0, mul_zero]
    exact ⟨0, rfl, by norm_num⟩

/-- The greatest magnitude of a row normalised with finite gain and offset. -/
theorem amax_real (h g t : Fin 7168 → EReal) (hg : ∀ l, Within ((2 : ℝ) ^ (128 : ℤ)) (g l))
    (ht : ∀ l, Within ((2 : ℝ) ^ (128 : ℤ)) (t l)) :
    ∃ a : ℝ, amax h g t = a ∧ 0 ≤ a ∧ a * rec448 < (2 : ℝ) ^ (126 : ℤ) := by
  obtain ⟨l, -, hl⟩ := Finset.exists_mem_eq_sup (Finset.univ : Finset (Fin 7168)) ⟨0, Finset.mem_univ _⟩
    (fun l => max (nrm h g t l) (-(nrm h g t l)))
  unfold amax
  rw [hl]
  obtain ⟨u, hu, bu⟩ := unit_bound (cen h) l
  obtain ⟨γ, hγ, bγ⟩ := hg l
  obtain ⟨β, hβ, bβ⟩ := ht l
  have hn : nrm h g t l = ((u * γ + β : ℝ) : EReal) := by
    unfold nrm rstd
    rw [hu, hγ, hβ, EReal.coe_add, EReal.coe_mul]
  rw [hn, ← EReal.coe_neg, ← EReal.coe_strictMono.monotone.map_max]
  refine ⟨_, rfl, ?_, ?_⟩
  · exact abs_nonneg (u * γ + β)
  · have hb : |u * γ + β| ≤ 86 * (2 : ℝ) ^ (128 : ℤ) := by
      refine (abs_add_le _ _).trans ?_
      rw [abs_mul]
      nlinarith [mul_le_mul bu bγ (abs_nonneg γ) (by norm_num)]
    have hr : 0 < rec448 := by unfold rec448; positivity
    refine lt_of_le_of_lt (mul_le_mul_of_nonneg_right hb hr.le) ?_
    unfold rec448
    norm_num

end Cert.Row

end
-- ==== Proof.Byte.lean ====
/-
  The mask's bytes: eight kept bits weighted by powers of two, summed as numbers and converted, are the words shifted
  and added.
-/
module

public import proofs.«01_k».proof.Proof.Row

@[expose] public section

noncomputable section

namespace Cert.Row

open Idealize.ShloMosaic

/-- A sum of words is the word of the sum. -/
theorem fold_addi {ι : Type} (s : Finset ι) (f : ι → ℕ) :
    Finset.fold IntOp.addi 0#32 (fun i => BitVec.ofNat 32 (f i)) s = BitVec.ofNat 32 (∑ i ∈ s, f i) := by
  classical
  induction s using Finset.induction_on with
  | empty => simp
  | insert a s ha ih =>
    rw [Finset.fold_insert ha, ih, Finset.sum_insert ha, BitVec.ofNat_add]
    rfl

/-- A bit shifted to its place. -/
theorem shl_bit : ∀ (b : BitVec 1) (j : Fin 8),
    IntOp.shli ArithUnit.host (BitVec.setWidth 32 b) (BitVec.ofNat 32 j.val) = BitVec.ofNat 32 (b.toNat * 2 ^ j.val) := by
  decide +kernel

/-- The byte of eight bits. -/
def byte (b : Fin 8 → BitVec 1) : BitVec 8 := BitVec.ofNat 8 (∑ j : Fin 8, (b j).toNat * 2 ^ j.val)

theorem byte_fold (b : Fin 8 → BitVec 1) :
    BitVec.setWidth 8 (Finset.fold IntOp.addi 0#32
      (fun j : Fin 8 => IntOp.shli ArithUnit.host (BitVec.setWidth 32 (b j)) (BitVec.ofNat 32 j.val)) Finset.univ) = byte b := by
  simp only [shl_bit, fold_addi]
  unfold byte
  apply BitVec.eq_of_toNat_eq
  simp only [BitVec.toNat_setWidth, BitVec.toNat_ofNat]
  omega

/-- The conversion of a natural number below 256. -/
theorem fptosi_nat (n : ℕ) (hn : n < 256) :
    (FloatOps.fptosi (F := Ideal) (φ := .f32) 32 ((n : ℝ) : EReal)).setWidth 8 = BitVec.ofNat 8 n := by
  have h : Ideal.toIntClamped (-(2 ^ (32 - 1) : ℕ)) ((2 ^ (32 - 1) : ℕ) - 1) ((n : ℝ) : EReal) = (n : ℤ) := by
    rw [Ideal.toIntClamped_coe, if_pos (Nat.cast_nonneg n), Int.floor_natCast]
    norm_num
    omega
  show (BitVec.ofInt 32 (Ideal.toIntClamped (-(2 ^ (32 - 1) : ℕ)) ((2 ^ (32 - 1) : ℕ) - 1) ((n : ℝ) : EReal))).setWidth 8 = _
  rw [h]
  apply BitVec.eq_of_toNat_eq
  simp only [BitVec.toNat_setWidth, BitVec.toNat_ofNat, BitVec.ofInt_natCast]
  omega

theorem select_nat (b : BitVec 1) (k : ℕ) : Scalar.select b (1 : EReal) 0 * ((k : ℕ) : EReal) = (((b.toNat * k : ℕ) : ℝ) : EReal) := by
  have : b = 0#1 ∨ b = 1#1 := by revert b; decide
  rcases this with h | h <;> subst h <;> simp [Scalar.select]

/-- The kernel's byte: the product of 1024 kept flags with a column of weights, converted. -/
theorem byte_dot (b : Fin 1024 → BitVec 1) (l : Fin 128) :
    (FloatOps.fptosi (F := Ideal) (φ := .f32) 32 (∑ k : Fin 1024, Scalar.select (b k) (1 : EReal) 0
      * (if k.val / 8 = l.val then ((2 ^ (k.val % 8) : ℕ) : EReal) else 0))).setWidth 8
      = byte fun j => b ⟨8 * l.val + j.val, by omega⟩ := by
  have h : (∑ k : Fin 1024, Scalar.select (b k) (1 : EReal) 0
      * (if k.val / 8 = l.val then ((2 ^ (k.val % 8) : ℕ) : EReal) else 0))
      = (((∑ j : Fin 8, (b ⟨8 * l.val + j.val, by omega⟩).toNat * 2 ^ j.val : ℕ) : ℝ) : EReal) := by
    rw [← Equiv.sum_comp (finProdFinEquiv (m := 128) (n := 8)), Fintype.sum_prod_type, Finset.sum_eq_single l]
    · push_cast
      rw [coe_sum]
      refine Finset.sum_congr rfl fun j _ => ?_
      have e : (finProdFinEquiv (l, j) : Fin (128 * 8)).val = j.val + 8 * l.val := rfl
      rw [if_pos (by omega), select_nat]
      have e2 : (finProdFinEquiv (l, j) : Fin (128 * 8)) = (⟨8 * l.val + j.val, by omega⟩ : Fin 1024) := Fin.ext (by dsimp only; omega)
      have e3 : (finProdFinEquiv (l, j) : Fin (128 * 8)).val % 8 = j.val := by omega
      rw [e3, e2]
      push_cast
      rfl
    · intro i _ hi
      refine Finset.sum_eq_zero fun j _ => ?_
      have e : (finProdFinEquiv (i, j) : Fin (128 * 8)).val = j.val + 8 * i.val := rfl
      rw [if_neg (fun h => hi (Fin.ext (by omega))), mul_zero]
    · intro h; exact absurd (Finset.mem_univ l) h
  rw [h]
  refine fptosi_nat _ ?_
  have hb : ∀ j : Fin 8, (b ⟨8 * l.val + j.val, by omega⟩).toNat * 2 ^ j.val ≤ 2 ^ j.val := fun j => by
    have := (b ⟨8 * l.val + j.val, by omega⟩).isLt
    have : (b ⟨8 * l.val + j.val, by omega⟩).toNat ≤ 1 := by omega
    nlinarith [Nat.one_le_two_pow (n := j.val)]
  calc _ ≤ ∑ j : Fin 8, 2 ^ j.val := Finset.sum_le_sum fun j _ => hb j
    _ < 256 := by decide

end Cert.Row

end
-- ==== Proof.Tokens.lean ====
/-
  The results for one token (p, q), as plain mathematics over the argument arrays: its hidden row, the mean, the
  reciprocal standard deviation, the normalised row, the greatest magnitude and the mask bytes.
-/
module

public import proofs.«01_k».proof.Proof.Byte
public import Idealize.ShloMosaic.Lib.Pipeline.ValueKit.Point

@[expose] public section

noncomputable section

namespace Cert.Row

open Idealize.ShloMosaic

section
variable (X A : (⟨3, ![4, 3072, 7168]⟩ : Shape).Idx → EReal) (B : (⟨1, ![7168]⟩ : Shape).Idx → EReal)
  (W : (⟨3, ![4, 3072, 7168]⟩ : Shape).Idx → BitVec 32) (G T : (⟨1, ![7168]⟩ : Shape).Idx → EReal)
  (p : Fin 4) (q : Fin 3072)

/-- The hidden row. -/
def hTok (l : Fin 7168) : EReal := hid (X (ix3 p q l)) (A (ix3 p q l)) (B (ix1 l)) (W (ix3 p q l))

/-- The normalised row. -/
def nTok (l : Fin 7168) : EReal := nrm (hTok X A B W p q) (fun l => G (ix1 l)) (fun l => T (ix1 l)) l

/-- Its greatest magnitude. -/
def aTok : EReal := amax (hTok X A B W p q) (fun l => G (ix1 l)) (fun l => T (ix1 l))

/-- A byte of the mask. -/
def mTok (j : Fin 896) : BitVec 8 :=
  byte fun k => IntOp.cmpi .uge (W (ix3 p q ⟨8 * j.val + k.val, by omega⟩)) 429496730#32

/-- With finite gain and offset the greatest magnitude lies where the kernel's scale is the logarithm's. -/
theorem scale_tok (hG : ∀ l : Fin 7168, Within ((2 : ℝ) ^ (128 : ℤ)) (G (ix1 l)))
    (hT : ∀ l : Fin 7168, Within ((2 : ℝ) ^ (128 : ℤ)) (T (ix1 l))) :
    KernelIdeal.Hand.scaleAt (aTok X A B W G T p q) = KernelIdeal.Hand.scaleR (aTok X A B W G T p q)
      ∧ KernelIdeal.Hand.invAt (aTok X A B W G T p q) = KernelIdeal.Hand.invR (aTok X A B W G T p q) := by
  obtain ⟨a, ha, h0, h1⟩ := amax_real (hTok X A B W p q) (fun l => G (ix1 l)) (fun l => T (ix1 l)) hG hT
  unfold aTok
  rw [ha]
  exact KernelIdeal.Hand.scale_agree a h0 h1
end

/-- Division by 7168. -/
theorem div_len (x : EReal) : Ideal.div x (Ideal.ofBits .f32 1172307968#32) = x * part := by
  have e : Ideal.ofBits .f32 1172307968#32 = ((7168 : ℝ) : EReal) := by
    simp [Ideal.ofBits, Ideal.ieee, -EReal.coe_mul]; norm_num
  rw [e, Ideal.div_coe (by norm_num)]
  rfl

/-- Row `n` of the flattened tokens is token (n / 3072, n % 3072). -/
abbrev tokP (n : Fin 12288) : Fin 4 := ⟨n.val / 3072, by omega⟩
abbrev tokQ (n : Fin 12288) : Fin 3072 := ⟨n.val % 3072, Nat.mod_lt _ (by norm_num)⟩

/-! ## The six results, for a given scale or inverse scale `s` of a greatest magnitude -/

section
variable (s : EReal → EReal) (X A : (⟨3, ![4, 3072, 7168]⟩ : Shape).Idx → EReal) (B : (⟨1, ![7168]⟩ : Shape).Idx → EReal)
  (W : (⟨3, ![4, 3072, 7168]⟩ : Shape).Idx → BitVec 32) (G T : (⟨1, ![7168]⟩ : Shape).Idx → EReal)

/-- The codes, -/
def rCode (i : (⟨2, ![12288, 7168]⟩ : Shape).Idx) : EReal :=
  clip (nTok X A B W G T (tokP (i 0)) (tokQ (i 0)) (i 1)) (s (aTok X A B W G T (tokP (i 0)) (tokQ (i 0))))
/-- the scales, -/
def rScale (z : (⟨2, ![4, 3072]⟩ : Shape).Idx) : EReal := s (aTok X A B W G T (z 0) (z 1))
/-- the mask, -/
def rMask (i : (⟨2, ![12288, 896]⟩ : Shape).Idx) : BitVec 8 := mTok W (tokP (i 0)) (tokQ (i 0)) (i 1)
/-- the means, -/
def rMean (z : (⟨2, ![4, 3072]⟩ : Shape).Idx) : EReal := mean (hTok X A B W (z 0) (z 1))
/-- the reciprocal standard deviations -/
def rRstd (z : (⟨2, ![4, 3072]⟩ : Shape).Idx) : EReal := rstd (hTok X A B W (z 0) (z 1))
/-- and the hidden rows. -/
def rHid (i : (⟨2, ![12288, 7168]⟩ : Shape).Idx) : EReal := hTok X A B W (tokP (i 0)) (tokQ (i 0)) (i 1)
end

end Cert.Row

end
-- ==== Proof.KernelIdeal.Point.lean ====
/-
  What the kernel leaves at a grid point, as plain mathematics of the arguments.
-/
module

public import proofs.«01_k».proof.Proof.KernelIdeal.Run
public import proofs.«01_k».proof.Proof.KernelIdeal.Inputs
public import proofs.«01_k».proof.Proof.Tokens
public import proofs.«01_k».proof.Proof.Byte

@[expose] public section

set_option maxRecDepth 16384

noncomputable section

namespace Cert.KernelIdeal.Hand

open Cert.KernelIdeal Cert.KernelIdeal.Gen Cert.Row
open Idealize.ShloMosaic Idealize.ShloMosaic.TcCoe Idealize.ShloMosaic.Tactic
open Idealize.SL Idealize.SL.Sem

variable (m : (ℓ : Loc nD τ sig) → Buf (Elt Ideal) ℓ) (c : Dev nD) (t : Fin cfg0.N)

/-- The token of a block's row. -/
abbrev rowP (r : Fin 128) : Fin 4 := tokP (blkRow t r)
abbrev rowQ (r : Fin 128) : Fin 3072 := tokQ (blkRow t r)

/-- The hidden rows of a block. -/
theorem hPt_val (y : S128x7168.Idx) :
    hPt m c t y = hTok (argX m c) (argA m c) (argB m c) (argW m c) (rowP t (y 0)) (rowQ t (y 0)) (y 1) :=
  congr (congr (congrArg₂ hAt (iblk_x m c t y) (iblk_a m c t y)) (iblk_b m c t (ix2 0 (y 1)))) (iblk_w m c t y)

/-- Their means. -/
theorem meanPt_val (r : Fin 128) :
    meanPt m c t r = mean (hTok (argX m c) (argA m c) (argB m c) (argW m c) (rowP t r) (rowQ t r)) :=
  congrArg (· * part) (Finset.sum_congr rfl fun l _ => hPt_val m c t (ix2 r l))

/-- The centred rows. -/
theorem cPt_val (y : S128x7168.Idx) :
    cVal (iblk m c 0 t) (iblk m c 1 t) (iblk m c 2 t) (iblk m c 3 t) y
      = cen (hTok (argX m c) (argA m c) (argB m c) (argW m c) (rowP t (y 0)) (rowQ t (y 0))) (y 1) :=
  congrArg₂ (@HSub.hSub EReal EReal EReal _) (hPt_val m c t y) (meanPt_val m c t (y 0))

/-- Their reciprocal standard deviations. -/
theorem rstdPt_val (r : Fin 128) :
    rstdPt m c t r = rstd (hTok (argX m c) (argA m c) (argB m c) (argW m c) (rowP t r) (rowQ t r)) :=
  congrArg (fun s : EReal => Ideal.rsqrt (s * part + eps)) (Finset.sum_congr rfl fun l _ =>
    congrArg₂ (@HMul.hMul EReal EReal EReal _) (cPt_val m c t (ix2 r l)) (cPt_val m c t (ix2 r l)))

/-- The normalised rows. -/
theorem yPt_val (y : S128x7168.Idx) :
    yVal (iblk m c 0 t) (iblk m c 1 t) (iblk m c 2 t) (iblk m c 3 t) (iblk m c 4 t) (iblk m c 5 t) y
      = nTok (argX m c) (argA m c) (argB m c) (argW m c) (argG m c) (argT m c) (rowP t (y 0)) (rowQ t (y 0)) (y 1) :=
  congrArg₂ (@HAdd.hAdd EReal EReal EReal _)
    (congrArg₂ (@HMul.hMul EReal EReal EReal _)
      (congrArg₂ (@HMul.hMul EReal EReal EReal _) (cPt_val m c t y) (rstdPt_val m c t (y 0)))
      (iblk_g m c t (ix2 0 (y 1))))
    (iblk_t m c t (ix2 0 (y 1)))

/-- Their greatest magnitudes. -/
theorem amaxPt_val (r : Fin 128) :
    amaxVal (iblk m c 0 t) (iblk m c 1 t) (iblk m c 2 t) (iblk m c 3 t) (iblk m c 4 t) (iblk m c 5 t) r
      = aTok (argX m c) (argA m c) (argB m c) (argW m c) (argG m c) (argT m c) (rowP t r) (rowQ t r) := by
  unfold amaxVal amaxRow aTok amax
  exact Finset.sup_congr rfl fun l _ => congrArg (fun y : EReal => max y (-y)) (yPt_val m c t (ix2 r l))

/-- The scales. -/
theorem scalePt_val (r : Fin 128) :
    scalePt m c t r = scaleAt (aTok (argX m c) (argA m c) (argB m c) (argW m c) (argG m c) (argT m c) (rowP t r) (rowQ t r)) :=
  congrArg scaleAt (amaxPt_val m c t r)

/-- The codes. -/
theorem codePt_val (y : S128x7168.Idx) :
    codePt m c t y = clip (nTok (argX m c) (argA m c) (argB m c) (argW m c) (argG m c) (argT m c) (rowP t (y 0)) (rowQ t (y 0)) (y 1))
      (invAt (aTok (argX m c) (argA m c) (argB m c) (argW m c) (argG m c) (argT m c) (rowP t (y 0)) (rowQ t (y 0)))) :=
  congrArg₂ codeAt (yPt_val m c t y) (congrArg invAt (amaxPt_val m c t (y 0)))

/-- The mask bytes. -/
theorem maskPt_val (z : S128x896.Idx) : maskPt m c t z = mTok (argW m c) (rowP t (z 0)) (rowQ t (z 0)) (z 1) := by
  have h1 : (z 1).val < 896 := (z 1).isLt
  have e : ∀ k : Fin 1024, 1024 * ((z 1).val / 128) + k.val < 7168 := fun k => by omega
  have hs : (∑ k : Fin 1024, rowN (fun y => keepAt ((iblk m c 3 t : IVec S128x7168 32) y)) (z 0) (1024 * ((z 1).val / 128) + k.val)
        * (iblk m c 6 t : Vec Ideal S1024x128 .bf16) (ix2 k ⟨(z 1).val % 128, Nat.mod_lt _ (by norm_num)⟩))
      = ∑ k : Fin 1024, Scalar.select (IntOp.cmpi .uge (argW m c (ix3 (rowP t (z 0)) (rowQ t (z 0)) ⟨_, e k⟩)) 429496730#32) (1 : EReal) 0
        * (if k.val / 8 = (⟨(z 1).val % 128, Nat.mod_lt _ (by norm_num)⟩ : Fin 128).val then ((2 ^ (k.val % 8) : ℕ) : EReal) else 0) := by
    refine Finset.sum_congr rfl fun k _ => congrArg₂ (@HMul.hMul EReal EReal EReal _) ?_ (iblk_bits m c t k _)
    exact (rowN_val _ (ix2 (z 0) ⟨_, e k⟩) _ _ rfl rfl).trans (congrArg keepAt (iblk_w m c t (ix2 (z 0) ⟨_, e k⟩)))
  refine (congrArg maskAt hs).trans ((byte_dot _ _).trans (congrArg byte (funext fun j => ?_)))
  refine congrArg (fun l => IntOp.cmpi .uge (argW m c (ix3 (rowP t (z 0)) (rowQ t (z 0)) l)) 429496730#32) (Fin.ext ?_)
  have := j.isLt
  show 1024 * ((z 1).val / 128) + (8 * ((z 1).val % 128) + j.val) = 8 * (z 1).val + j.val
  omega

end Cert.KernelIdeal.Hand

end
-- ==== Proof.KernelIdeal.Final.lean ====
/-
  The kernel's six results after the run, as plain mathematics of the arguments.
-/
module

public import proofs.«01_k».proof.Proof.KernelIdeal.Point
public import Idealize.ShloMosaic.Lib.Pipeline.ValueKit

@[expose] public section

set_option maxRecDepth 16384

noncomputable section

namespace Cert.KernelIdeal.Hand

open Cert.KernelIdeal Cert.KernelIdeal.Gen Cert.Row
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem idx_7 : ∀ t : Fin cfg0.N, win0_7.index t 0 = t.val ∧ win0_7.index t 1 = 0 := by decide +kernel

theorem emb_7 (t : Fin cfg0.N) (y : S128x7168.Idx) :
    (((win0_7.blk t).view.emb y : S12288x7168.Idx) 0).val = 128 * t.val + (y 0).val
      ∧ (((win0_7.blk t).view.emb y : S12288x7168.Idx) 1).val = (y 1).val := by
  have e0 : (((win0_7.blk t).view.emb y : S12288x7168.Idx) 0).val = win0_7.index t 0 * 128 + (y 0).val := win0_7.rect_emb_val_off t y 0
  have e1 : (((win0_7.blk t).view.emb y : S12288x7168.Idx) 1).val = win0_7.index t 1 * 7168 + (y 1).val := win0_7.rect_emb_val_off t y 1
  have h := idx_7 t
  omega

/-- The codes. -/
theorem arr_7 : (vdats m 0 c).arrAt 7 cfg0.N = rCode invAt (argX m c) (argA m c) (argB m c) (argW m c) (argG m c) (argT m c) := by
  refine (vdats m 0 c).arrAt_eq_of_covers 7 _ (by decide +kernel) fun t hf y => ?_
  have e0 : blkRow t (y 0) = ((win0_7.blk t).view.emb y : S12288x7168.Idx) 0 := Fin.ext (emb_7 t y).1.symm
  have e1 : (y 1 : Fin 7168) = ((win0_7.blk t).view.emb y : S12288x7168.Idx) 1 := Fin.ext (emb_7 t y).2.symm
  blk_simp
  rw [vafter_7]
  refine (codePt_val m c t y).trans ?_
  exact congrArg₂ (fun (n : Fin 12288) (l : Fin 7168) => rCode invAt (argX m c) (argA m c) (argB m c) (argW m c) (argG m c) (argT m c) (ix2 n l)) e0 e1

theorem idx_9 : ∀ t : Fin cfg0.N, win0_9.index t 0 = t.val ∧ win0_9.index t 1 = 0 := by decide +kernel

theorem emb_9 (t : Fin cfg0.N) (y : S128x896.Idx) :
    (((win0_9.blk t).view.emb y : S12288x896.Idx) 0).val = 128 * t.val + (y 0).val
      ∧ (((win0_9.blk t).view.emb y : S12288x896.Idx) 1).val = (y 1).val := by
  have e0 : (((win0_9.blk t).view.emb y : S12288x896.Idx) 0).val = win0_9.index t 0 * 128 + (y 0).val := win0_9.rect_emb_val_off t y 0
  have e1 : (((win0_9.blk t).view.emb y : S12288x896.Idx) 1).val = win0_9.index t 1 * 896 + (y 1).val := win0_9.rect_emb_val_off t y 1
  have h := idx_9 t
  omega

/-- The mask. -/
theorem arr_9 : (vdats m 0 c).arrAt 9 cfg0.N = rMask (argW m c) := by
  refine (vdats m 0 c).arrAt_eq_of_covers 9 _ (by decide +kernel) fun t hf y => ?_
  have e0 : blkRow t (y 0) = ((win0_9.blk t).view.emb y : S12288x896.Idx) 0 := Fin.ext (emb_9 t y).1.symm
  have e1 : (y 1 : Fin 896) = ((win0_9.blk t).view.emb y : S12288x896.Idx) 1 := Fin.ext (emb_9 t y).2.symm
  blk_simp
  rw [vafter_9]
  refine (maskPt_val m c t y).trans ?_
  exact congrArg₂ (fun (n : Fin 12288) (l : Fin 896) => rMask (argW m c) (ix2 n l)) e0 e1

theorem idx_12 : ∀ t : Fin cfg0.N, win0_12.index t 0 = t.val ∧ win0_12.index t 1 = 0 := by decide +kernel

theorem emb_12 (t : Fin cfg0.N) (y : S128x7168.Idx) :
    (((win0_12.blk t).view.emb y : S12288x7168.Idx) 0).val = 128 * t.val + (y 0).val
      ∧ (((win0_12.blk t).view.emb y : S12288x7168.Idx) 1).val = (y 1).val := by
  have e0 : (((win0_12.blk t).view.emb y : S12288x7168.Idx) 0).val = win0_12.index t 0 * 128 + (y 0).val := win0_12.rect_emb_val_off t y 0
  have e1 : (((win0_12.blk t).view.emb y : S12288x7168.Idx) 1).val = win0_12.index t 1 * 7168 + (y 1).val := win0_12.rect_emb_val_off t y 1
  have h := idx_12 t
  omega

/-- The hidden rows. -/
theorem arr_12 : (vdats m 0 c).arrAt 12 cfg0.N = rHid (argX m c) (argA m c) (argB m c) (argW m c) := by
  refine (vdats m 0 c).arrAt_eq_of_covers 12 _ (by decide +kernel) fun t hf y => ?_
  have e0 : blkRow t (y 0) = ((win0_12.blk t).view.emb y : S12288x7168.Idx) 0 := Fin.ext (emb_12 t y).1.symm
  have e1 : (y 1 : Fin 7168) = ((win0_12.blk t).view.emb y : S12288x7168.Idx) 1 := Fin.ext (emb_12 t y).2.symm
  blk_simp
  rw [vafter_12]
  refine (hPt_val m c t y).trans ?_
  exact congrArg₂ (fun (n : Fin 12288) (l : Fin 7168) => rHid (argX m c) (argA m c) (argB m c) (argW m c) (ix2 n l)) e0 e1

/-- After the last point a window of one number per token holds every token's. -/
theorem tok_last (R : Fin cfg0.N → Fin 128 → EReal) (f : Fin 4 → Fin 3072 → EReal)
    (h : ∀ t r, R t r = f (rowP t r) (rowQ t r)) (z : S4x3072.Idx) :
    tokAfter R ⟨95, Nat.lt_of_lt_of_eq (by norm_num : 95 < 96) N_0.symm⟩ z = f (z 0) (z 1) := by
  have h0 : (z 0).val < 4 := (z 0).isLt
  have h1 : (z 1).val < 3072 := (z 1).isLt
  have hp : (tokPt z).val ≤ 95 := by
    show (z 0).val * 24 + (z 1).val / 128 ≤ 95
    omega
  have e0 : rowP (tokPt z) (tokRow z) = z 0 := Fin.ext (by
    show (128 * ((z 0).val * 24 + (z 1).val / 128) + (z 1).val % 128) / 3072 = (z 0).val
    omega)
  have e1 : rowQ (tokPt z) (tokRow z) = z 1 := Fin.ext (by
    show (128 * ((z 0).val * 24 + (z 1).val / 128) + (z 1).val % 128) % 3072 = (z 1).val
    omega)
  exact (if_pos hp).trans ((h (tokPt z) (tokRow z)).trans (congrArg₂ f e0 e1))

/-- The scales. -/
theorem arr_8 : (vdats m 0 c).arrAt 8 cfg0.N = rScale scaleAt (argX m c) (argA m c) (argB m c) (argW m c) (argG m c) (argT m c) := by
  refine (vdats m 0 c).arrAt_eq_of_after_last 8 ⟨95, Nat.lt_of_lt_of_eq (by norm_num : 95 < 96) N_0.symm⟩ (by decide +kernel) _ fun z => ?_
  rw [vafter_8]
  exact tok_last _ (fun p q => scaleAt (aTok (argX m c) (argA m c) (argB m c) (argW m c) (argG m c) (argT m c) p q)) (scalePt_val m c) z

/-- The means. -/
theorem arr_10 : (vdats m 0 c).arrAt 10 cfg0.N = rMean (argX m c) (argA m c) (argB m c) (argW m c) := by
  refine (vdats m 0 c).arrAt_eq_of_after_last 10 ⟨95, Nat.lt_of_lt_of_eq (by norm_num : 95 < 96) N_0.symm⟩ (by decide +kernel) _ fun z => ?_
  rw [vafter_10]
  exact tok_last _ (fun p q => mean (hTok (argX m c) (argA m c) (argB m c) (argW m c) p q)) (meanPt_val m c) z

/-- The reciprocal standard deviations. -/
theorem arr_11 : (vdats m 0 c).arrAt 11 cfg0.N = rRstd (argX m c) (argA m c) (argB m c) (argW m c) := by
  refine (vdats m 0 c).arrAt_eq_of_after_last 11 ⟨95, Nat.lt_of_lt_of_eq (by norm_num : 95 < 96) N_0.symm⟩ (by decide +kernel) _ fun z => ?_
  rw [vafter_11]
  exact tok_last _ (fun p q => rstd (hTok (argX m c) (argA m c) (argB m c) (argW m c) p q)) (rstdPt_val m c) z

/-- The run: every result, and the arguments unchanged. -/
theorem values : θ_run defs (onTc (τ := τ) (main (F := Ideal))) ⟨m, fun _ => 0, ρ⟩ (fun r => ∀ c : Dev nD,
      r.2.mem ((c.tc : Thread nD τ).loc main_v20_0) = rCode invAt (argX m c) (argA m c) (argB m c) (argW m c) (argG m c) (argT m c)
      ∧ r.2.mem ((c.tc : Thread nD τ).loc main_v20_1) = rScale scaleAt (argX m c) (argA m c) (argB m c) (argW m c) (argG m c) (argT m c)
      ∧ r.2.mem ((c.tc : Thread nD τ).loc main_v20_2) = rMask (argW m c)
      ∧ r.2.mem ((c.tc : Thread nD τ).loc main_v20_3) = rMean (argX m c) (argA m c) (argB m c) (argW m c)
      ∧ r.2.mem ((c.tc : Thread nD τ).loc main_v20_4) = rRstd (argX m c) (argA m c) (argB m c) (argW m c)
      ∧ r.2.mem ((c.tc : Thread nD τ).loc main_v20_5) = rHid (argX m c) (argA m c) (argB m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ ⟨h, _⟩ c => ⟨((h c).1 7).trans (arr_7 m c),
      ((h c).1 8).trans (arr_8 m c),
      ((h c).1 9).trans (arr_9 m c),
      ((h c).1 10).trans (arr_10 m c),
      ((h c).1 11).trans (arr_11 m c),
      ((h c).1 12).trans (arr_12 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (vrun_main m ρ)

end Cert.KernelIdeal.Hand

end
-- ==== Proof.ReferenceIdeal.Stages.lean ====
/-
  The reference's host operations cut into stages, and the buffers after each.
-/
module

public import proofs.«01_k».proof.Proof.Tokens
public import proofs.«01_k».proof.Proof.Gen.ReferenceIdeal.Frame
public import Idealize.ShloMosaic.Lib.Pipeline.ValueKit.Point
public import Idealize.ShloMosaic.Lib.KernelVsHost
public import Idealize.ShloMosaic.Lib.StableHlo.ReadAt

@[expose] public section

set_option maxRecDepth 16384

noncomputable section

namespace Cert.ReferenceIdeal.Hand

open Cert.ReferenceIdeal Cert.ReferenceIdeal.Gen Cert.Row Cert.KernelIdeal.Hand
open Idealize.ShloMosaic Idealize.ShloMosaic.TcCoe Idealize.ShloMosaic.Tactic
open Idealize.SL Idealize.SL.Sem

variable (m : (ℓ : Loc nD τ sig) → Buf (Elt Ideal) ℓ) (c : Dev nD)

/-- The argument arrays. -/
def argX : S4x3072x7168.Idx → EReal := m ((c.tc : Thread nD τ).loc main_arg0)
def argA : S4x3072x7168.Idx → EReal := m ((c.tc : Thread nD τ).loc main_arg1)
def argB : S7168.Idx → EReal := m ((c.tc : Thread nD τ).loc main_arg2)
def argW : S4x3072x7168.Idx → BitVec 32 := m ((c.tc : Thread nD τ).loc main_arg3)
def argG : S7168.Idx → EReal := m ((c.tc : Thread nD τ).loc main_arg4)
def argT : S7168.Idx → EReal := m ((c.tc : Thread nD τ).loc main_arg5)

/-! ## The stages -/

/-- The buffers after the hidden rows, -/
def V1 : Valuation τ sig (Elt Ideal) :=
  StableHlo.after (hostOps0 ++ hostOps0_1 ++ hostOps0_2.take 3 : List (HloOp τ sig (Elt Ideal))) (fun b => m (c, b))
/-- after the centred rows, -/
def V2 : Valuation τ sig (Elt Ideal) := StableHlo.after ((hostOps0_2.drop 3).take 9 : List (HloOp τ sig (Elt Ideal))) (V1 m c)
/-- after the reciprocal standard deviations, -/
def V3 : Valuation τ sig (Elt Ideal) := StableHlo.after ((hostOps0_2.drop 12).take 10 : List (HloOp τ sig (Elt Ideal))) (V2 m c)
/-- after the normalised rows, -/
def V4 : Valuation τ sig (Elt Ideal) := StableHlo.after ((hostOps0_2.drop 22).take 9 : List (HloOp τ sig (Elt Ideal))) (V3 m c)
/-- after the greatest magnitudes, -/
def V5 : Valuation τ sig (Elt Ideal) := StableHlo.after ((hostOps0_2.drop 31).take 3 : List (HloOp τ sig (Elt Ideal))) (V4 m c)
/-- after the exponents, -/
def V6 : Valuation τ sig (Elt Ideal) := StableHlo.after (hostOps0_2.drop 34 ++ hostOps0_3 : List (HloOp τ sig (Elt Ideal))) (V5 m c)
/-- after the scaled rows, -/
def V7 : Valuation τ sig (Elt Ideal) := StableHlo.after (hostOps0_4 : List (HloOp τ sig (Elt Ideal))) (V6 m c)
/-- and after the clipped ones. -/
def V8 : Valuation τ sig (Elt Ideal) := StableHlo.after (hostOps0_5 : List (HloOp τ sig (Elt Ideal))) (V7 m c)

theorem V_stages (b : Ref sig .tc) : V m c b = StableHlo.after hostOps0_6 (V8 m c) b := by
  show StableHlo.after _ _ _ = _
  unfold V8 V7 V6 V5 V4 V3 V2 V1
  simp only [← StableHlo.after_append]
  rfl

theorem zero_id : (id (constant (F := Ideal) S_ .f32 0#32) ix0 : EReal) = 0 := Ideal.ofBits_zero_f32

end Cert.ReferenceIdeal.Hand

end
-- ==== Proof.ReferenceIdeal.Value.lean ====
/-
  What each stage of the reference leaves, as plain mathematics of the arguments.
-/
module

public import proofs.«01_k».proof.Proof.ReferenceIdeal.Stages
public import Idealize.ShloMosaic.Lib.Pipeline.ValueKit.Point
public import Idealize.ShloMosaic.Lib.KernelVsHost
public import Idealize.ShloMosaic.Lib.StableHlo.ReadAt

@[expose] public section

set_option maxRecDepth 16384

noncomputable section

namespace Cert.ReferenceIdeal.Hand

open Cert.ReferenceIdeal Cert.ReferenceIdeal.Gen Cert.Row Cert.KernelIdeal.Hand
open Idealize.ShloMosaic Idealize.ShloMosaic.TcCoe Idealize.ShloMosaic.Tactic
open Idealize.SL Idealize.SL.Sem

variable (m : (ℓ : Loc nD τ sig) → Buf (Elt Ideal) ℓ) (c : Dev nD)

/-! ## The later stages, from any buffers -/

section
variable (U : Valuation τ sig (Elt Ideal)) (p : Fin 4) (q : Fin 3072) (l : Fin 7168)

/-- The exponent of a nonzero greatest magnitude. -/
def expF (a : EReal) : EReal :=
  max (Ideal.liftRound (fun r => ⌊r⌋) (Ideal.div (Ideal.log (a * Ideal.ofBits .f32 991054117#32)) (Ideal.log (Ideal.ofBits .f32 1073741824#32))) + 1)
    (Ideal.ofBits .f32 3271294976#32)

theorem sel_exp (a : EReal) : Scalar.select (BitVec.ofBool (decide (a = 0))) 0 (expF a) = expR a := by
  unfold expR expF
  rw [Ideal.ofBits_one_f32]
  by_cases h : a = 0
  · rw [if_pos h]; simp [Scalar.select, h]
  · rw [if_neg h]; simp [Scalar.select, h]

theorem exps : (StableHlo.after (hostOps0_2.drop 34 : List (HloOp τ sig (Elt Ideal))) U main_v47 : Vec Ideal S4x3072 .f32) (ix2 p q)
    = expF ((U main_v36 : Vec Ideal S4x3072 .f32) (ix2 p q)) := by
  unfold expF
  after_reads_at

theorem zeros : (StableHlo.after (hostOps0_2.drop 34 : List (HloOp τ sig (Elt Ideal))) U main_v49 : IVec S4x3072 1) (ix2 p q)
    = BitVec.ofBool (decide (@Eq EReal ((U main_v36 : Vec Ideal S4x3072 .f32) (ix2 p q)) 0)) := by
  after_reads_at

theorem csts : (StableHlo.after (hostOps0_2.drop 34 : List (HloOp τ sig (Elt Ideal))) U main_cst_12 : Vec Ideal S_ .f32) ix0
    = (0 : EReal) := by
  after_reads_at

theorem where_3 : (StableHlo.after (hostOps0_3 : List (HloOp τ sig (Elt Ideal))) U main_v50 : Vec Ideal S4x3072 .f32) (ix2 p q)
    = Scalar.select ((U main_v49 : IVec S4x3072 1) (ix2 p q)) ((U main_cst_12 : Vec Ideal S_ .f32) ix0) ((U main_v47 : Vec Ideal S4x3072 .f32) (ix2 p q)) := by
  after_reads_at
  rfl

theorem scale_4 : (StableHlo.after (hostOps0_4 : List (HloOp τ sig (Elt Ideal))) U main_v52 : Vec Ideal S4x3072 .f32) (ix2 p q)
    = Ideal.exp (@HMul.hMul EReal EReal EReal _ ((U main_v50 : Vec Ideal S4x3072 .f32) (ix2 p q)) ((U main_v38 : Vec Ideal S4x3072 .f32) (ix2 p q))) := by
  after_reads_at

theorem scaled_4 : (StableHlo.after (hostOps0_4 : List (HloOp τ sig (Elt Ideal))) U main_v58 : Vec Ideal S4x3072x7168 .f32) (ix3 p q l)
    = @HMul.hMul EReal EReal EReal _ ((U main_v34 : Vec Ideal S4x3072x7168 .f32) (ix3 p q l)) (Ideal.exp (@HMul.hMul EReal EReal EReal _
        (@Neg.neg EReal _ ((U main_v50 : Vec Ideal S4x3072 .f32) (ix2 p q))) ((U main_v38 : Vec Ideal S4x3072 .f32) (ix2 p q)))) := by
  after_reads_at

theorem lo_4 : (StableHlo.after (hostOps0_4 : List (HloOp τ sig (Elt Ideal))) U main_cst_13 : Vec Ideal S_ .f32) ix0 = Ideal.ofBits .f32 3286237184#32 := by
  after_reads_at

theorem hi_4 : (StableHlo.after (hostOps0_4 : List (HloOp τ sig (Elt Ideal))) U main_cst_14 : Vec Ideal S_ .f32) ix0 = Ideal.ofBits .f32 1138753536#32 := by
  after_reads_at

theorem where_5 : (StableHlo.after (hostOps0_5 : List (HloOp τ sig (Elt Ideal))) U main_v59 : Vec Ideal S4x3072x7168 .f32) (ix3 p q l)
    = @min EReal _ ((U main_cst_14 : Vec Ideal S_ .f32) ix0) (@max EReal _ ((U main_cst_13 : Vec Ideal S_ .f32) ix0) ((U main_v58 : Vec Ideal S4x3072x7168 .f32) (ix3 p q l))) := by
  after_reads_at
  rfl
end

section
variable (p : Fin 4) (q : Fin 3072) (l : Fin 7168)

/-- The hidden rows. -/
theorem h_1 : (V1 m c main_v11 : Vec Ideal S4x3072x7168 .bf16) (ix3 p q l) = hTok (argX m c) (argA m c) (argB m c) (argW m c) p q l := by
  unfold V1
  after_reads_at
  rw [zero_id]
  rfl

/-- The keep mask. -/
theorem keep_1 : (V1 m c main_v1 : IVec S4x3072x7168 1) (ix3 p q l) = IntOp.cmpi .uge (argW m c (ix3 p q l)) 429496730#32 := by
  unfold V1
  after_reads_at
  rfl

/-- The gain is untouched. -/
theorem gain_3 : (V3 m c main_arg4 : Vec Ideal S7168 .f32) (ix1 l) = argG m c (ix1 l) := by
  unfold V3 V2 V1
  after_reads_simp
  rfl

/-- The offset is untouched. -/
theorem offset_3 : (V3 m c main_arg5 : Vec Ideal S7168 .f32) (ix1 l) = argT m c (ix1 l) := by
  unfold V3 V2 V1
  after_reads_simp
  rfl

/-- The means. -/
theorem mean_2 : (V2 m c main_v15 : Vec Ideal S4x3072 .f32) (ix2 p q) = mean (hTok (argX m c) (argA m c) (argB m c) (argW m c) p q) := by
  unfold V2
  after_reads_at
  exact (div_len _).trans (congrArg (· * part) (Finset.sum_congr rfl fun x _ => h_1 m c p q x))

/-- The centred rows. -/
theorem cen_2 : (V2 m c main_v18 : Vec Ideal S4x3072x7168 .f32) (ix3 p q l) = cen (hTok (argX m c) (argA m c) (argB m c) (argW m c) p q) l := by
  unfold V2
  after_reads_at
  exact congrArg₂ (· - ·) (h_1 m c p q l) ((div_len _).trans (congrArg (· * part) (Finset.sum_congr rfl fun x _ => h_1 m c p q x)))

/-- The reciprocal standard deviations. -/
theorem rstd_3 : (V3 m c main_v25 : Vec Ideal S4x3072 .f32) (ix2 p q) = rstd (hTok (argX m c) (argA m c) (argB m c) (argW m c) p q) := by
  unfold V3
  after_reads_at
  exact congrArg Ideal.rsqrt (congrArg (· + eps) ((div_len _).trans (congrArg (· * part)
    (Finset.sum_congr rfl fun x _ => congrArg₂ (· * ·) (cen_2 m c p q x) (cen_2 m c p q x)))))

/-- The centred rows, kept. -/
theorem cen_3 : (V3 m c main_v18 : Vec Ideal S4x3072x7168 .f32) (ix3 p q l) = cen (hTok (argX m c) (argA m c) (argB m c) (argW m c) p q) l := by
  rw [← cen_2]
  unfold V3
  after_reads_simp

/-- The normalised rows. -/
theorem nrm_4 : (V4 m c main_v34 : Vec Ideal S4x3072x7168 .f32) (ix3 p q l) = nTok (argX m c) (argA m c) (argB m c) (argW m c) (argG m c) (argT m c) p q l := by
  unfold V4
  after_reads_at
  exact congrArg₂ (· + ·) (congrArg₂ (· * ·) (congrArg₂ (· * ·) (cen_3 m c p q l) (rstd_3 m c p q)) (gain_3 m c l)) (offset_3 m c l)

/-- The greatest magnitudes. -/
theorem max_5 : (V5 m c main_v36 : Vec Ideal S4x3072 .f32) (ix2 p q) = aTok (argX m c) (argA m c) (argB m c) (argW m c) (argG m c) (argT m c) p q := by
  unfold V5
  after_reads_at
  have e : Ideal.ofBits FTy.f32 4286578688#32 = ⊥ := by simp [Ideal.ofBits, Ideal.ieee]
  rw [e]
  exact Finset.fold_congr fun x _ => congrArg (fun y : EReal => max y (-y)) (nrm_4 m c p q x)

/-- The exponents. -/
theorem exp_6 : (V6 m c main_v50 : Vec Ideal S4x3072 .f32) (ix2 p q) = expR (aTok (argX m c) (argA m c) (argB m c) (argW m c) (argG m c) (argT m c) p q) := by
  unfold V6
  rw [StableHlo.after_append]
  refine (where_3 _ p q).trans ?_
  refine (congr (congrArg₂ Scalar.select (zeros (V5 m c) p q) (csts (V5 m c))) (exps (V5 m c) p q)).trans ?_
  exact (congrArg (fun a : EReal => Scalar.select (BitVec.ofBool (decide (a = 0))) 0 (expF a)) (max_5 m c p q)).trans (sel_exp _)

/-- The logarithm of two. -/
theorem log_6 : (V6 m c main_v38 : Vec Ideal S4x3072 .f32) (ix2 p q) = Ideal.log (Ideal.ofBits .f32 0x40000000#32) := by
  unfold V6
  after_reads_at

/-- The normalised rows, kept. -/
theorem nrm_6 : (V6 m c main_v34 : Vec Ideal S4x3072x7168 .f32) (ix3 p q l) = nTok (argX m c) (argA m c) (argB m c) (argW m c) (argG m c) (argT m c) p q l := by
  rw [← nrm_4]
  unfold V6 V5
  after_reads_simp

/-- The scales. -/
theorem scale_7 : (V7 m c main_v52 : Vec Ideal S4x3072 .f32) (ix2 p q) = scaleR (aTok (argX m c) (argA m c) (argB m c) (argW m c) (argG m c) (argT m c) p q) := by
  exact (scale_4 (V6 m c) p q).trans (congrArg Ideal.exp (congrArg₂ (@HMul.hMul EReal EReal EReal _) (exp_6 m c p q) (log_6 m c p q)))

/-- The scaled rows. -/
theorem scaled_7 : (V7 m c main_v58 : Vec Ideal S4x3072x7168 .f32) (ix3 p q l) = nTok (argX m c) (argA m c) (argB m c) (argW m c) (argG m c) (argT m c) p q l * invR (aTok (argX m c) (argA m c) (argB m c) (argW m c) (argG m c) (argT m c) p q) := by
  exact (scaled_4 (V6 m c) p q l).trans (congrArg₂ (@HMul.hMul EReal EReal EReal _) (nrm_6 m c p q l)
    (congrArg Ideal.exp (congrArg₂ (@HMul.hMul EReal EReal EReal _) (congrArg (@Neg.neg EReal _) (exp_6 m c p q)) (log_6 m c p q))))

/-- The clipped rows. -/
theorem clip_8 : (V8 m c main_v59 : Vec Ideal S4x3072x7168 .f32) (ix3 p q l) = clip (nTok (argX m c) (argA m c) (argB m c) (argW m c) (argG m c) (argT m c) p q l) (invR (aTok (argX m c) (argA m c) (argB m c) (argW m c) (argG m c) (argT m c) p q)) := by
  exact (where_5 (V7 m c) p q l).trans (congrArg₂ (@min EReal _) (hi_4 (V6 m c))
    (congrArg₂ (@max EReal _) (lo_4 (V6 m c)) (scaled_7 m c p q l)))

/-- The keep mask, kept. -/
theorem keep_8 : (V8 m c main_v1 : IVec S4x3072x7168 1) (ix3 p q l) = IntOp.cmpi .uge (argW m c (ix3 p q l)) 429496730#32 := by
  rw [← keep_1]
  unfold V8 V7 V6 V5 V4 V3 V2
  after_reads_simp

/-- The hidden rows, kept. -/
theorem h_8 : (V8 m c main_v11 : Vec Ideal S4x3072x7168 .bf16) (ix3 p q l) = hTok (argX m c) (argA m c) (argB m c) (argW m c) p q l := by
  rw [← h_1]
  unfold V8 V7 V6 V5 V4 V3 V2
  after_reads_simp

/-- The means as the last operation leaves them, -/
theorem mean_8 : (V m c main_v15 : Vec Ideal S4x3072 .f32) (ix2 p q) = mean (hTok (argX m c) (argA m c) (argB m c) (argW m c) p q) := by
  rw [← mean_2, V_stages]
  unfold V8 V7 V6 V5 V4 V3
  after_reads_simp

/-- the reciprocal standard deviations, -/
theorem rstd_8 : (V m c main_v25 : Vec Ideal S4x3072 .f32) (ix2 p q) = rstd (hTok (argX m c) (argA m c) (argB m c) (argW m c) p q) := by
  rw [← rstd_3, V_stages]
  unfold V8 V7 V6 V5 V4
  after_reads_simp

/-- the scales, -/
theorem scale_8 : (V m c main_v52 : Vec Ideal S4x3072 .f32) (ix2 p q) = scaleR (aTok (argX m c) (argA m c) (argB m c) (argW m c) (argG m c) (argT m c) p q) := by
  rw [← scale_7, V_stages]
  unfold V8
  after_reads_simp

end

/-- the codes before their format, -/
theorem codes_9 (y : S12288x7168.Idx) : (V m c main_v68 : Vec Ideal S12288x7168 .f32) y = clip (nTok (argX m c) (argA m c) (argB m c) (argW m c) (argG m c) (argT m c) (tokP (y 0)) (tokQ (y 0)) (y 1)) (invR (aTok (argX m c) (argA m c) (argB m c) (argW m c) (argG m c) (argT m c) (tokP (y 0)) (tokQ (y 0)))) := by
  rw [V_stages]
  after_reads_at
  exact clip_8 m c (tokP (y 0)) (tokQ (y 0)) (y 1)

/-- the hidden rows -/
theorem h_9 (y : S12288x7168.Idx) : (V m c main_v70 : Vec Ideal S12288x7168 .bf16) y = hTok (argX m c) (argA m c) (argB m c) (argW m c) (tokP (y 0)) (tokQ (y 0)) (y 1) := by
  rw [V_stages]
  after_reads_at
  exact h_8 m c (tokP (y 0)) (tokQ (y 0)) (y 1)

/-- and the mask. -/
theorem mask_9 (y : S12288x896.Idx) : (V m c main_v69 : IVec S12288x896 8) y = mTok (argW m c) (tokP (y 0)) (tokQ (y 0)) (y 1) := by
  rw [V_stages]
  after_reads_at
  refine (congrArg (BitVec.setWidth 8) (Finset.fold_congr fun x _ => ?_)).trans (byte_fold fun j =>
    IntOp.cmpi .uge (argW m c (ix3 (tokP (y 0)) (tokQ (y 0)) ⟨8 * (y 1).val + j.val, by

      have h : (y 1).val < 896 := (y 1).isLt
      omega⟩)) 429496730#32)
  exact congrArg (fun b => IntOp.shli ArithUnit.host (BitVec.setWidth 32 b) (BitVec.ofNat 32 x.val))
    ((keep_8 m c _ _ _).trans (by simp only [mul_comm]))

end Cert.ReferenceIdeal.Hand

end
-- ==== Proof.ReferenceIdeal.Final.lean ====
/-
  The reference's six results after its run, as plain mathematics of the arguments.
-/
module

public import proofs.«01_k».proof.Proof.ReferenceIdeal.Value
public import Idealize.ShloMosaic.Lib.Pipeline.ValueKit

@[expose] public section

set_option maxRecDepth 16384

noncomputable section

namespace Cert.ReferenceIdeal.Hand

open Cert.ReferenceIdeal Cert.ReferenceIdeal.Gen Cert.Row Cert.KernelIdeal.Hand
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

theorem idx_0 : ∀ t : Fin cfg0.N, win0_0.index t 0 = 0 ∧ win0_0.index t 1 = 0 := by decide +kernel
theorem idx_1 : ∀ t : Fin cfg0.N, win0_1.index t 0 = 0 ∧ win0_1.index t 1 = 0 := by decide +kernel

/-- The one block of each window is its array. -/
theorem emb_0 (t : Fin cfg0.N) (y : S12288x7168.Idx) : ((win0_0.blk t).view.emb y : S12288x7168.Idx) = y := by
  have e0 : (((win0_0.blk t).view.emb y : S12288x7168.Idx) 0).val = win0_0.index t 0 * 12288 + (y 0).val := win0_0.rect_emb_val_off t y 0
  have e1 : (((win0_0.blk t).view.emb y : S12288x7168.Idx) 1).val = win0_0.index t 1 * 7168 + (y 1).val := win0_0.rect_emb_val_off t y 1
  have h := idx_0 t
  exact Shape.idx_ext₂ (by omega) (by omega)
theorem emb_1 (t : Fin cfg0.N) (y : S12288x7168.Idx) : ((win0_1.blk t).view.emb y : S12288x7168.Idx) = y := by
  have e0 : (((win0_1.blk t).view.emb y : S12288x7168.Idx) 0).val = win0_1.index t 0 * 12288 + (y 0).val := win0_1.rect_emb_val_off t y 0
  have e1 : (((win0_1.blk t).view.emb y : S12288x7168.Idx) 1).val = win0_1.index t 1 * 7168 + (y 1).val := win0_1.rect_emb_val_off t y 1
  have h := idx_1 t
  exact Shape.idx_ext₂ (by omega) (by omega)

/-- The codes. -/
theorem arr_1 : (dats (F := Ideal) m 0 c).arrAt 1 cfg0.N = rCode invR (argX m c) (argA m c) (argB m c) (argW m c) (argG m c) (argT m c) := by
  refine (dats (F := Ideal) m 0 c).arrAt_eq_of_covers 1 _ (by decide +kernel) fun t hf y => ?_
  blk_simp
  rw [after0_1]
  frame_out
  have e0 : (iblk m c 0 t : Vec Ideal S12288x7168 .f32) y = rCode invR (argX m c) (argA m c) (argB m c) (argW m c) (argG m c) (argT m c) y := by
    blk_simp [iblk]
    exact (congrArg (V m c main_v68 : Vec Ideal S12288x7168 .f32) (emb_0 t y)).trans (codes_9 m c y)
  refine Eq.trans ?_ (congrArg (rCode invR (argX m c) (argA m c) (argB m c) (argW m c) (argG m c) (argT m c)) (emb_1 t y)).symm
  refine Eq.trans ?_ e0
  pointwise [k0_pay1]

theorem val_52 : (V m c main_v52 : Vec Ideal S4x3072 .f32) = rScale scaleR (argX m c) (argA m c) (argB m c) (argW m c) (argG m c) (argT m c) := by
  funext z
  exact (congrArg (V m c main_v52 : Vec Ideal S4x3072 .f32) (Shape.idx_ext₂ rfl rfl : z = ix2 (z 0) (z 1))).trans (scale_8 m c (z 0) (z 1))

theorem val_15 : (V m c main_v15 : Vec Ideal S4x3072 .f32) = rMean (argX m c) (argA m c) (argB m c) (argW m c) := by
  funext z
  exact (congrArg (V m c main_v15 : Vec Ideal S4x3072 .f32) (Shape.idx_ext₂ rfl rfl : z = ix2 (z 0) (z 1))).trans (mean_8 m c (z 0) (z 1))

theorem val_25 : (V m c main_v25 : Vec Ideal S4x3072 .f32) = rRstd (argX m c) (argA m c) (argB m c) (argW m c) := by
  funext z
  exact (congrArg (V m c main_v25 : Vec Ideal S4x3072 .f32) (Shape.idx_ext₂ rfl rfl : z = ix2 (z 0) (z 1))).trans (rstd_8 m c (z 0) (z 1))

/-- The run: every result, and the arguments unchanged. -/
theorem values : θ_run defs (onTc (τ := τ) (main (F := Ideal))) ⟨m, fun _ => 0, ρ⟩ (fun r => ∀ c : Dev nD,
      r.2.mem ((c.tc : Thread nD τ).loc main_v71) = rCode invR (argX m c) (argA m c) (argB m c) (argW m c) (argG m c) (argT m c)
      ∧ r.2.mem ((c.tc : Thread nD τ).loc main_v52) = rScale scaleR (argX m c) (argA m c) (argB m c) (argW m c) (argG m c) (argT m c)
      ∧ r.2.mem ((c.tc : Thread nD τ).loc main_v69) = rMask (argW m c)
      ∧ r.2.mem ((c.tc : Thread nD τ).loc main_v15) = rMean (argX m c) (argA m c) (argB m c) (argW m c)
      ∧ r.2.mem ((c.tc : Thread nD τ).loc main_v25) = rRstd (argX m c) (argA m c) (argB m c) (argW m c)
      ∧ r.2.mem ((c.tc : Thread nD τ).loc main_v70) = rHid (argX m c) (argA m c) (argB m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 1).trans (arr_1 m c),
      ((h c).2 main_v52 (Pipeline.mem_restRefs_of main_v52 (by decide) (by decide))).trans (val_52 m c),
      ((h c).2 main_v69 (Pipeline.mem_restRefs_of main_v69 (by decide) (by decide))).trans (funext (mask_9 m c)),
      ((h c).2 main_v15 (Pipeline.mem_restRefs_of main_v15 (by decide) (by decide))).trans (val_15 m c),
      ((h c).2 main_v25 (Pipeline.mem_restRefs_of main_v25 (by decide) (by decide))).trans (val_25 m c),
      ((h c).2 main_v70 (Pipeline.mem_restRefs_of main_v70 (by decide) (by decide))).trans (funext (h_9 m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.ReferenceIdeal.Hand

end
-- ==== Proof.Finite.lean ====
/-
  What the condition on gain and offset gives: every entry is a real number of magnitude below 2^128.
-/
module

public import proofs.«01_k».proof.On_finite_affine
public import proofs.«01_k».proof.Proof.Tokens
public import Idealize.ShloMosaic.Lib.ReduceAll

@[expose] public section

noncomputable section

namespace Cert.On_finite_affine

open Idealize.ShloMosaic Cert.Row

theorem bcast_7168 : S_.BroadcastsInDim S7168 (![] : Fin 0 → Fin S7168.rank) := by decide
theorem reduces_7168 : S7168.ReducesTo [0] S_ := by decide
theorem pos_S_ : 0 < S_.numel := by decide
theorem bcast_codes : S_.BroadcastsInDim S12288x7168 (![] : Fin 0 → Fin S12288x7168.rank) := by decide
theorem bcast_token : S_.BroadcastsInDim S4x3072 (![] : Fin 0 → Fin S4x3072.rank) := by decide
theorem bcast_mask : S_.BroadcastsInDim S12288x896 (![] : Fin 0 → Fin S12288x896.rank) := by decide

/-- The shape relations of the condition. -/
instance facts : Facts where
  bcast_S_S7168 := bcast_7168
  reducesTo_S7168_S_d0 := reduces_7168
  h_S_ := pos_S_
  bcast_S_S12288x7168 := bcast_codes
  bcast_S_S4x3072 := bcast_token
  bcast_S_S12288x896 := bcast_mask

/-- The greatest finite f32 is a real number of at most 2^128. -/
theorem top_real : ∃ t : ℝ, Ideal.ofBits .f32 0x7F7FFFFF#32 = (t : EReal) ∧ t ≤ (2 : ℝ) ^ (128 : ℤ) := by
  refine ⟨_, by simp [Ideal.ofBits, Ideal.ieee, -EReal.coe_mul]; rfl, by norm_num⟩

/-- A magnitude of at most the greatest finite f32. -/
theorem within_of_le (x : EReal) (h : Ideal.cmp .ole (max x (-x)) (Ideal.ofBits .f32 0x7F7FFFFF#32) = 1#1) :
    Within ((2 : ℝ) ^ (128 : ℤ)) x := by
  obtain ⟨t, ht, hle⟩ := top_real
  have h1 : max x (-x) ≤ (t : EReal) := by
    rw [← ht]
    by_contra hn
    have : Ideal.cmp .ole (max x (-x)) (Ideal.ofBits .f32 0x7F7FFFFF#32) = 0#1 := by
      show BitVec.ofBool (decide _) = 0#1
      rw [decide_eq_false hn]; rfl
    rw [this] at h
    exact absurd h (by decide)
  induction x using EReal.rec with
  | bot => exact absurd (le_trans (le_max_right _ _) h1) (by simp)
  | top => exact absurd (le_trans (le_max_left _ _) h1) (by simp)
  | coe r =>
    refine ⟨r, rfl, le_trans (abs_le.2 ⟨?_, ?_⟩) hle⟩
    · have := le_trans (le_max_right _ _) h1
      rw [← EReal.coe_neg, EReal.coe_le_coe_iff] at this
      linarith
    · exact EReal.coe_le_coe_iff.1 (le_trans (le_max_left _ _) h1)

theorem and_one : ∀ a b : BitVec 1, IntOp.andi a b = 1#1 → a = 1#1 ∧ b = 1#1 := by decide

/-- All entries of a vector have a finite magnitude. -/
abbrev allFinite (x : FVec Ideal S7168 .f32) : IVec S_ 1 :=
  Host.reduce IntOp.andi (cmpf .ole (Host.absf x) (broadcastInDim S7168 ![] bcast_7168 (constant (F := Ideal) S_ .f32 0x7F7FFFFF#32)))
    (constantI S_ 1 1#1) reduces_7168 pos_S_

theorem within_all (x : FVec Ideal S7168 .f32) (j : S_.Idx) (h : allFinite x j = 1#1) (l : Fin 7168) :
    Within ((2 : ℝ) ^ (128 : ℤ)) (x (ix1 l)) :=
  within_of_le _ (Host.reduce_andi_all _ _ _ _ j h (ix1 l))

section
variable (X A : FVec Ideal S4x3072x7168 .bf16) (B : FVec Ideal S7168 .f32) (W : IVec S4x3072x7168 32) (G T : FVec Ideal S7168 .f32)

theorem both (j : S_.Idx) (h : andi (allFinite G) (allFinite T) j = 1#1) (p : Fin 4) (q : Fin 3072) :
    KernelIdeal.Hand.scaleAt (aTok X A B W G T p q) = KernelIdeal.Hand.scaleR (aTok X A B W G T p q)
      ∧ KernelIdeal.Hand.invAt (aTok X A B W G T p q) = KernelIdeal.Hand.invR (aTok X A B W G T p q) :=
  scale_tok X A B W G T p q (within_all G j (and_one _ _ h).1) (within_all T j (and_one _ _ h).2)

/-- Where the condition holds the two inverse scales give one code, -/
theorem code_eq (i : S12288x7168.Idx) (h : (fn (F := Ideal) X A B W G T).1 i = 1#1) :
    rCode KernelIdeal.Hand.invAt X A B W G T i = rCode KernelIdeal.Hand.invR X A B W G T i :=
  congrArg (clip _) (both X A B W G T _ h _ _).2

/-- and the two scales are one. -/
theorem scale_eq (z : S4x3072.Idx) (h : (fn (F := Ideal) X A B W G T).2.1 z = 1#1) :
    rScale KernelIdeal.Hand.scaleAt X A B W G T z = rScale KernelIdeal.Hand.scaleR X A B W G T z :=
  (both X A B W G T _ h _ _).1
end

end Cert.On_finite_affine

end
-- ==== Proof.lean ====
/-
  The proof of `Cert.Claim` (proofs.«01_k».proof.Defs): the frames of the three programs, the named constant and
  the equality of the results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Body
public import proofs.«01_k».proof.Proof.KernelIdeal.Body
public import proofs.«01_k».proof.Proof.KernelIdeal.Final
public import proofs.«01_k».proof.Proof.ReferenceIdeal.Final
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The results of the idealized kernel and the idealized reference are equal: the codes and the scales where gain and
offset are finite, the other four everywhere. -/
theorem algebraic : Cert.algebraic_KernelIdeal_ReferenceIdeal_on_finite_affine := by
  intro m g m' g' _ hm
  refine ⟨fun c => Cert.Row.rCode Cert.KernelIdeal.Hand.invR (Cert.KernelIdeal.Hand.argX m c) (Cert.KernelIdeal.Hand.argA m c) (Cert.KernelIdeal.Hand.argB m c) (Cert.KernelIdeal.Hand.argW m c) (Cert.KernelIdeal.Hand.argG m c) (Cert.KernelIdeal.Hand.argT m c),
    fun c => Cert.Row.rScale Cert.KernelIdeal.Hand.scaleR (Cert.KernelIdeal.Hand.argX m c) (Cert.KernelIdeal.Hand.argA m c) (Cert.KernelIdeal.Hand.argB m c) (Cert.KernelIdeal.Hand.argW m c) (Cert.KernelIdeal.Hand.argG m c) (Cert.KernelIdeal.Hand.argT m c),
    fun c => Cert.Row.rMask (Cert.KernelIdeal.Hand.argW m c),
    fun c => Cert.Row.rMean (Cert.KernelIdeal.Hand.argX m c) (Cert.KernelIdeal.Hand.argA m c) (Cert.KernelIdeal.Hand.argB m c) (Cert.KernelIdeal.Hand.argW m c),
    fun c => Cert.Row.rRstd (Cert.KernelIdeal.Hand.argX m c) (Cert.KernelIdeal.Hand.argA m c) (Cert.KernelIdeal.Hand.argB m c) (Cert.KernelIdeal.Hand.argW m c),
    fun c => Cert.Row.rHid (Cert.KernelIdeal.Hand.argX m c) (Cert.KernelIdeal.Hand.argA m c) (Cert.KernelIdeal.Hand.argB m c) (Cert.KernelIdeal.Hand.argW m c),
    (θ_run Cert.KernelIdeal.defs _ _).mono (fun r h c => ?_) (Cert.KernelIdeal.Hand.values m g),
    (θ_run Cert.ReferenceIdeal.defs _ _).mono (fun r h c => ?_) (Cert.ReferenceIdeal.Hand.values m' g')⟩
  · obtain ⟨h0, h1, h2, h3, h4, h5, ha⟩ := h c
    exact ⟨fun i hi => (congrFun h0 i).trans (Cert.On_finite_affine.code_eq _ _ _ _ _ _ i hi),
      fun i hi => (congrFun h1 i).trans (Cert.On_finite_affine.scale_eq _ _ _ _ _ _ i hi),
      fun i _ => congrFun h2 i, fun i _ => congrFun h3 i, fun i _ => congrFun h4 i, fun i _ => congrFun h5 i, ha⟩
  · obtain ⟨h0, h1, h2, h3, h4, h5, ha⟩ := h c
    obtain ⟨e0, e1, e2, e3, e4, e5⟩ := hm c
    have x0 : Cert.ReferenceIdeal.Hand.argX m' c = Cert.KernelIdeal.Hand.argX m c := e0
    have x1 : Cert.ReferenceIdeal.Hand.argA m' c = Cert.KernelIdeal.Hand.argA m c := e1
    have x2 : Cert.ReferenceIdeal.Hand.argB m' c = Cert.KernelIdeal.Hand.argB m c := e2
    have x3 : Cert.ReferenceIdeal.Hand.argW m' c = Cert.KernelIdeal.Hand.argW m c := e3
    have x4 : Cert.ReferenceIdeal.Hand.argG m' c = Cert.KernelIdeal.Hand.argG m c := e4
    have x5 : Cert.ReferenceIdeal.Hand.argT m' c = Cert.KernelIdeal.Hand.argT m c := e5
    rw [x0, x1, x2, x3, x4, x5] at h0 h1
    rw [x3] at h2
    rw [x0, x1, x2, x3] at h3 h4 h5
    exact ⟨fun i _ => congrFun h0 i, fun i _ => congrFun h1 i, fun i _ => congrFun h2 i, fun i _ => congrFun h3 i,
      fun i _ => congrFun h4 i, fun i _ => congrFun h5 i, ha⟩

theorem claim : Cert.Claim :=
  ⟨Cert.Kernel.Gen.facts, Cert.KernelIdeal.Gen.facts, Cert.ReferenceIdeal.Gen.facts, Cert.On_finite_affine.facts,
    fun m ρ _ => Cert.Kernel.Hand.frame m ρ,
    fun m ρ _ => Cert.KernelIdeal.Hand.frame m ρ,
    fun m ρ _ => Cert.ReferenceIdeal.Gen.frame m ρ,
    IdealRules.named_const.statement _ _ _ _ _ (by simp [Cert.KernelIdeal.κ]),
    algebraic⟩

end Cert.Proof

end
